-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v395)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v395) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v916) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x256 : Shape := ⟨2, ![128, 256]⟩
abbrev S256x2048 : Shape := ⟨2, ![256, 2048]⟩
abbrev S2048 : Shape := ⟨1, ![2048]⟩
abbrev S3x3x3x256x256 : Shape := ⟨5, ![3, 3, 3, 256, 256]⟩
abbrev S2x2x2x256x128 : Shape := ⟨5, ![2, 2, 2, 256, 128]⟩
abbrev S3x3x3x128x128 : Shape := ⟨5, ![3, 3, 3, 128, 128]⟩
abbrev S2x2x2x128x64 : Shape := ⟨5, ![2, 2, 2, 128, 64]⟩
abbrev S3x3x3x64x64 : Shape := ⟨5, ![3, 3, 3, 64, 64]⟩
abbrev S2x2x2x64x32 : Shape := ⟨5, ![2, 2, 2, 64, 32]⟩
abbrev S3x3x3x32x32 : Shape := ⟨5, ![3, 3, 3, 32, 32]⟩
abbrev S2x2x2x32x16 : Shape := ⟨5, ![2, 2, 2, 32, 16]⟩
abbrev S3x3x3x16x16 : Shape := ⟨5, ![3, 3, 3, 16, 16]⟩
abbrev S16x1 : Shape := ⟨2, ![16, 1]⟩
abbrev S1 : Shape := ⟨1, ![1]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S2048 : S_.BroadcastsInDim S2048 (![] : Fin 0 → Fin S2048.rank)
  reducesTo_S2048_S_d0 : S2048.ReducesTo [0] S_
  bcast_S_S3x3x3x256x256 : S_.BroadcastsInDim S3x3x3x256x256 (![] : Fin 0 → Fin S3x3x3x256x256.rank)
  reducesTo_S3x3x3x256x256_S_d0_1_2_3_4 : S3x3x3x256x256.ReducesTo [0, 1, 2, 3, 4] S_
  bcast_S_S2x2x2x256x128 : S_.BroadcastsInDim S2x2x2x256x128 (![] : Fin 0 → Fin S2x2x2x256x128.rank)
  reducesTo_S2x2x2x256x128_S_d0_1_2_3_4 : S2x2x2x256x128.ReducesTo [0, 1, 2, 3, 4] S_
  bcast_S_S3x3x3x128x128 : S_.BroadcastsInDim S3x3x3x128x128 (![] : Fin 0 → Fin S3x3x3x128x128.rank)
  reducesTo_S3x3x3x128x128_S_d0_1_2_3_4 : S3x3x3x128x128.ReducesTo [0, 1, 2, 3, 4] S_
  bcast_S_S2x2x2x128x64 : S_.BroadcastsInDim S2x2x2x128x64 (![] : Fin 0 → Fin S2x2x2x128x64.rank)
  reducesTo_S2x2x2x128x64_S_d0_1_2_3_4 : S2x2x2x128x64.ReducesTo [0, 1, 2, 3, 4] S_
  bcast_S_S3x3x3x64x64 : S_.BroadcastsInDim S3x3x3x64x64 (![] : Fin 0 → Fin S3x3x3x64x64.rank)
  reducesTo_S3x3x3x64x64_S_d0_1_2_3_4 : S3x3x3x64x64.ReducesTo [0, 1, 2, 3, 4] S_
  bcast_S_S2x2x2x64x32 : S_.BroadcastsInDim S2x2x2x64x32 (![] : Fin 0 → Fin S2x2x2x64x32.rank)
  reducesTo_S2x2x2x64x32_S_d0_1_2_3_4 : S2x2x2x64x32.ReducesTo [0, 1, 2, 3, 4] S_
  bcast_S_S3x3x3x32x32 : S_.BroadcastsInDim S3x3x3x32x32 (![] : Fin 0 → Fin S3x3x3x32x32.rank)
  reducesTo_S3x3x3x32x32_S_d0_1_2_3_4 : S3x3x3x32x32.ReducesTo [0, 1, 2, 3, 4] S_
  bcast_S_S2x2x2x32x16 : S_.BroadcastsInDim S2x2x2x32x16 (![] : Fin 0 → Fin S2x2x2x32x16.rank)
  reducesTo_S2x2x2x32x16_S_d0_1_2_3_4 : S2x2x2x32x16.ReducesTo [0, 1, 2, 3, 4] S_
  bcast_S_S3x3x3x16x16 : S_.BroadcastsInDim S3x3x3x16x16 (![] : Fin 0 → Fin S3x3x3x16x16.rank)
  reducesTo_S3x3x3x16x16_S_d0_1_2_3_4 : S3x3x3x16x16.ReducesTo [0, 1, 2, 3, 4] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S3x3x3x16x16 .f32) (main_arg12 : FVec F S16x1 .f32) (main_arg13 : FVec F S1 .f32) (main_v48 : IVec S_ 1) (main_v49 : FVec F S2x2x2x32x16 .f32) (main_v50 : FVec F S2x2x2x32x16 .f32) : IVec S_ 1 :=
  let main_v51 : IVec S2x2x2x32x16 1 := cmpf .olt main_v49 main_v50
  let main_c_19 : IVec S_ 1 := constantI S_ 1 1#1
  let main_v52 : IVec S_ 1 := (fun x v => Host.reduce IntOp.andi x v reducesTo_S2x2x2x32x16_S_d0_1_2_3_4 h_S_) main_v51 main_c_19
  let main_v53 : IVec S_ 1 := andi main_v48 main_v52
  let main_v54 : FVec F S3x3x3x16x16 .f32 := Host.absf main_arg11
  let main_cst_20 : FVec F S_ .f32 := constant S_ .f32 0x7F800000#32
  let main_v55 : FVec F S3x3x3x16x16 .f32 := broadcastInDim S3x3x3x16x16 ![] bcast_S_S3x3x3x16x16 main_cst_20
  let main_v56 : IVec S3x3x3x16x16 1 := cmpf .olt main_v54 main_v55
  let main_c_21 : IVec S_ 1 := constantI S_ 1 1#1
  let main_v57 : IVec S_ 1 := (fun x v => Host.reduce IntOp.andi x v reducesTo_S3x3x3x16x16_S_d0_1_2_3_4 h_S_) main_v56 main_c_21
  let main_v58 : IVec S_ 1 := andi main_v53 main_v57
  let main_v59 : FVec F S16x1 .f32 := Host.absf main_arg12
  let main_cst_22 : FVec F S_ .f32 := constant S_ .f32 0x7F800000#32
  let main_v60 : FVec F S16x1 .f32 := broadcastInDim S16x1 ![] bcast_S_S16x1 main_cst_22
  let main_v61 : IVec S16x1 1 := cmpf .olt main_v59 main_v60
  let main_c_23 : IVec S_ 1 := constantI S_ 1 1#1
  let main_v62 : IVec S_ 1 := (fun x v => Host.reduce IntOp.andi x v reducesTo_S16x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S3x3x3x64x64 .f32) (main_arg8 : FVec F S2x2x2x64x32 .f32) (main_arg9 : FVec F S3x3x3x32x32 .f32) (main_arg10 : FVec F S2x2x2x32x16 .f32) (main_arg11 : FVec F S3x3x3x16x16 .f32) (main_arg12 : FVec F S16x1 .f32) (main_arg13 : FVec F S1 .f32) (main_v33 : IVec S_ 1) : IVec S_ 1 :=
  let main_v34 : FVec F S3x3x3x64x64 .f32 := Host.absf main_arg7
  let main_cst_12 : FVec F S_ .f32 := constant S_ .f32 0x7F800000#32
  let main_v35 : FVec F S3x3x3x64x64 .f32 := broadcastInDim S3x3x3x64x64 ![] bcast_S_S3x3x3x64x64 main_cst_12
  let main_v36 : IVec S3x3x3x64x64 1 := cmpf .olt main_v34 main_v35
  let main_c_13 : IVec S_ 1 := constantI S_ 1 1#1
  let main_v37 : IVec S_ 1 := (fun x v => Host.reduce IntOp.andi x v reducesTo_S3x3x3x64x64_S_d0_1_2_3_4 h_S_) main_v36 main_c_13
  let main_v38 : IVec S_ 1 := andi main_v33 main_v37
  let main_v39 : FVec F S2x2x2x64x32 .f32 := Host.absf main_arg8
  let main_cst_14 : FVec F S_ .f32 := constant S_ .f32 0x7F800000#32
  let main_v40 : FVec F S2x2x2x64x32 .f32 := broadcastInDim S2x2x2x64x32 ![] bcast_S_S2x2x2x64x32 main_cst_14
  let main_v41 : IVec S2x2x2x64x32 1 := cmpf .olt main_v39 main_v40
  let main_c_15 : IVec S_ 1 := constantI S_ 1 1#1
  let main_v42 : IVec S_ 1 := (fun x v => Host.reduce IntOp.andi x v reducesTo_S2x2x2x64x32_S_d0_1_2_3_4 h_S_) main_v41 main_c_15
  let main_v43 : IVec S_ 1 := andi main_v38 main_v42
  let main_v44 : FVec F S3x3x3x32x32 .f32 := Host.absf main_arg9
  let main_cst_16 : FVec F S_ .f32 := constant S_ .f32 0x7F800000#32
  let main_v45 : FVec F S3x3x3x32x32 .f32 := broadcastInDim S3x3x3x32x32 ![] bcast_S_S3x3x3x32x32 main_cst_16
  let main_v46 : IVec S3x3x3x32x32 1 := cmpf .olt main_v44 main_v45
  let main_c_17 : IVec S_ 1 := constantI S_ 1 1#1
  let main_v47 : IVec S_ 1 := (fun x v => Host.reduce IntOp.andi x v reducesTo_S3x3x3x32x32_S_d0_1_2_3_4 h_S_) main_v46 main_c_17
  let main_v48 : IVec S_ 1 := andi main_v43 main_v47
  let main_v49 : FVec F S2x2x2x32x16 .f32 := Host.absf main_arg10
  let main_cst_18 : FVec F S_ .f32 := constant S_ .f32 0x7F800000#32
  let main_v50 : FVec F S2x2x2x32x16 .f32 := broadcastInDim S2x2x2x32x16 ![] bcast_S_S2x2x2x32x16 main_cst_18
  fn_part3 (F := F) main_arg11 main_arg12 main_arg13 main_v48 main_v49 main_v50

def fn_part1 {F : FTy → Type} [FloatOps F] (main_arg4 : FVec F S2x2x2x256x128 .f32) (main_arg5 : FVec F S3x3x3x128x128 .f32) (main_arg6 : FVec F S2x2x2x128x64 .f32) (main_arg7 : FVec F S3x3x3x64x64 .f32) (main_arg8 : FVec F S2x2x2x64x32 .f32) (main_arg9 : FVec F S3x3x3x32x32 .f32) (main_arg10 : FVec F S2x2x2x32x16 .f32) (main_arg11 : FVec F S3x3x3x16x16 .f32) (main_arg12 : FVec F S16x1 .f32) (main_arg13 : FVec F S1 .f32) (main_v13 : IVec S_ 1) (main_v16 : IVec S3x3x3x256x256 1) : IVec S_ 1 :=
  let main_c_5 : IVec S_ 1 := constantI S_ 1 1#1
  let main_v17 : IVec S_ 1 := (fun x v => Host.reduce IntOp.andi x v reducesTo_S3x3x3x256x256_S_d0_1_2_3_4 h_S_) main_v16 main_c_5
  let main_v18 : IVec S_ 1 := andi main_v13 main_v17
  let main_v19 : FVec F S2x2x2x256x128 .f32 := Host.absf main_arg4
  let main_cst_6 : FVec F S_ .f32 := constant S_ .f32 0x7F800000#32
  let main_v20 : FVec F S2x2x2x256x128 .f32 := broadcastInDim S2x2x2x256x128 ![] bcast_S_S2x2x2x256x128 main_cst_6
  let main_v21 : IVec S2x2x2x256x128 1 := cmpf .olt main_v19 main_v20
  let main_c_7 : IVec S_ 1 := constantI S_ 1 1#1
  let main_v22 : IVec S_ 1 := (fun x v => Host.reduce IntOp.andi x v reducesTo_S2x2x2x256x128_S_d0_1_2_3_4 h_S_) main_v21 main_c_7
  let main_v23 : IVec S_ 1 := andi main_v18 main_v22
  let main_v24 : FVec F S3x3x3x128x128 .f32 := Host.absf main_arg5
  let main_cst_8 : FVec F S_ .f32 := constant S_ .f32 0x7F800000#32
  let main_v25 : FVec F S3x3x3x128x128 .f32 := broadcastInDim S3x3x3x128x128 ![] bcast_S_S3x3x3x128x128 main_cst_8
  let main_v26 : IVec S3x3x3x128x128 1 := cmpf .olt main_v24 main_v25
  let main_c_9 : IVec S_ 1 := constantI S_ 1 1#1
  let main_v27 : IVec S_ 1 := (fun x v => Host.reduce IntOp.andi x v reducesTo_S3x3x3x128x128_S_d0_1_2_3_4 h_S_) main_v26 main_c_9
  let main_v28 : IVec S_ 1 := andi main_v23 main_v27
  let main_v29 : FVec F S2x2x2x128x64 .f32 := Host.absf main_arg6
  let main_cst_10 : FVec F S_ .f32 := constant S_ .f32 0x7F800000#32
  let main_v30 : FVec F S2x2x2x128x64 .f32 := broadcastInDim S2x2x2x128x64 ![] bcast_S_S2x2x2x128x64 main_cst_10
  let main_v31 : IVec S2x2x2x128x64 1 := cmpf .olt main_v29 main_v30
  let main_c_11 : IVec S_ 1 := constantI S_ 1 1#1
  let main_v32 : IVec S_ 1 := (fun x v => Host.reduce IntOp.andi x v reducesTo_S2x2x2x128x64_S_d0_1_2_3_4 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x256 .f32) (main_arg1 : FVec F S256x2048 .f32) (main_arg2 : FVec F S2048 .f32) (main_arg3 : FVec F S3x3x3x256x256 .f32) (main_arg4 : FVec F S2x2x2x256x128 .f32) (main_arg5 : FVec F S3x3x3x128x128 .f32) (main_arg6 : FVec F S2x2x2x128x64 .f32) (main_arg7 : FVec F S3x3x3x64x64 .f32) (main_arg8 : FVec F S2x2x2x64x32 .f32) (main_arg9 : FVec F S3x3x3x32x32 .f32) (main_arg10 : FVec F S2x2x2x32x16 .f32) (main_arg11 : FVec F S3x3x3x16x16 .f32) (main_arg12 : FVec F S16x1 .f32) (main_arg13 : FVec F S1 .f32) : IVec S_ 1 :=
  let main_v0 : FVec F S128x256 .f32 := Host.absf main_arg0
  let main_cst : FVec F S_ .f32 := constant S_ .f32 0x7F800000#32
  let main_v1 : FVec F S128x256 .f32 := broadcastInDim S128x256 ![] bcast_S_S128x256 main_cst
  let main_v2 : IVec S128x256 1 := cmpf .olt main_v0 main_v1
  let main_c : IVec S_ 1 := constantI S_ 1 1#1
  let main_v3 : IVec S_ 1 := (fun x v => Host.reduce IntOp.andi x v reducesTo_S128x256_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S3x3x3x256x256 .f32 := Host.absf main_arg3
  let main_cst_4 : FVec F S_ .f32 := constant S_ .f32 0x7F800000#32
  let main_v15 : FVec F S3x3x3x256x256 .f32 := broadcastInDim S3x3x3x256x256 ![] bcast_S_S3x3x3x256x256 main_cst_4
  let main_v16 : IVec S3x3x3x256x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x256 : Shape := ⟨2, ![128, 256]⟩
abbrev S256x2048 : Shape := ⟨2, ![256, 2048]⟩
abbrev S2048 : Shape := ⟨1, ![2048]⟩
abbrev S3x3x3x256x256 : Shape := ⟨5, ![3, 3, 3, 256, 256]⟩
abbrev S2x2x2x256x128 : Shape := ⟨5, ![2, 2, 2, 256, 128]⟩
abbrev S3x3x3x128x128 : Shape := ⟨5, ![3, 3, 3, 128, 128]⟩
abbrev S2x2x2x128x64 : Shape := ⟨5, ![2, 2, 2, 128, 64]⟩
abbrev S3x3x3x64x64 : Shape := ⟨5, ![3, 3, 3, 64, 64]⟩
abbrev S2x2x2x64x32 : Shape := ⟨5, ![2, 2, 2, 64, 32]⟩
abbrev S3x3x3x32x32 : Shape := ⟨5, ![3, 3, 3, 32, 32]⟩
abbrev S2x2x2x32x16 : Shape := ⟨5, ![2, 2, 2, 32, 16]⟩
abbrev S3x3x3x16x16 : Shape := ⟨5, ![3, 3, 3, 16, 16]⟩
abbrev S16x1 : Shape := ⟨2, ![16, 1]⟩
abbrev S1 : Shape := ⟨1, ![1]⟩
abbrev S1x2048 : Shape := ⟨2, ![1, 2048]⟩
abbrev S2x2x2x256x256 : Shape := ⟨5, ![2, 2, 2, 256, 256]⟩
abbrev S256x2x2x2x256 : Shape := ⟨5, ![256, 2, 2, 2, 256]⟩
abbrev S2048x256 : Shape := ⟨2, ![2048, 256]⟩
abbrev S2 : Shape := ⟨1, ![2]⟩
abbrev S1x2 : Shape := ⟨2, ![1, 2]⟩
abbrev S1x1 : Shape := ⟨2, ![1, 1]⟩
abbrev S_ : Shape := ⟨0, ![]⟩
abbrev S1x1x2 : Shape := ⟨3, ![1, 1, 2]⟩
abbrev S2x1x2 : Shape := ⟨3, ![2, 1, 2]⟩
abbrev S1x1x2x1x1x2x1 : Shape := ⟨7, ![1, 1, 2, 1, 1, 2, 1]⟩
abbrev S2x2x2x1x256x1x128 : Shape := ⟨7, ![2, 2, 2, 1, 256, 1, 128]⟩
abbrev S2x2x2x1x256x2x128 : Shape := ⟨7, ![2, 2, 2, 1, 256, 2, 128]⟩
abbrev S2x2x1x256x2x128 : Shape := ⟨6, ![2, 2, 1, 256, 2, 128]⟩
abbrev S2x2x256x256 : Shape := ⟨4, ![2, 2, 256, 256]⟩
abbrev S4 : Shape := ⟨1, ![4]⟩
abbrev S1x4 : Shape := ⟨2, ![1, 4]⟩
abbrev S2x1 : Shape := ⟨2, ![2, 1]⟩
abbrev S2x4 : Shape := ⟨2, ![2, 4]⟩
abbrev S1x2x4 : Shape := ⟨3, ![1, 2, 4]⟩
abbrev S2x2x4 : Shape := ⟨3, ![2, 2, 4]⟩
abbrev S1x1x2x2x1x4x1 : Shape := ⟨7, ![1, 1, 2, 2, 1, 4, 1]⟩
abbrev S2x2x2x1x128x1x64 : Shape := ⟨7, ![2, 2, 2, 1, 128, 1, 64]⟩
abbrev S2x2x2x2x128x4x64 : Shape := ⟨7, ![2, 2, 2, 2, 128, 4, 64]⟩
abbrev S2x2x2x128x4x64 : Shape := ⟨6, ![2, 2, 2, 128, 4, 64]⟩
abbrev S8 : Shape := ⟨1, ![8]⟩
abbrev S1x8 : Shape := ⟨2, ![1, 8]⟩
abbrev S4x1 : Shape := ⟨2, ![4, 1]⟩
abbrev S4x8 : Shape := ⟨2, ![4, 8]⟩
abbrev S1x4x8 : Shape := ⟨3, ![1, 4, 8]⟩
abbrev S2x4x8 : Shape := ⟨3, ![2, 4, 8]⟩
abbrev S1x1x2x4x1x8x1 : Shape := ⟨7, ![1, 1, 2, 4, 1, 8, 1]⟩
abbrev S2x2x2x1x64x1x32 : Shape := ⟨7, ![2, 2, 2, 1, 64, 1, 32]⟩
abbrev S2x2x2x4x64x8x32 : Shape := ⟨7, ![2, 2, 2, 4, 64, 8, 32]⟩
abbrev S2x2x4x64x8x32 : Shape := ⟨6, ![2, 2, 4, 64, 8, 32]⟩
abbrev S16 : Shape := ⟨1, ![16]⟩
abbrev S1x16 : Shape := ⟨2, ![1, 16]⟩
abbrev S8x1 : Shape := ⟨2, ![8, 1]⟩
abbrev S8x16 : Shape := ⟨2, ![8, 16]⟩
abbrev S1x8x16 : Shape := ⟨3, ![1, 8, 16]⟩
abbrev S2x8x16 : Shape := ⟨3, ![2, 8, 16]⟩
abbrev S1x1x2x8x1x16x1 : Shape := ⟨7, ![1, 1, 2, 8, 1, 16, 1]⟩
abbrev S2x2x2x1x32x1x16 : Shape := ⟨7, ![2, 2, 2, 1, 32, 1, 16]⟩
abbrev S2x2x2x8x32x16x16 : Shape := ⟨7, ![2, 2, 2, 8, 32, 16, 16]⟩
abbrev S2x2x8x32x16x16 : Shape := ⟨6, ![2, 2, 8, 32, 16, 16]⟩
abbrev S2x2 : Shape := ⟨2, ![2, 2]⟩
abbrev S1x2x2 : Shape := ⟨3, ![1, 2, 2]⟩
abbrev S3x2x2 : Shape := ⟨3, ![3, 2, 2]⟩
abbrev S1x1x3x2x1x2x1 : Shape := ⟨7, ![1, 1, 3, 2, 1, 2, 1]⟩
abbrev S3x3x3x1x128x1x128 : Shape := ⟨7, ![3, 3, 3, 1, 128, 1, 128]⟩
abbrev S3x3x3x2x128x2x128 : Shape := ⟨7, ![3, 3, 3, 2, 128, 2, 128]⟩
abbrev S3x3x2x128x2x128 : Shape := ⟨6, ![3, 3, 2, 128, 2, 128]⟩
abbrev S3x3x256x256 : Shape := ⟨4, ![3, 3, 256, 256]⟩
abbrev S4x4 : Shape := ⟨2, ![4, 4]⟩
abbrev S1x4x4 : Shape := ⟨3, ![1, 4, 4]⟩
abbrev S3x4x4 : Shape := ⟨3, ![3, 4, 4]⟩
abbrev S1x1x3x4x1x4x1 : Shape := ⟨7, ![1, 1, 3, 4, 1, 4, 1]⟩
abbrev S3x3x3x1x64x1x64 : Shape := ⟨7, ![3, 3, 3, 1, 64, 1, 64]⟩
abbrev S3x3x3x4x64x4x64 : Shape := ⟨7, ![3, 3, 3, 4, 64, 4, 64]⟩
abbrev S3x3x4x64x4x64 : Shape := ⟨6, ![3, 3, 4, 64, 4, 64]⟩
abbrev S8x8 : Shape := ⟨2, ![8, 8]⟩
abbrev S1x8x8 : Shape := ⟨3, ![1, 8, 8]⟩
abbrev S3x8x8 : Shape := ⟨3, ![3, 8, 8]⟩
abbrev S1x1x3x8x1x8x1 : Shape := ⟨7, ![1, 1, 3, 8, 1, 8, 1]⟩
abbrev S3x3x3x1x32x1x32 : Shape := ⟨7, ![3, 3, 3, 1, 32, 1, 32]⟩
abbrev S3x3x3x8x32x8x32 : Shape := ⟨7, ![3, 3, 3, 8, 32, 8, 32]⟩
abbrev S3x3x8x32x8x32 : Shape := ⟨6, ![3, 3, 8, 32, 8, 32]⟩
abbrev S16x16 : Shape := ⟨2, ![16, 16]⟩
abbrev S1x16x16 : Shape := ⟨3, ![1, 16, 16]⟩
abbrev S3x16x16 : Shape := ⟨3, ![3, 16, 16]⟩
abbrev S1x1x3x16x1x16x1 : Shape := ⟨7, ![1, 1, 3, 16, 1, 16, 1]⟩
abbrev S3x3x3x1x16x1x16 : Shape := ⟨7, ![3, 3, 3, 1, 16, 1, 16]⟩
abbrev S3x3x3x16x16x16x16 : Shape := ⟨7, ![3, 3, 3, 16, 16, 16, 16]⟩
abbrev S3x3x16x16x16x16 : Shape := ⟨6, ![3, 3, 16, 16, 16, 16]⟩
abbrev S2x1x2x1 : Shape := ⟨4, ![2, 1, 2, 1]⟩
abbrev S128x128 : Shape := ⟨2, ![128, 128]⟩
abbrev S1x128x1x128 : Shape := ⟨4, ![1, 128, 1, 128]⟩
abbrev S2x128x2x128 : Shape := ⟨4, ![2, 128, 2, 128]⟩
abbrev S256x256 : Shape := ⟨2, ![256, 256]⟩
abbrev S4x1x4x1 : Shape := ⟨4, ![4, 1, 4, 1]⟩
abbrev S64x64 : Shape := ⟨2, ![64, 64]⟩
abbrev S1x64x1x64 : Shape := ⟨4, ![1, 64, 1, 64]⟩
abbrev S4x64x4x64 : Shape := ⟨4, ![4, 64, 4, 64]⟩
abbrev S8x1x8x1 : Shape := ⟨4, ![8, 1, 8, 1]⟩
abbrev S32x32 : Shape := ⟨2, ![32, 32]⟩
abbrev S1x32x1x32 : Shape := ⟨4, ![1, 32, 1, 32]⟩
abbrev S8x32x8x32 : Shape := ⟨4, ![8, 32, 8, 32]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S1x16x1x1 : Shape := ⟨4, ![1, 16, 1, 1]⟩
abbrev S16x16x16x1 : Shape := ⟨4, ![16, 16, 16, 1]⟩
abbrev S256x16 : Shape := ⟨2, ![256, 16]⟩
abbrev S128x2048 : Shape := ⟨2, ![128, 2048]⟩
abbrev S256 : Shape := ⟨1, ![256]⟩
abbrev S1x256 : Shape := ⟨2, ![1, 256]⟩
abbrev S2x256 : Shape := ⟨2, ![2, 256]⟩
abbrev S1x1x256x256 : Shape := ⟨4, ![1, 1, 256, 256]⟩
abbrev S1x128x256 : Shape := ⟨3, ![1, 128, 256]⟩
abbrev S4x128x256 : Shape := ⟨3, ![4, 128, 256]⟩
abbrev S2x2x1x1x128x256 : Shape := ⟨6, ![2, 2, 1, 1, 128, 256]⟩
abbrev S1x2x1x2x128x256 : Shape := ⟨6, ![1, 2, 1, 2, 128, 256]⟩
abbrev S512x256 : Shape := ⟨2, ![512, 256]⟩
abbrev S512x1 : Shape := ⟨2, ![512, 1]⟩
abbrev S384x256 : Shape := ⟨2, ![384, 256]⟩
abbrev S1x512x256 : Shape := ⟨3, ![1, 512, 256]⟩
abbrev S4x512x256 : Shape := ⟨3, ![4, 512, 256]⟩
abbrev S2x2x2x2x128x256 : Shape := ⟨6, ![2, 2, 2, 2, 128, 256]⟩
abbrev S2048x1 : Shape := ⟨2, ![2048, 1]⟩
abbrev S640x256 : Shape := ⟨2, ![640, 256]⟩
abbrev S1408x256 : Shape := ⟨2, ![1408, 256]⟩
abbrev S1536x256 : Shape := ⟨2, ![1536, 256]⟩
abbrev S1664x256 : Shape := ⟨2, ![1664, 256]⟩
abbrev S1920x256 : Shape := ⟨2, ![1920, 256]⟩
abbrev S1x2048x256 : Shape := ⟨3, ![1, 2048, 256]⟩
abbrev S4x2048x256 : Shape := ⟨3, ![4, 2048, 256]⟩
abbrev S2x2x4x4x128x256 : Shape := ⟨6, ![2, 2, 4, 4, 128, 256]⟩
abbrev S4x2x4x2x128x256 : Shape := ⟨6, ![4, 2, 4, 2, 128, 256]⟩
abbrev S8192x256 : Shape := ⟨2, ![8192, 256]⟩
abbrev S8192x1 : Shape := ⟨2, ![8192, 1]⟩
abbrev S1152x256 : Shape := ⟨2, ![1152, 256]⟩
abbrev S7040x256 : Shape := ⟨2, ![7040, 256]⟩
abbrev S1024x256 : Shape := ⟨2, ![1024, 256]⟩
abbrev S7168x256 : Shape := ⟨2, ![7168, 256]⟩
abbrev S896x256 : Shape := ⟨2, ![896, 256]⟩
abbrev S7296x256 : Shape := ⟨2, ![7296, 256]⟩
abbrev S8064x256 : Shape := ⟨2, ![8064, 256]⟩
abbrev S1x8192x256 : Shape := ⟨3, ![1, 8192, 256]⟩
abbrev S4x8192x256 : Shape := ⟨3, ![4, 8192, 256]⟩
abbrev S2x2x8x8x128x256 : Shape := ⟨6, ![2, 2, 8, 8, 128, 256]⟩
abbrev S8x2x8x2x128x256 : Shape := ⟨6, ![8, 2, 8, 2, 128, 256]⟩
abbrev S32768x256 : Shape := ⟨2, ![32768, 256]⟩
abbrev S8x2x256 : Shape := ⟨3, ![8, 2, 256]⟩
abbrev S4096x256 : Shape := ⟨2, ![4096, 256]⟩
abbrev S1x2x256 : Shape := ⟨3, ![1, 2, 256]⟩
abbrev S4096x1 : Shape := ⟨2, ![4096, 1]⟩
abbrev S2176x256 : Shape := ⟨2, ![2176, 256]⟩
abbrev S3968x256 : Shape := ⟨2, ![3968, 256]⟩
abbrev S32768x16 : Shape := ⟨2, ![32768, 16]⟩
abbrev S4096x16 : Shape := ⟨2, ![4096, 16]⟩
abbrev S8x1x256 : Shape := ⟨3, ![8, 1, 256]⟩
abbrev S8x256 : Shape := ⟨2, ![8, 256]⟩
abbrev S16x16x128x16 : Shape := ⟨4, ![16, 16, 128, 16]⟩
abbrev S128x16x16x16 : Shape := ⟨4, ![128, 16, 16, 16]⟩
abbrev S128x1x16x16x16 : Shape := ⟨5, ![128, 1, 16, 16, 16]⟩

abbrev nBuf : Space → Nat
  | .hbm => 472
  | .vmem => 69
  | .smem => 0
  | _ => 0

abbrev hbmTy0_0 (i : Nat) : BufTy := match i % 128 with
  | 0 => ⟨S128x256, .f32⟩
  | 1 => ⟨S256x2048, .f32⟩
  | 2 => ⟨S2048, .f32⟩
  | 3 => ⟨S3x3x3x256x256, .f32⟩
  | 4 => ⟨S2x2x2x256x128, .f32⟩
  | 5 => ⟨S3x3x3x128x128, .f32⟩
  | 6 => ⟨S2x2x2x128x64, .f32⟩
  | 7 => ⟨S3x3x3x64x64, .f32⟩
  | 8 => ⟨S2x2x2x64x32, .f32⟩
  | 9 => ⟨S3x3x3x32x32, .f32⟩
  | 10 => ⟨S2x2x2x32x16, .f32⟩
  | 11 => ⟨S3x3x3x16x16, .f32⟩
  | 12 => ⟨S16x1, .f32⟩
  | 13 => ⟨S1, .f32⟩
  | 14 => ⟨S256x2048, .bf16⟩
  | 15 => ⟨S1x2048, .f32⟩
  | 16 => ⟨S2x2x2x256x256, .f32⟩
  | 17 => ⟨S256x2x2x2x256, .f32⟩
  | 18 => ⟨S2048x256, .f32⟩
  | 19 => ⟨S2048x256, .bf16⟩
  | 20 => ⟨S1, .i32⟩
  | 21 => ⟨S2, .i32⟩
  | 22 => ⟨S1x2, .i32⟩
  | 23 => ⟨S1x1, .i32⟩
  | 24 => ⟨S_, .i32⟩
  | 25 => ⟨S1x1, .i32⟩
  | 26 => ⟨S1x1, .i32⟩
  | 27 => ⟨S_, .i32⟩
  | 28 => ⟨S1x1, .i32⟩
  | 29 => ⟨S1x1, .i32⟩
  | 30 => ⟨S1x2, .i32⟩
  | 31 => ⟨S1x2, .i1⟩
  | 32 => ⟨S1x2, .f32⟩
  | 33 => ⟨S1x2, .i32⟩
  | 34 => ⟨S1x1, .i32⟩
  | 35 => ⟨S_, .i32⟩
  | 36 => ⟨S1x1, .i32⟩
  | 37 => ⟨S1x1, .i32⟩
  | 38 => ⟨S_, .i32⟩
  | 39 => ⟨S1x1, .i32⟩
  | 40 => ⟨S1x1, .i32⟩
  | 41 => ⟨S1x2, .i32⟩
  | 42 => ⟨S1x2, .i1⟩
  | 43 => ⟨S1x2, .f32⟩
  | 44 => ⟨S1x1x2, .f32⟩
  | 45 => ⟨S1x1x2, .f32⟩
  | 46 => ⟨S2x1x2, .f32⟩
  | 47 => ⟨S1x1x2x1x1x2x1, .f32⟩
  | 48 => ⟨S2x2x2x1x256x1x128, .f32⟩
  | 49 => ⟨S2x2x2x1x256x2x128, .f32⟩
  | 50 => ⟨S2x2x2x1x256x2x128, .f32⟩
  | 51 => ⟨S2x2x2x1x256x2x128, .f32⟩
  | 52 => ⟨S_, .f32⟩
  | 53 => ⟨S2x2x1x256x2x128, .f32⟩
  | 54 => ⟨S2x2x256x256, .f32⟩
  | 55 => ⟨S2, .i32⟩
  | 56 => ⟨S4, .i32⟩
  | 57 => ⟨S1x4, .i32⟩
  | 58 => ⟨S2x1, .i32⟩
  | 59 => ⟨S_, .i32⟩
  | 60 => ⟨S2x1, .i32⟩
  | 61 => ⟨S2x1, .i32⟩
  | 62 => ⟨S_, .i32⟩
  | 63 => ⟨S2x1, .i32⟩
  | 64 => ⟨S2x1, .i32⟩
  | 65 => ⟨S2x4, .i32⟩
  | 66 => ⟨S2x4, .i32⟩
  | 67 => ⟨S2x4, .i1⟩
  | 68 => ⟨S2x4, .f32⟩
  | 69 => ⟨S1x4, .i32⟩
  | 70 => ⟨S2x1, .i32⟩
  | 71 => ⟨S_, .i32⟩
  | 72 => ⟨S2x1, .i32⟩
  | 73 => ⟨S2x1, .i32⟩
  | 74 => ⟨S_, .i32⟩
  | 75 => ⟨S2x1, .i32⟩
  | 76 => ⟨S2x1, .i32⟩
  | 77 => ⟨S2x4, .i32⟩
  | 78 => ⟨S2x4, .i32⟩
  | 79 => ⟨S2x4, .i1⟩
  | 80 => ⟨S2x4, .f32⟩
  | 81 => ⟨S1x2x4, .f32⟩
  | 82 => ⟨S1x2x4, .f32⟩
  | 83 => ⟨S2x2x4, .f32⟩
  | 84 => ⟨S1x1x2x2x1x4x1, .f32⟩
  | 85 => ⟨S2x2x2x1x128x1x64, .f32⟩
  | 86 => ⟨S2x2x2x2x128x4x64, .f32⟩
  | 87 => ⟨S2x2x2x2x128x4x64, .f32⟩
  | 88 => ⟨S2x2x2x2x128x4x64, .f32⟩
  | 89 => ⟨S_, .f32⟩
  | 90 => ⟨S2x2x2x128x4x64, .f32⟩
  | 91 => ⟨S2x2x256x256, .f32⟩
  | 92 => ⟨S4, .i32⟩
  | 93 => ⟨S8, .i32⟩
  | 94 => ⟨S1x8, .i32⟩
  | 95 => ⟨S4x1, .i32⟩
  | 96 => ⟨S_, .i32⟩
  | 97 => ⟨S4x1, .i32⟩
  | 98 => ⟨S4x1, .i32⟩
  | 99 => ⟨S_, .i32⟩
  | 100 => ⟨S4x1, .i32⟩
  | 101 => ⟨S4x1, .i32⟩
  | 102 => ⟨S4x8, .i32⟩
  | 103 => ⟨S4x8, .i32⟩
  | 104 => ⟨S4x8, .i1⟩
  | 105 => ⟨S4x8, .f32⟩
  | 106 => ⟨S1x8, .i32⟩
  | 107 => ⟨S4x1, .i32⟩
  | 108 => ⟨S_, .i32⟩
  | 109 => ⟨S4x1, .i32⟩
  | 110 => ⟨S4x1, .i32⟩
  | 111 => ⟨S_, .i32⟩
  | 112 => ⟨S4x1, .i32⟩
  | 113 => ⟨S4x1, .i32⟩
  | 114 => ⟨S4x8, .i32⟩
  | 115 => ⟨S4x8, .i32⟩
  | 116 => ⟨S4x8, .i1⟩
  | 117 => ⟨S4x8, .f32⟩
  | 118 => ⟨S1x4x8, .f32⟩
  | 119 => ⟨S1x4x8, .f32⟩
  | 120 => ⟨S2x4x8, .f32⟩
  | 121 => ⟨S1x1x2x4x1x8x1, .f32⟩
  | 122 => ⟨S2x2x2x1x64x1x32, .f32⟩
  | 123 => ⟨S2x2x2x4x64x8x32, .f32⟩
  | 124 => ⟨S2x2x2x4x64x8x32, .f32⟩
  | 125 => ⟨S2x2x2x4x64x8x32, .f32⟩
  | 126 => ⟨S_, .f32⟩
  | 127 => ⟨S2x2x4x64x8x32, .f32⟩
  | _ => ⟨S128x256, .f32⟩

abbrev hbmTy0_1 (i : Nat) : BufTy := match i % 128 with
  | 0 => ⟨S2x2x256x256, .f32⟩
  | 1 => ⟨S8, .i32⟩
  | 2 => ⟨S16, .i32⟩
  | 3 => ⟨S1x16, .i32⟩
  | 4 => ⟨S8x1, .i32⟩
  | 5 => ⟨S_, .i32⟩
  | 6 => ⟨S8x1, .i32⟩
  | 7 => ⟨S8x1, .i32⟩
  | 8 => ⟨S_, .i32⟩
  | 9 => ⟨S8x1, .i32⟩
  | 10 => ⟨S8x1, .i32⟩
  | 11 => ⟨S8x16, .i32⟩
  | 12 => ⟨S8x16, .i32⟩
  | 13 => ⟨S8x16, .i1⟩
  | 14 => ⟨S8x16, .f32⟩
  | 15 => ⟨S1x16, .i32⟩
  | 16 => ⟨S8x1, .i32⟩
  | 17 => ⟨S_, .i32⟩
  | 18 => ⟨S8x1, .i32⟩
  | 19 => ⟨S8x1, .i32⟩
  | 20 => ⟨S_, .i32⟩
  | 21 => ⟨S8x1, .i32⟩
  | 22 => ⟨S8x1, .i32⟩
  | 23 => ⟨S8x16, .i32⟩
  | 24 => ⟨S8x16, .i32⟩
  | 25 => ⟨S8x16, .i1⟩
  | 26 => ⟨S8x16, .f32⟩
  | 27 => ⟨S1x8x16, .f32⟩
  | 28 => ⟨S1x8x16, .f32⟩
  | 29 => ⟨S2x8x16, .f32⟩
  | 30 => ⟨S1x1x2x8x1x16x1, .f32⟩
  | 31 => ⟨S2x2x2x1x32x1x16, .f32⟩
  | 32 => ⟨S2x2x2x8x32x16x16, .f32⟩
  | 33 => ⟨S2x2x2x8x32x16x16, .f32⟩
  | 34 => ⟨S2x2x2x8x32x16x16, .f32⟩
  | 35 => ⟨S_, .f32⟩
  | 36 => ⟨S2x2x8x32x16x16, .f32⟩
  | 37 => ⟨S2x2x256x256, .f32⟩
  | 38 => ⟨S2, .i32⟩
  | 39 => ⟨S2x1, .i32⟩
  | 40 => ⟨S1x2, .i32⟩
  | 41 => ⟨S_, .i32⟩
  | 42 => ⟨S1x2, .i32⟩
  | 43 => ⟨S1x2, .i32⟩
  | 44 => ⟨S2x2, .i32⟩
  | 45 => ⟨S2x2, .i32⟩
  | 46 => ⟨S2x2, .i1⟩
  | 47 => ⟨S2x2, .f32⟩
  | 48 => ⟨S2x1, .i32⟩
  | 49 => ⟨S1x2, .i32⟩
  | 50 => ⟨S_, .i32⟩
  | 51 => ⟨S1x2, .i32⟩
  | 52 => ⟨S1x2, .i32⟩
  | 53 => ⟨S2x2, .i32⟩
  | 54 => ⟨S2x2, .i32⟩
  | 55 => ⟨S2x2, .i1⟩
  | 56 => ⟨S2x2, .f32⟩
  | 57 => ⟨S2x1, .i32⟩
  | 58 => ⟨S1x2, .i32⟩
  | 59 => ⟨S_, .i32⟩
  | 60 => ⟨S1x2, .i32⟩
  | 61 => ⟨S1x2, .i32⟩
  | 62 => ⟨S2x2, .i32⟩
  | 63 => ⟨S2x2, .i32⟩
  | 64 => ⟨S2x2, .i1⟩
  | 65 => ⟨S2x2, .f32⟩
  | 66 => ⟨S1x2x2, .f32⟩
  | 67 => ⟨S1x2x2, .f32⟩
  | 68 => ⟨S1x2x2, .f32⟩
  | 69 => ⟨S3x2x2, .f32⟩
  | 70 => ⟨S1x1x3x2x1x2x1, .f32⟩
  | 71 => ⟨S3x3x3x1x128x1x128, .f32⟩
  | 72 => ⟨S3x3x3x2x128x2x128, .f32⟩
  | 73 => ⟨S3x3x3x2x128x2x128, .f32⟩
  | 74 => ⟨S3x3x3x2x128x2x128, .f32⟩
  | 75 => ⟨S_, .f32⟩
  | 76 => ⟨S3x3x2x128x2x128, .f32⟩
  | 77 => ⟨S3x3x256x256, .f32⟩
  | 78 => ⟨S4, .i32⟩
  | 79 => ⟨S4x1, .i32⟩
  | 80 => ⟨S1x4, .i32⟩
  | 81 => ⟨S_, .i32⟩
  | 82 => ⟨S1x4, .i32⟩
  | 83 => ⟨S1x4, .i32⟩
  | 84 => ⟨S4x4, .i32⟩
  | 85 => ⟨S4x4, .i32⟩
  | 86 => ⟨S4x4, .i1⟩
  | 87 => ⟨S4x4, .f32⟩
  | 88 => ⟨S4x1, .i32⟩
  | 89 => ⟨S1x4, .i32⟩
  | 90 => ⟨S_, .i32⟩
  | 91 => ⟨S1x4, .i32⟩
  | 92 => ⟨S1x4, .i32⟩
  | 93 => ⟨S4x4, .i32⟩
  | 94 => ⟨S4x4, .i32⟩
  | 95 => ⟨S4x4, .i1⟩
  | 96 => ⟨S4x4, .f32⟩
  | 97 => ⟨S4x1, .i32⟩
  | 98 => ⟨S1x4, .i32⟩
  | 99 => ⟨S_, .i32⟩
  | 100 => ⟨S1x4, .i32⟩
  | 101 => ⟨S1x4, .i32⟩
  | 102 => ⟨S4x4, .i32⟩
  | 103 => ⟨S4x4, .i32⟩
  | 104 => ⟨S4x4, .i1⟩
  | 105 => ⟨S4x4, .f32⟩
  | 106 => ⟨S1x4x4, .f32⟩
  | 107 => ⟨S1x4x4, .f32⟩
  | 108 => ⟨S1x4x4, .f32⟩
  | 109 => ⟨S3x4x4, .f32⟩
  | 110 => ⟨S1x1x3x4x1x4x1, .f32⟩
  | 111 => ⟨S3x3x3x1x64x1x64, .f32⟩
  | 112 => ⟨S3x3x3x4x64x4x64, .f32⟩
  | 113 => ⟨S3x3x3x4x64x4x64, .f32⟩
  | 114 => ⟨S3x3x3x4x64x4x64, .f32⟩
  | 115 => ⟨S_, .f32⟩
  | 116 => ⟨S3x3x4x64x4x64, .f32⟩
  | 117 => ⟨S3x3x256x256, .f32⟩
  | 118 => ⟨S8, .i32⟩
  | 119 => ⟨S8x1, .i32⟩
  | 120 => ⟨S1x8, .i32⟩
  | 121 => ⟨S_, .i32⟩
  | 122 => ⟨S1x8, .i32⟩
  | 123 => ⟨S1x8, .i32⟩
  | 124 => ⟨S8x8, .i32⟩
  | 125 => ⟨S8x8, .i32⟩
  | 126 => ⟨S8x8, .i1⟩
  | 127 => ⟨S8x8, .f32⟩
  | _ => ⟨S128x256, .f32⟩

abbrev hbmTy0_2 (i : Nat) : BufTy := match i % 128 with
  | 0 => ⟨S8x1, .i32⟩
  | 1 => ⟨S1x8, .i32⟩
  | 2 => ⟨S_, .i32⟩
  | 3 => ⟨S1x8, .i32⟩
  | 4 => ⟨S1x8, .i32⟩
  | 5 => ⟨S8x8, .i32⟩
  | 6 => ⟨S8x8, .i32⟩
  | 7 => ⟨S8x8, .i1⟩
  | 8 => ⟨S8x8, .f32⟩
  | 9 => ⟨S8x1, .i32⟩
  | 10 => ⟨S1x8, .i32⟩
  | 11 => ⟨S_, .i32⟩
  | 12 => ⟨S1x8, .i32⟩
  | 13 => ⟨S1x8, .i32⟩
  | 14 => ⟨S8x8, .i32⟩
  | 15 => ⟨S8x8, .i32⟩
  | 16 => ⟨S8x8, .i1⟩
  | 17 => ⟨S8x8, .f32⟩
  | 18 => ⟨S1x8x8, .f32⟩
  | 19 => ⟨S1x8x8, .f32⟩
  | 20 => ⟨S1x8x8, .f32⟩
  | 21 => ⟨S3x8x8, .f32⟩
  | 22 => ⟨S1x1x3x8x1x8x1, .f32⟩
  | 23 => ⟨S3x3x3x1x32x1x32, .f32⟩
  | 24 => ⟨S3x3x3x8x32x8x32, .f32⟩
  | 25 => ⟨S3x3x3x8x32x8x32, .f32⟩
  | 26 => ⟨S3x3x3x8x32x8x32, .f32⟩
  | 27 => ⟨S_, .f32⟩
  | 28 => ⟨S3x3x8x32x8x32, .f32⟩
  | 29 => ⟨S3x3x256x256, .f32⟩
  | 30 => ⟨S16, .i32⟩
  | 31 => ⟨S16x1, .i32⟩
  | 32 => ⟨S1x16, .i32⟩
  | 33 => ⟨S_, .i32⟩
  | 34 => ⟨S1x16, .i32⟩
  | 35 => ⟨S1x16, .i32⟩
  | 36 => ⟨S16x16, .i32⟩
  | 37 => ⟨S16x16, .i32⟩
  | 38 => ⟨S16x16, .i1⟩
  | 39 => ⟨S16x16, .f32⟩
  | 40 => ⟨S16x1, .i32⟩
  | 41 => ⟨S1x16, .i32⟩
  | 42 => ⟨S_, .i32⟩
  | 43 => ⟨S1x16, .i32⟩
  | 44 => ⟨S1x16, .i32⟩
  | 45 => ⟨S16x16, .i32⟩
  | 46 => ⟨S16x16, .i32⟩
  | 47 => ⟨S16x16, .i1⟩
  | 48 => ⟨S16x16, .f32⟩
  | 49 => ⟨S16x1, .i32⟩
  | 50 => ⟨S1x16, .i32⟩
  | 51 => ⟨S_, .i32⟩
  | 52 => ⟨S1x16, .i32⟩
  | 53 => ⟨S1x16, .i32⟩
  | 54 => ⟨S16x16, .i32⟩
  | 55 => ⟨S16x16, .i32⟩
  | 56 => ⟨S16x16, .i1⟩
  | 57 => ⟨S16x16, .f32⟩
  | 58 => ⟨S1x16x16, .f32⟩
  | 59 => ⟨S1x16x16, .f32⟩
  | 60 => ⟨S1x16x16, .f32⟩
  | 61 => ⟨S3x16x16, .f32⟩
  | 62 => ⟨S1x1x3x16x1x16x1, .f32⟩
  | 63 => ⟨S3x3x3x1x16x1x16, .f32⟩
  | 64 => ⟨S3x3x3x16x16x16x16, .f32⟩
  | 65 => ⟨S3x3x3x16x16x16x16, .f32⟩
  | 66 => ⟨S3x3x3x16x16x16x16, .f32⟩
  | 67 => ⟨S_, .f32⟩
  | 68 => ⟨S3x3x16x16x16x16, .f32⟩
  | 69 => ⟨S3x3x256x256, .f32⟩
  | 70 => ⟨S3x3x256x256, .bf16⟩
  | 71 => ⟨S_, .f32⟩
  | 72 => ⟨S2x2, .f32⟩
  | 73 => ⟨S2x1x2x1, .f32⟩
  | 74 => ⟨S128x128, .i32⟩
  | 75 => ⟨S128x128, .i32⟩
  | 76 => ⟨S_, .i32⟩
  | 77 => ⟨S128x128, .i32⟩
  | 78 => ⟨S128x128, .i32⟩
  | 79 => ⟨S128x128, .i1⟩
  | 80 => ⟨S128x128, .f32⟩
  | 81 => ⟨S1x128x1x128, .f32⟩
  | 82 => ⟨S2x128x2x128, .f32⟩
  | 83 => ⟨S2x128x2x128, .f32⟩
  | 84 => ⟨S2x128x2x128, .f32⟩
  | 85 => ⟨S256x256, .f32⟩
  | 86 => ⟨S_, .f32⟩
  | 87 => ⟨S4x4, .f32⟩
  | 88 => ⟨S4x1x4x1, .f32⟩
  | 89 => ⟨S64x64, .i32⟩
  | 90 => ⟨S64x64, .i32⟩
  | 91 => ⟨S_, .i32⟩
  | 92 => ⟨S64x64, .i32⟩
  | 93 => ⟨S64x64, .i32⟩
  | 94 => ⟨S64x64, .i1⟩
  | 95 => ⟨S64x64, .f32⟩
  | 96 => ⟨S1x64x1x64, .f32⟩
  | 97 => ⟨S4x64x4x64, .f32⟩
  | 98 => ⟨S4x64x4x64, .f32⟩
  | 99 => ⟨S4x64x4x64, .f32⟩
  | 100 => ⟨S256x256, .f32⟩
  | 101 => ⟨S_, .f32⟩
  | 102 => ⟨S8x8, .f32⟩
  | 103 => ⟨S8x1x8x1, .f32⟩
  | 104 => ⟨S32x32, .i32⟩
  | 105 => ⟨S32x32, .i32⟩
  | 106 => ⟨S_, .i32⟩
  | 107 => ⟨S32x32, .i32⟩
  | 108 => ⟨S32x32, .i32⟩
  | 109 => ⟨S32x32, .i1⟩
  | 110 => ⟨S32x32, .f32⟩
  | 111 => ⟨S1x32x1x32, .f32⟩
  | 112 => ⟨S8x32x8x32, .f32⟩
  | 113 => ⟨S8x32x8x32, .f32⟩
  | 114 => ⟨S8x32x8x32, .f32⟩
  | 115 => ⟨S256x256, .f32⟩
  | 116 => ⟨S_, .f32⟩
  | 117 => ⟨S16x16, .f32⟩
  | 118 => ⟨S16x1x16x1, .f32⟩
  | 119 => ⟨S16x16, .i32⟩
  | 120 => ⟨S16x16, .i32⟩
  | 121 => ⟨S_, .i32⟩
  | 122 => ⟨S16x16, .i32⟩
  | 123 => ⟨S16x16, .i32⟩
  | 124 => ⟨S16x16, .i1⟩
  | 125 => ⟨S16x16, .f32⟩
  | 126 => ⟨S1x16x1x16, .f32⟩
  | 127 => ⟨S16x16x16x16, .f32⟩
  | _ => ⟨S128x256, .f32⟩

abbrev hbmTy0_3 (i : Nat) : BufTy := match i % 128 with
  | 0 => ⟨S16x16x16x16, .f32⟩
  | 1 => ⟨S16x16x16x16, .f32⟩
  | 2 => ⟨S256x256, .f32⟩
  | 3 => ⟨S16x16, .i32⟩
  | 4 => ⟨S16x16, .i32⟩
  | 5 => ⟨S_, .i32⟩
  | 6 => ⟨S16x16, .i32⟩
  | 7 => ⟨S16x16, .i32⟩
  | 8 => ⟨S16x16, .i1⟩
  | 9 => ⟨S16x16, .f32⟩
  | 10 => ⟨S16x1x16x1, .f32⟩
  | 11 => ⟨S1x16x1x1, .f32⟩
  | 12 => ⟨S16x16x16x1, .f32⟩
  | 13 => ⟨S16x16x16x1, .f32⟩
  | 14 => ⟨S16x16x16x1, .f32⟩
  | 15 => ⟨S256x16, .f32⟩
  | 16 => ⟨S256x16, .bf16⟩
  | 17 => ⟨S1x1, .f32⟩
  | 18 => ⟨S1x16, .f32⟩
  | 19 => ⟨S128x256, .f32⟩
  | 20 => ⟨S2x2x256x256, .bf16⟩
  | 21 => ⟨S128x256, .f32⟩
  | 22 => ⟨S128x256, .f32⟩
  | 23 => ⟨S128x256, .f32⟩
  | 24 => ⟨S128x256, .f32⟩
  | 25 => ⟨S2x256, .f32⟩
  | 26 => ⟨S1x128x256, .f32⟩
  | 27 => ⟨S1x128x256, .f32⟩
  | 28 => ⟨S1x128x256, .f32⟩
  | 29 => ⟨S1x128x256, .f32⟩
  | 30 => ⟨S4x128x256, .f32⟩
  | 31 => ⟨S2x2x1x1x128x256, .f32⟩
  | 32 => ⟨S1x2x1x2x128x256, .f32⟩
  | 33 => ⟨S512x256, .f32⟩
  | 34 => ⟨S3x3x256x256, .bf16⟩
  | 35 => ⟨S512x256, .f32⟩
  | 36 => ⟨S2x2x256x256, .bf16⟩
  | 37 => ⟨S512x256, .f32⟩
  | 38 => ⟨S512x256, .f32⟩
  | 39 => ⟨S512x256, .f32⟩
  | 40 => ⟨S512x256, .f32⟩
  | 41 => ⟨S2x256, .f32⟩
  | 42 => ⟨S1x512x256, .f32⟩
  | 43 => ⟨S1x512x256, .f32⟩
  | 44 => ⟨S1x512x256, .f32⟩
  | 45 => ⟨S1x512x256, .f32⟩
  | 46 => ⟨S4x512x256, .f32⟩
  | 47 => ⟨S2x2x2x2x128x256, .f32⟩
  | 48 => ⟨S2x2x2x2x128x256, .f32⟩
  | 49 => ⟨S2048x256, .f32⟩
  | 50 => ⟨S3x3x256x256, .bf16⟩
  | 51 => ⟨S2048x256, .f32⟩
  | 52 => ⟨S2x2x256x256, .bf16⟩
  | 53 => ⟨S2048x256, .f32⟩
  | 54 => ⟨S2048x256, .f32⟩
  | 55 => ⟨S2048x256, .f32⟩
  | 56 => ⟨S2048x256, .f32⟩
  | 57 => ⟨S2x256, .f32⟩
  | 58 => ⟨S1x2048x256, .f32⟩
  | 59 => ⟨S1x2048x256, .f32⟩
  | 60 => ⟨S1x2048x256, .f32⟩
  | 61 => ⟨S1x2048x256, .f32⟩
  | 62 => ⟨S4x2048x256, .f32⟩
  | 63 => ⟨S2x2x4x4x128x256, .f32⟩
  | 64 => ⟨S4x2x4x2x128x256, .f32⟩
  | 65 => ⟨S8192x256, .f32⟩
  | 66 => ⟨S3x3x256x256, .bf16⟩
  | 67 => ⟨S8192x256, .f32⟩
  | 68 => ⟨S2x2x256x256, .bf16⟩
  | 69 => ⟨S8192x256, .bf16⟩
  | 70 => ⟨S8192x256, .bf16⟩
  | 71 => ⟨S8192x256, .bf16⟩
  | 72 => ⟨S8192x256, .bf16⟩
  | 73 => ⟨S2x256, .f32⟩
  | 74 => ⟨S1x8192x256, .bf16⟩
  | 75 => ⟨S1x8192x256, .bf16⟩
  | 76 => ⟨S1x8192x256, .bf16⟩
  | 77 => ⟨S1x8192x256, .bf16⟩
  | 78 => ⟨S4x8192x256, .bf16⟩
  | 79 => ⟨S2x2x8x8x128x256, .bf16⟩
  | 80 => ⟨S8x2x8x2x128x256, .bf16⟩
  | 81 => ⟨S32768x256, .bf16⟩
  | 82 => ⟨S32768x256, .bf16⟩
  | 83 => ⟨S8x2x256, .f32⟩
  | 84 => ⟨S32768x16, .f32⟩
  | 85 => ⟨S16x16x128x16, .f32⟩
  | 86 => ⟨S128x16x16x16, .f32⟩
  | 87 => ⟨S128x1x16x16x16, .f32⟩
  | _ => ⟨S128x256, .f32⟩

abbrev hbmTy (i : Nat) : BufTy := match i / 128 with
  | 0 => hbmTy0_0 i
  | 1 => hbmTy0_1 i
  | 2 => hbmTy0_2 i
  | 3 => hbmTy0_3 i
  | _ => ⟨S128x256, .f32⟩

abbrev bufTy : (tb : Table) → Fin (tcTables nBuf tb) → BufTy
  | .hbm, ⟨i, _⟩ => hbmTy i
  | .local _ .vmem, ⟨0, _⟩ => ⟨S128x256, .f32⟩
  | .local _ .vmem, ⟨1, _⟩ => ⟨S256x2048, .bf16⟩
  | .local _ .vmem, ⟨2, _⟩ => ⟨S1x2048, .f32⟩
  | .local _ .vmem, ⟨3, _⟩ => ⟨S2048x256, .bf16⟩
  | .local _ .vmem, ⟨4, _⟩ => ⟨S128x256, .f32⟩
  | .local _ .vmem, ⟨5, _⟩ => ⟨S128x256, .f32⟩
  | .local _ .vmem, ⟨6, _⟩ => ⟨S2x2x256x256, .bf16⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S2x256, .f32⟩
  | .local _ .vmem, ⟨12, _⟩ => ⟨S512x256, .f32⟩
  | .local _ .vmem, ⟨13, _⟩ => ⟨S2x256, .f32⟩
  | .local _ .vmem, ⟨14, _⟩ => ⟨S3x3x256x256, .bf16⟩
  | .local _ .vmem, ⟨15, _⟩ => ⟨S256x256, .f32⟩
  | .local _ .vmem, ⟨16, _⟩ => ⟨S512x256, .f32⟩
  | .local _ .vmem, ⟨17, _⟩ => ⟨S512x256, .f32⟩
  | .local _ .vmem, ⟨18, _⟩ => ⟨S2x2x256x256, .bf16⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S2x256, .f32⟩
  | .local _ .vmem, ⟨24, _⟩ => ⟨S2048x256, .f32⟩
  | .local _ .vmem, ⟨25, _⟩ => ⟨S2x256, .f32⟩
  | .local _ .vmem, ⟨26, _⟩ => ⟨S3x3x256x256, .bf16⟩
  | .local _ .vmem, ⟨27, _⟩ => ⟨S256x256, .f32⟩
  | .local _ .vmem, ⟨28, _⟩ => ⟨S2048x256, .f32⟩
  | .local _ .vmem, ⟨29, _⟩ => ⟨S2048x256, .f32⟩
  | .local _ .vmem, ⟨30, _⟩ => ⟨S2x2x256x256, .bf16⟩
  | .local _ .vmem, ⟨31, _⟩ => ⟨S2048x256, .f32⟩
  | .local _ .vmem, ⟨32, _⟩ => ⟨S2048x256, .f32⟩
  | .local _ .vmem, ⟨33, _⟩ => ⟨S2048x256, .f32⟩
  | .local _ .vmem, ⟨34, _⟩ => ⟨S2048x256, .f32⟩
  | .local _ .vmem, ⟨35, _⟩ => ⟨S2x256, .f32⟩
  | .local _ .vmem, ⟨36, _⟩ => ⟨S8192x256, .f32⟩
  | .local _ .vmem, ⟨37, _⟩ => ⟨S2x256, .f32⟩
  | .local _ .vmem, ⟨38, _⟩ => ⟨S3x3x256x256, .bf16⟩
  | .local _ .vmem, ⟨39, _⟩ => ⟨S256x256, .f32⟩
  | .local _ .vmem, ⟨40, _⟩ => ⟨S8192x256, .f32⟩
  | .local _ .vmem, ⟨41, _⟩ => ⟨S8192x256, .f32⟩
  | .local _ .vmem, ⟨42, _⟩ => ⟨S2x2x256x256, .bf16⟩
  | .local _ .vmem, ⟨43, _⟩ => ⟨S8192x256, .bf16⟩
  | .local _ .vmem, ⟨44, _⟩ => ⟨S8192x256, .bf16⟩
  | .local _ .vmem, ⟨45, _⟩ => ⟨S8192x256, .bf16⟩
  | .local _ .vmem, ⟨46, _⟩ => ⟨S8192x256, .bf16⟩
  | .local _ .vmem, ⟨47, _⟩ => ⟨S2x256, .f32⟩
  | .local _ .vmem, ⟨48, _⟩ => ⟨S4096x256, .bf16⟩
  | .local _ .vmem, ⟨49, _⟩ => ⟨S4096x256, .bf16⟩
  | .local _ .vmem, ⟨50, _⟩ => ⟨S4096x256, .bf16⟩
  | .local _ .vmem, ⟨51, _⟩ => ⟨S4096x256, .bf16⟩
  | .local _ .vmem, ⟨52, _⟩ => ⟨S4096x256, .bf16⟩
  | .local _ .vmem, ⟨53, _⟩ => ⟨S4096x256, .bf16⟩
  | .local _ .vmem, ⟨54, _⟩ => ⟨S2x256, .f32⟩
  | .local _ .vmem, ⟨55, _⟩ => ⟨S3x3x256x256, .bf16⟩
  | .local _ .vmem, ⟨56, _⟩ => ⟨S256x256, .f32⟩
  | .local _ .vmem, ⟨57, _⟩ => ⟨S4096x256, .bf16⟩
  | .local _ .vmem, ⟨58, _⟩ => ⟨S4096x256, .bf16⟩
  | .local _ .vmem, ⟨59, _⟩ => ⟨S1x2x256, .f32⟩
  | .local _ .vmem, ⟨60, _⟩ => ⟨S1x2x256, .f32⟩
  | .local _ .vmem, ⟨61, _⟩ => ⟨S4096x256, .bf16⟩
  | .local _ .vmem, ⟨62, _⟩ => ⟨S4096x256, .bf16⟩
  | .local _ .vmem, ⟨63, _⟩ => ⟨S8x2x256, .f32⟩
  | .local _ .vmem, ⟨64, _⟩ => ⟨S256x256, .f32⟩
  | .local _ .vmem, ⟨65, _⟩ => ⟨S256x16, .bf16⟩
  | .local _ .vmem, ⟨66, _⟩ => ⟨S1x16, .f32⟩
  | .local _ .vmem, ⟨67, _⟩ => ⟨S4096x16, .f32⟩
  | .local _ .vmem, ⟨68, _⟩ => ⟨S4096x16, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_3 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_5 : Ref sig .tc := ⟨.hbm, 71, rfl⟩
abbrev main_v50 : Ref sig .tc := ⟨.hbm, 72, rfl⟩
abbrev main_v51 : Ref sig .tc := ⟨.hbm, 73, rfl⟩
abbrev main_c_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_7 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_8 : Ref sig .tc := ⟨.hbm, 96, rfl⟩
abbrev main_v72 : Ref sig .tc := ⟨.hbm, 97, rfl⟩
abbrev main_v73 : Ref sig .tc := ⟨.hbm, 98, rfl⟩
abbrev main_c_9 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_10 : Ref sig .tc := ⟨.hbm, 108, rfl⟩
abbrev main_v82 : Ref sig .tc := ⟨.hbm, 109, rfl⟩
abbrev main_v83 : Ref sig .tc := ⟨.hbm, 110, rfl⟩
abbrev main_c_11 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_12 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_c_13 : Ref sig .tc := ⟨.hbm, 133, rfl⟩
abbrev main_v104 : Ref sig .tc := ⟨.hbm, 134, rfl⟩
abbrev main_v105 : Ref sig .tc := ⟨.hbm, 135, rfl⟩
abbrev main_c_14 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_c_15 : Ref sig .tc := ⟨.hbm, 145, rfl⟩
abbrev main_v114 : Ref sig .tc := ⟨.hbm, 146, rfl⟩
abbrev main_v115 : Ref sig .tc := ⟨.hbm, 147, rfl⟩
abbrev main_c_16 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_17 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_c_18 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_c_19 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_c_20 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_21 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_c_22 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_c_23 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_c_24 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_cst_25 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_c_26 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_c_27 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_c_28 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_cst_29 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_c_30 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_c_31 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_c_32 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_cst_33 : Ref sig .tc := ⟨.hbm, 323, rfl⟩
abbrev main_v274 : Ref sig .tc := ⟨.hbm, 324, rfl⟩
abbrev main_v275 : Ref sig .tc := ⟨.hbm, 325, rfl⟩
abbrev main_v276 : Ref sig .tc := ⟨.hbm, 326, rfl⟩
abbrev main_cst_34 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_c_35 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_cst_36 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_c_37 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_cst_38 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_c_39 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_v312 : Ref sig .tc := ⟨.hbm, 368, rfl⟩
abbrev main_v313 : Ref sig .tc := ⟨.hbm, 369, rfl⟩
abbrev main_v314 : Ref sig .tc := ⟨.hbm, 370, rfl⟩
abbrev main_v315 : Ref sig .tc := ⟨.hbm, 371, rfl⟩
abbrev main_cst_40 : Ref sig .tc := ⟨.hbm, 372, rfl⟩
abbrev main_v316 : Ref sig .tc := ⟨.hbm, 373, rfl⟩
abbrev main_v317 : Ref sig .tc := ⟨.hbm, 374, rfl⟩
abbrev main_v318 : Ref sig .tc := ⟨.hbm, 375, rfl⟩
abbrev main_v319 : Ref sig .tc := ⟨.hbm, 376, rfl⟩
abbrev main_c_41 : Ref sig .tc := ⟨.hbm, 377, rfl⟩
abbrev main_v320 : Ref sig .tc := ⟨.hbm, 378, rfl⟩
abbrev main_v321 : Ref sig .tc := ⟨.hbm, 379, rfl⟩
abbrev main_v322 : Ref sig .tc := ⟨.hbm, 380, rfl⟩
abbrev main_v323 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_v327 : Ref sig .tc := ⟨.hbm, 385, rfl⟩
abbrev main_v328 : Ref sig .tc := ⟨.hbm, 386, rfl⟩
abbrev main_v329 : Ref sig .tc := ⟨.hbm, 387, rfl⟩
abbrev main_v330 : Ref sig .tc := ⟨.hbm, 388, rfl⟩
abbrev main_c_42 : Ref sig .tc := ⟨.hbm, 389, rfl⟩
abbrev main_v331 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_v335 : Ref sig .tc := ⟨.hbm, 394, rfl⟩
abbrev main_v336 : Ref sig .tc := ⟨.hbm, 395, rfl⟩
abbrev main_v337 : Ref sig .tc := ⟨.hbm, 396, rfl⟩
abbrev main_v338 : Ref sig .tc := ⟨.hbm, 397, rfl⟩
abbrev main_v339 : Ref sig .tc := ⟨.hbm, 398, rfl⟩
abbrev main_v340 : Ref sig .tc := ⟨.hbm, 399, rfl⟩
abbrev main_v341 : Ref sig .tc := ⟨.hbm, 400, rfl⟩
abbrev main_v342 : Ref sig .tc := ⟨.hbm, 401, rfl⟩
abbrev main_v343 : Ref sig .tc := ⟨.hbm, 402, rfl⟩
abbrev main_v344 : Ref sig .tc := ⟨.hbm, 403, rfl⟩
abbrev main_v345 : Ref sig .tc := ⟨.hbm, 404, rfl⟩
abbrev main_v346_0 : Ref sig .tc := ⟨.hbm, 405, rfl⟩
abbrev main_v346_1 : Ref sig .tc := ⟨.hbm, 406, rfl⟩
abbrev main_v346_2 : Ref sig .tc := ⟨.hbm, 407, rfl⟩
abbrev main_v346_3 : Ref sig .tc := ⟨.hbm, 408, rfl⟩
abbrev main_v346_4 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_v358_0 : Ref sig .tc := ⟨.hbm, 421, rfl⟩
abbrev main_v358_1 : Ref sig .tc := ⟨.hbm, 422, rfl⟩
abbrev main_v358_2 : Ref sig .tc := ⟨.hbm, 423, rfl⟩
abbrev main_v358_3 : Ref sig .tc := ⟨.hbm, 424, rfl⟩
abbrev main_v358_4 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_v362 : Ref sig .tc := ⟨.hbm, 429, rfl⟩
abbrev main_v363 : Ref sig .tc := ⟨.hbm, 430, rfl⟩
abbrev main_v364 : Ref sig .tc := ⟨.hbm, 431, rfl⟩
abbrev main_v365 : Ref sig .tc := ⟨.hbm, 432, rfl⟩
abbrev main_v366 : Ref sig .tc := ⟨.hbm, 433, rfl⟩
abbrev main_v367 : Ref sig .tc := ⟨.hbm, 434, rfl⟩
abbrev main_v368 : Ref sig .tc := ⟨.hbm, 435, rfl⟩
abbrev main_v369 : Ref sig .tc := ⟨.hbm, 436, rfl⟩
abbrev main_v370_0 : Ref sig .tc := ⟨.hbm, 437, rfl⟩
abbrev main_v370_1 : Ref sig .tc := ⟨.hbm, 438, rfl⟩
abbrev main_v370_2 : Ref sig .tc := ⟨.hbm, 439, rfl⟩
abbrev main_v370_3 : Ref sig .tc := ⟨.hbm, 440, rfl⟩
abbrev main_v370_4 : Ref sig .tc := ⟨.hbm, 441, rfl⟩
abbrev main_v371 : Ref sig .tc := ⟨.hbm, 442, rfl⟩
abbrev main_v372 : Ref sig .tc := ⟨.hbm, 443, rfl⟩
abbrev main_v373 : Ref sig .tc := ⟨.hbm, 444, rfl⟩
abbrev main_v374 : Ref sig .tc := ⟨.hbm, 445, rfl⟩
abbrev main_v375 : Ref sig .tc := ⟨.hbm, 446, rfl⟩
abbrev main_v376 : Ref sig .tc := ⟨.hbm, 447, rfl⟩
abbrev main_v377 : Ref sig .tc := ⟨.hbm, 448, rfl⟩
abbrev main_v378 : Ref sig .tc := ⟨.hbm, 449, rfl⟩
abbrev main_v379 : Ref sig .tc := ⟨.hbm, 450, rfl⟩
abbrev main_v380 : Ref sig .tc := ⟨.hbm, 451, rfl⟩
abbrev main_v381 : Ref sig .tc := ⟨.hbm, 452, rfl⟩
abbrev main_v382_0 : Ref sig .tc := ⟨.hbm, 453, rfl⟩
abbrev main_v382_1 : Ref sig .tc := ⟨.hbm, 454, rfl⟩
abbrev main_v382_2 : Ref sig .tc := ⟨.hbm, 455, rfl⟩
abbrev main_v382_3 : Ref sig .tc := ⟨.hbm, 456, rfl⟩
abbrev main_v382_4 : Ref sig .tc := ⟨.hbm, 457, rfl⟩
abbrev main_v383 : Ref sig .tc := ⟨.hbm, 458, rfl⟩
abbrev main_v384 : Ref sig .tc := ⟨.hbm, 459, rfl⟩
abbrev main_v385 : Ref sig .tc := ⟨.hbm, 460, rfl⟩
abbrev main_v386 : Ref sig .tc := ⟨.hbm, 461, rfl⟩
abbrev main_v387 : Ref sig .tc := ⟨.hbm, 462, rfl⟩
abbrev main_v388 : Ref sig .tc := ⟨.hbm, 463, rfl⟩
abbrev main_v389 : Ref sig .tc := ⟨.hbm, 464, rfl⟩
abbrev main_v390 : Ref sig .tc := ⟨.hbm, 465, rfl⟩
abbrev main_v391_0 : Ref sig .tc := ⟨.hbm, 466, rfl⟩
abbrev main_v391_1 : Ref sig .tc := ⟨.hbm, 467, rfl⟩
abbrev main_v392 : Ref sig .tc := ⟨.hbm, 468, rfl⟩
abbrev main_v393 : Ref sig .tc := ⟨.hbm, 469, rfl⟩
abbrev main_v394 : Ref sig .tc := ⟨.hbm, 470, rfl⟩
abbrev main_v395 : Ref sig .tc := ⟨.hbm, 471, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg6_0 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg4_0 : Ref sig .tc := ⟨.vmem, 40, rfl⟩
abbrev cc7_stg0_0 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg3_0 : Ref sig .tc := ⟨.vmem, 44, rfl⟩
abbrev cc7_stg4_0 : Ref sig .tc := ⟨.vmem, 45, rfl⟩
abbrev cc7_stg5_0 : Ref sig .tc := ⟨.vmem, 46, rfl⟩
abbrev cc7_stg6_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc8_stg3_0 : Ref sig .tc := ⟨.vmem, 54, rfl⟩
abbrev cc8_stg4_0 : Ref sig .tc := ⟨.vmem, 55, rfl⟩
abbrev cc8_stg5_0 : Ref sig .tc := ⟨.vmem, 56, rfl⟩
abbrev cc8_stg6_0 : Ref sig .tc := ⟨.vmem, 57, rfl⟩
abbrev cc8_stg6_1 : Ref sig .tc := ⟨.vmem, 58, rfl⟩
abbrev cc8_stg7_0 : Ref sig .tc := ⟨.vmem, 59, rfl⟩
abbrev cc8_stg7_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg2_0 : Ref sig .tc := ⟨.vmem, 64, rfl⟩
abbrev cc9_stg3_0 : Ref sig .tc := ⟨.vmem, 65, rfl⟩
abbrev cc9_stg4_0 : Ref sig .tc := ⟨.vmem, 66, rfl⟩
abbrev cc9_stg5_0 : Ref sig .tc := ⟨.vmem, 67, rfl⟩
abbrev cc9_stg5_1 : Ref sig .tc := ⟨.vmem, 68, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem6_0 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc5_sem0_0 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem6_0 : DmaSem sig := 35
abbrev cc6_sem0_0 : DmaSem sig := 36
abbrev cc6_sem1_0 : DmaSem sig := 37
abbrev cc6_sem2_0 : DmaSem sig := 38
abbrev cc6_sem3_0 : DmaSem sig := 39
abbrev cc6_sem4_0 : DmaSem sig := 40
abbrev cc7_sem0_0 : DmaSem sig := 41
abbrev cc7_sem1_0 : DmaSem sig := 42
abbrev cc7_sem2_0 : DmaSem sig := 43
abbrev cc7_sem3_0 : DmaSem sig := 44
abbrev cc7_sem4_0 : DmaSem sig := 45
abbrev cc7_sem5_0 : DmaSem sig := 46
abbrev cc7_sem6_0 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc8_sem3_0 : DmaSem sig := 54
abbrev cc8_sem4_0 : DmaSem sig := 55
abbrev cc8_sem5_0 : DmaSem sig := 56
abbrev cc8_sem6_0 : DmaSem sig := 57
abbrev cc8_sem6_1 : DmaSem sig := 58
abbrev cc8_sem7_0 : DmaSem sig := 59
abbrev cc8_sem7_1 : DmaSem sig := 60
abbrev cc9_sem0_0 : DmaSem sig := 61
abbrev cc9_sem0_1 : DmaSem sig := 62
abbrev cc9_sem1_0 : DmaSem sig := 63
abbrev cc9_sem2_0 : DmaSem sig := 64
abbrev cc9_sem3_0 : DmaSem sig := 65
abbrev cc9_sem4_0 : DmaSem sig := 66
abbrev cc9_sem5_0 : DmaSem sig := 67
abbrev cc9_sem5_1 : DmaSem sig := 68

abbrev nD : Nat := 1
abbrev τ : Topo := Topo.v7x

variable {F : FTy → Type} [FloatOps F]

abbrev grid0 : Pipeline.Grid := .none

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S128x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x2x256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := .none

abbrev stage2_0 : Fin 1 → Memref sig .tc .vmem S512x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S3x3x256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := .none

abbrev stage3_0 : Fin 1 → Memref sig .tc .vmem S512x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S2x2x256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S512x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S512x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S512x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S512x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S2x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev grid4 : Pipeline.Grid := .none

abbrev stage4_0 : Fin 1 → Memref sig .tc .vmem S2048x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S2x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S3x3x256x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S2048x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev grid5 : Pipeline.Grid := .none

abbrev stage5_0 : Fin 1 → Memref sig .tc .vmem S2048x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S2x2x256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S2048x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S2048x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S2048x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S2048x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S2x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev grid6 : Pipeline.Grid := .none

abbrev stage6_0 : Fin 1 → Memref sig .tc .vmem S8192x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S2x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S3x3x256x256 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S8192x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev grid7 : Pipeline.Grid := .none

abbrev stage7_0 : Fin 1 → Memref sig .tc .vmem S8192x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S2x2x256x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S8192x256 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S8192x256 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S8192x256 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S8192x256 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S2x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev grid8 : Pipeline.Grid := ⟨1, ![8], ![false]⟩

def cc8_transform_0 (i : grid8.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S4096x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4096x256 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S2x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S3x3x256x256 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S256x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S4096x256 .bf16 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S1x2x256 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x256 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S8x2x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S256x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x16 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x16 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S4096x16 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]
-- ==== ReferenceIdeal.lean ====
abbrev S128x256 : Shape := ⟨2, ![128, 256]⟩
abbrev S256x2048 : Shape := ⟨2, ![256, 2048]⟩
abbrev S2048 : Shape := ⟨1, ![2048]⟩
abbrev S3x3x3x256x256 : Shape := ⟨5, ![3, 3, 3, 256, 256]⟩
abbrev S2x2x2x256x128 : Shape := ⟨5, ![2, 2, 2, 256, 128]⟩
abbrev S3x3x3x128x128 : Shape := ⟨5, ![3, 3, 3, 128, 128]⟩
abbrev S2x2x2x128x64 : Shape := ⟨5, ![2, 2, 2, 128, 64]⟩
abbrev S3x3x3x64x64 : Shape := ⟨5, ![3, 3, 3, 64, 64]⟩
abbrev S2x2x2x64x32 : Shape := ⟨5, ![2, 2, 2, 64, 32]⟩
abbrev S3x3x3x32x32 : Shape := ⟨5, ![3, 3, 3, 32, 32]⟩
abbrev S2x2x2x32x16 : Shape := ⟨5, ![2, 2, 2, 32, 16]⟩
abbrev S3x3x3x16x16 : Shape := ⟨5, ![3, 3, 3, 16, 16]⟩
abbrev S16x1 : Shape := ⟨2, ![16, 1]⟩
abbrev S1 : Shape := ⟨1, ![1]⟩
abbrev S128x2048 : Shape := ⟨2, ![128, 2048]⟩
abbrev S1x2048 : Shape := ⟨2, ![1, 2048]⟩
abbrev S_ : Shape := ⟨0, ![]⟩
abbrev S128x256x2x2x2 : Shape := ⟨5, ![128, 256, 2, 2, 2]⟩
abbrev S2x2x2x256x256 : Shape := ⟨5, ![2, 2, 2, 256, 256]⟩
abbrev S128x256x1x1x1 : Shape := ⟨5, ![128, 256, 1, 1, 1]⟩
abbrev S256 : Shape := ⟨1, ![256]⟩
abbrev S1x256x1x1x1 : Shape := ⟨5, ![1, 256, 1, 1, 1]⟩
abbrev S2x2x2x128x128x1x1x1 : Shape := ⟨8, ![2, 2, 2, 128, 128, 1, 1, 1]⟩
abbrev S128x128x1x2x1x2x1x2 : Shape := ⟨8, ![128, 128, 1, 2, 1, 2, 1, 2]⟩
abbrev S128x128x2x2x2 : Shape := ⟨5, ![128, 128, 2, 2, 2]⟩
abbrev S128 : Shape := ⟨1, ![128]⟩
abbrev S1x128x1x1x1 : Shape := ⟨5, ![1, 128, 1, 1, 1]⟩
abbrev S128x128x4x4x4 : Shape := ⟨5, ![128, 128, 4, 4, 4]⟩
abbrev S1x1x1x128x128 : Shape := ⟨5, ![1, 1, 1, 128, 128]⟩
abbrev S128x128 : Shape := ⟨2, ![128, 128]⟩
abbrev S2x2x2x64x128x2x2x2 : Shape := ⟨8, ![2, 2, 2, 64, 128, 2, 2, 2]⟩
abbrev S128x64x2x2x2x2x2x2 : Shape := ⟨8, ![128, 64, 2, 2, 2, 2, 2, 2]⟩
abbrev S128x64x4x4x4 : Shape := ⟨5, ![128, 64, 4, 4, 4]⟩
abbrev S64 : Shape := ⟨1, ![64]⟩
abbrev S1x64x1x1x1 : Shape := ⟨5, ![1, 64, 1, 1, 1]⟩
abbrev S128x64x6x6x6 : Shape := ⟨5, ![128, 64, 6, 6, 6]⟩
abbrev S1x1x1x64x64 : Shape := ⟨5, ![1, 1, 1, 64, 64]⟩
abbrev S64x64 : Shape := ⟨2, ![64, 64]⟩
abbrev S64x128x4x4x4 : Shape := ⟨5, ![64, 128, 4, 4, 4]⟩
abbrev S2x2x2x32x128x4x4x4 : Shape := ⟨8, ![2, 2, 2, 32, 128, 4, 4, 4]⟩
abbrev S128x32x4x2x4x2x4x2 : Shape := ⟨8, ![128, 32, 4, 2, 4, 2, 4, 2]⟩
abbrev S128x32x8x8x8 : Shape := ⟨5, ![128, 32, 8, 8, 8]⟩
abbrev S32 : Shape := ⟨1, ![32]⟩
abbrev S1x32x1x1x1 : Shape := ⟨5, ![1, 32, 1, 1, 1]⟩
abbrev S128x32x10x10x10 : Shape := ⟨5, ![128, 32, 10, 10, 10]⟩
abbrev S1x1x1x32x32 : Shape := ⟨5, ![1, 1, 1, 32, 32]⟩
abbrev S32x32 : Shape := ⟨2, ![32, 32]⟩
abbrev S32x128x8x8x8 : Shape := ⟨5, ![32, 128, 8, 8, 8]⟩
abbrev S2x2x2x16x128x8x8x8 : Shape := ⟨8, ![2, 2, 2, 16, 128, 8, 8, 8]⟩
abbrev S128x16x8x2x8x2x8x2 : Shape := ⟨8, ![128, 16, 8, 2, 8, 2, 8, 2]⟩
abbrev S128x16x16x16x16 : Shape := ⟨5, ![128, 16, 16, 16, 16]⟩
abbrev S16 : Shape := ⟨1, ![16]⟩
abbrev S1x16x1x1x1 : Shape := ⟨5, ![1, 16, 1, 1, 1]⟩
abbrev S128x16x18x18x18 : Shape := ⟨5, ![128, 16, 18, 18, 18]⟩
abbrev S1x1x1x16x16 : Shape := ⟨5, ![1, 1, 1, 16, 16]⟩
abbrev S16x16 : Shape := ⟨2, ![16, 16]⟩
abbrev S16x128x16x16x16 : Shape := ⟨5, ![16, 128, 16, 16, 16]⟩
abbrev S1x128x16x16x16 : Shape := ⟨5, ![1, 128, 16, 16, 16]⟩
abbrev S128x1x16x16x16 : Shape := ⟨5, ![128, 1, 16, 16, 16]⟩
abbrev S1x1x1x1x1 : Shape := ⟨5, ![1, 1, 1, 1, 1]⟩

abbrev nBuf : Space → Nat
  | .hbm => 1010
  | .vmem => 0
  | .smem => 0
  | _ => 0

abbrev hbmTy0_0 (i : Nat) : BufTy := match i % 128 with
  | 0 => ⟨S128x256, .f32⟩
  | 1 => ⟨S256x2048, .f32⟩
  | 2 => ⟨S2048, .f32⟩
  | 3 => ⟨S3x3x3x256x256, .f32⟩
  | 4 => ⟨S2x2x2x256x128, .f32⟩
  | 5 => ⟨S3x3x3x128x128, .f32⟩
  | 6 => ⟨S2x2x2x128x64, .f32⟩
  | 7 => ⟨S3x3x3x64x64, .f32⟩
  | 8 => ⟨S2x2x2x64x32, .f32⟩
  | 9 => ⟨S3x3x3x32x32, .f32⟩
  | 10 => ⟨S2x2x2x32x16, .f32⟩
  | 11 => ⟨S3x3x3x16x16, .f32⟩
  | 12 => ⟨S16x1, .f32⟩
  | 13 => ⟨S1, .f32⟩
  | 14 => ⟨S128x2048, .f32⟩
  | 15 => ⟨S1x2048, .f32⟩
  | 16 => ⟨S128x2048, .f32⟩
  | 17 => ⟨S128x2048, .f32⟩
  | 18 => ⟨S_, .f32⟩
  | 19 => ⟨S128x2048, .f32⟩
  | 20 => ⟨S128x2048, .i1⟩
  | 21 => ⟨S_, .f32⟩
  | 22 => ⟨S128x2048, .f32⟩
  | 23 => ⟨S128x2048, .f32⟩
  | 24 => ⟨S128x2048, .f32⟩
  | 25 => ⟨S128x256x2x2x2, .f32⟩
  | 26 => ⟨S2x2x2x256x256, .f32⟩
  | 27 => ⟨S128x256, .f32⟩
  | 28 => ⟨S128x256x1x1x1, .f32⟩
  | 29 => ⟨S_, .f32⟩
  | 30 => ⟨S256, .f32⟩
  | 31 => ⟨S1x256x1x1x1, .f32⟩
  | 32 => ⟨S_, .f32⟩
  | 33 => ⟨S1x256x1x1x1, .f32⟩
  | 34 => ⟨S1x256x1x1x1, .f32⟩
  | 35 => ⟨S128x256x1x1x1, .f32⟩
  | 36 => ⟨S128x256x1x1x1, .f32⟩
  | 37 => ⟨S128x256x1x1x1, .f32⟩
  | 38 => ⟨S128x256x1x1x1, .f32⟩
  | 39 => ⟨S128x256x1x1x1, .f32⟩
  | 40 => ⟨S_, .f32⟩
  | 41 => ⟨S256, .f32⟩
  | 42 => ⟨S1x256x1x1x1, .f32⟩
  | 43 => ⟨S_, .f32⟩
  | 44 => ⟨S1x256x1x1x1, .f32⟩
  | 45 => ⟨S1x256x1x1x1, .f32⟩
  | 46 => ⟨S128x256x1x1x1, .f32⟩
  | 47 => ⟨S128x256x1x1x1, .f32⟩
  | 48 => ⟨S_, .f32⟩
  | 49 => ⟨S1x256x1x1x1, .f32⟩
  | 50 => ⟨S1x256x1x1x1, .f32⟩
  | 51 => ⟨S1x256x1x1x1, .f32⟩
  | 52 => ⟨S128x256x1x1x1, .f32⟩
  | 53 => ⟨S128x256x1x1x1, .f32⟩
  | 54 => ⟨S_, .f32⟩
  | 55 => ⟨S128x256x1x1x1, .f32⟩
  | 56 => ⟨S128x256x1x1x1, .i1⟩
  | 57 => ⟨S_, .f32⟩
  | 58 => ⟨S128x256x1x1x1, .f32⟩
  | 59 => ⟨S128x256x1x1x1, .f32⟩
  | 60 => ⟨S128x256x1x1x1, .f32⟩
  | 61 => ⟨S2x2x2x128x128x1x1x1, .f32⟩
  | 62 => ⟨S128x128x1x2x1x2x1x2, .f32⟩
  | 63 => ⟨S128x128x2x2x2, .f32⟩
  | 64 => ⟨S_, .f32⟩
  | 65 => ⟨S128, .f32⟩
  | 66 => ⟨S1x128x1x1x1, .f32⟩
  | 67 => ⟨S_, .f32⟩
  | 68 => ⟨S1x128x1x1x1, .f32⟩
  | 69 => ⟨S1x128x1x1x1, .f32⟩
  | 70 => ⟨S128x128x2x2x2, .f32⟩
  | 71 => ⟨S128x128x2x2x2, .f32⟩
  | 72 => ⟨S128x128x2x2x2, .f32⟩
  | 73 => ⟨S128x128x2x2x2, .f32⟩
  | 74 => ⟨S128x128x2x2x2, .f32⟩
  | 75 => ⟨S_, .f32⟩
  | 76 => ⟨S128, .f32⟩
  | 77 => ⟨S1x128x1x1x1, .f32⟩
  | 78 => ⟨S_, .f32⟩
  | 79 => ⟨S1x128x1x1x1, .f32⟩
  | 80 => ⟨S1x128x1x1x1, .f32⟩
  | 81 => ⟨S128x128x2x2x2, .f32⟩
  | 82 => ⟨S128x128x2x2x2, .f32⟩
  | 83 => ⟨S_, .f32⟩
  | 84 => ⟨S1x128x1x1x1, .f32⟩
  | 85 => ⟨S1x128x1x1x1, .f32⟩
  | 86 => ⟨S1x128x1x1x1, .f32⟩
  | 87 => ⟨S128x128x2x2x2, .f32⟩
  | 88 => ⟨S128x128x2x2x2, .f32⟩
  | 89 => ⟨S_, .f32⟩
  | 90 => ⟨S128x128x2x2x2, .f32⟩
  | 91 => ⟨S128x128x2x2x2, .i1⟩
  | 92 => ⟨S_, .f32⟩
  | 93 => ⟨S128x128x2x2x2, .f32⟩
  | 94 => ⟨S128x128x2x2x2, .f32⟩
  | 95 => ⟨S128x128x2x2x2, .f32⟩
  | 96 => ⟨S_, .i32⟩
  | 97 => ⟨S_, .f32⟩
  | 98 => ⟨S128x128x4x4x4, .f32⟩
  | 99 => ⟨S128x128x2x2x2, .f32⟩
  | 100 => ⟨S1x1x1x128x128, .f32⟩
  | 101 => ⟨S128x128, .f32⟩
  | 102 => ⟨S128x128x2x2x2, .f32⟩
  | 103 => ⟨S128x128x2x2x2, .f32⟩
  | 104 => ⟨S_, .f32⟩
  | 105 => ⟨S128x128x2x2x2, .f32⟩
  | 106 => ⟨S128x128x2x2x2, .f32⟩
  | 107 => ⟨S128x128x2x2x2, .f32⟩
  | 108 => ⟨S1x1x1x128x128, .f32⟩
  | 109 => ⟨S128x128, .f32⟩
  | 110 => ⟨S128x128x2x2x2, .f32⟩
  | 111 => ⟨S128x128x2x2x2, .f32⟩
  | 112 => ⟨S128x128x2x2x2, .f32⟩
  | 113 => ⟨S128x128x2x2x2, .f32⟩
  | 114 => ⟨S1x1x1x128x128, .f32⟩
  | 115 => ⟨S128x128, .f32⟩
  | 116 => ⟨S128x128x2x2x2, .f32⟩
  | 117 => ⟨S128x128x2x2x2, .f32⟩
  | 118 => ⟨S128x128x2x2x2, .f32⟩
  | 119 => ⟨S128x128x2x2x2, .f32⟩
  | 120 => ⟨S1x1x1x128x128, .f32⟩
  | 121 => ⟨S128x128, .f32⟩
  | 122 => ⟨S128x128x2x2x2, .f32⟩
  | 123 => ⟨S128x128x2x2x2, .f32⟩
  | 124 => ⟨S128x128x2x2x2, .f32⟩
  | 125 => ⟨S128x128x2x2x2, .f32⟩
  | 126 => ⟨S1x1x1x128x128, .f32⟩
  | 127 => ⟨S128x128, .f32⟩
  | _ => ⟨S128x256, .f32⟩

abbrev hbmTy0_1 (i : Nat) : BufTy := match i % 128 with
  | 0 => ⟨S128x128x2x2x2, .f32⟩
  | 1 => ⟨S128x128x2x2x2, .f32⟩
  | 2 => ⟨S128x128x2x2x2, .f32⟩
  | 3 => ⟨S128x128x2x2x2, .f32⟩
  | 4 => ⟨S1x1x1x128x128, .f32⟩
  | 5 => ⟨S128x128, .f32⟩
  | 6 => ⟨S128x128x2x2x2, .f32⟩
  | 7 => ⟨S128x128x2x2x2, .f32⟩
  | 8 => ⟨S128x128x2x2x2, .f32⟩
  | 9 => ⟨S128x128x2x2x2, .f32⟩
  | 10 => ⟨S1x1x1x128x128, .f32⟩
  | 11 => ⟨S128x128, .f32⟩
  | 12 => ⟨S128x128x2x2x2, .f32⟩
  | 13 => ⟨S128x128x2x2x2, .f32⟩
  | 14 => ⟨S128x128x2x2x2, .f32⟩
  | 15 => ⟨S128x128x2x2x2, .f32⟩
  | 16 => ⟨S1x1x1x128x128, .f32⟩
  | 17 => ⟨S128x128, .f32⟩
  | 18 => ⟨S128x128x2x2x2, .f32⟩
  | 19 => ⟨S128x128x2x2x2, .f32⟩
  | 20 => ⟨S128x128x2x2x2, .f32⟩
  | 21 => ⟨S128x128x2x2x2, .f32⟩
  | 22 => ⟨S1x1x1x128x128, .f32⟩
  | 23 => ⟨S128x128, .f32⟩
  | 24 => ⟨S128x128x2x2x2, .f32⟩
  | 25 => ⟨S128x128x2x2x2, .f32⟩
  | 26 => ⟨S128x128x2x2x2, .f32⟩
  | 27 => ⟨S128x128x2x2x2, .f32⟩
  | 28 => ⟨S1x1x1x128x128, .f32⟩
  | 29 => ⟨S128x128, .f32⟩
  | 30 => ⟨S128x128x2x2x2, .f32⟩
  | 31 => ⟨S128x128x2x2x2, .f32⟩
  | 32 => ⟨S128x128x2x2x2, .f32⟩
  | 33 => ⟨S128x128x2x2x2, .f32⟩
  | 34 => ⟨S1x1x1x128x128, .f32⟩
  | 35 => ⟨S128x128, .f32⟩
  | 36 => ⟨S128x128x2x2x2, .f32⟩
  | 37 => ⟨S128x128x2x2x2, .f32⟩
  | 38 => ⟨S128x128x2x2x2, .f32⟩
  | 39 => ⟨S128x128x2x2x2, .f32⟩
  | 40 => ⟨S1x1x1x128x128, .f32⟩
  | 41 => ⟨S128x128, .f32⟩
  | 42 => ⟨S128x128x2x2x2, .f32⟩
  | 43 => ⟨S128x128x2x2x2, .f32⟩
  | 44 => ⟨S128x128x2x2x2, .f32⟩
  | 45 => ⟨S128x128x2x2x2, .f32⟩
  | 46 => ⟨S1x1x1x128x128, .f32⟩
  | 47 => ⟨S128x128, .f32⟩
  | 48 => ⟨S128x128x2x2x2, .f32⟩
  | 49 => ⟨S128x128x2x2x2, .f32⟩
  | 50 => ⟨S128x128x2x2x2, .f32⟩
  | 51 => ⟨S128x128x2x2x2, .f32⟩
  | 52 => ⟨S1x1x1x128x128, .f32⟩
  | 53 => ⟨S128x128, .f32⟩
  | 54 => ⟨S128x128x2x2x2, .f32⟩
  | 55 => ⟨S128x128x2x2x2, .f32⟩
  | 56 => ⟨S128x128x2x2x2, .f32⟩
  | 57 => ⟨S128x128x2x2x2, .f32⟩
  | 58 => ⟨S1x1x1x128x128, .f32⟩
  | 59 => ⟨S128x128, .f32⟩
  | 60 => ⟨S128x128x2x2x2, .f32⟩
  | 61 => ⟨S128x128x2x2x2, .f32⟩
  | 62 => ⟨S128x128x2x2x2, .f32⟩
  | 63 => ⟨S128x128x2x2x2, .f32⟩
  | 64 => ⟨S1x1x1x128x128, .f32⟩
  | 65 => ⟨S128x128, .f32⟩
  | 66 => ⟨S128x128x2x2x2, .f32⟩
  | 67 => ⟨S128x128x2x2x2, .f32⟩
  | 68 => ⟨S128x128x2x2x2, .f32⟩
  | 69 => ⟨S128x128x2x2x2, .f32⟩
  | 70 => ⟨S1x1x1x128x128, .f32⟩
  | 71 => ⟨S128x128, .f32⟩
  | 72 => ⟨S128x128x2x2x2, .f32⟩
  | 73 => ⟨S128x128x2x2x2, .f32⟩
  | 74 => ⟨S128x128x2x2x2, .f32⟩
  | 75 => ⟨S128x128x2x2x2, .f32⟩
  | 76 => ⟨S1x1x1x128x128, .f32⟩
  | 77 => ⟨S128x128, .f32⟩
  | 78 => ⟨S128x128x2x2x2, .f32⟩
  | 79 => ⟨S128x128x2x2x2, .f32⟩
  | 80 => ⟨S128x128x2x2x2, .f32⟩
  | 81 => ⟨S128x128x2x2x2, .f32⟩
  | 82 => ⟨S1x1x1x128x128, .f32⟩
  | 83 => ⟨S128x128, .f32⟩
  | 84 => ⟨S128x128x2x2x2, .f32⟩
  | 85 => ⟨S128x128x2x2x2, .f32⟩
  | 86 => ⟨S128x128x2x2x2, .f32⟩
  | 87 => ⟨S128x128x2x2x2, .f32⟩
  | 88 => ⟨S1x1x1x128x128, .f32⟩
  | 89 => ⟨S128x128, .f32⟩
  | 90 => ⟨S128x128x2x2x2, .f32⟩
  | 91 => ⟨S128x128x2x2x2, .f32⟩
  | 92 => ⟨S128x128x2x2x2, .f32⟩
  | 93 => ⟨S128x128x2x2x2, .f32⟩
  | 94 => ⟨S1x1x1x128x128, .f32⟩
  | 95 => ⟨S128x128, .f32⟩
  | 96 => ⟨S128x128x2x2x2, .f32⟩
  | 97 => ⟨S128x128x2x2x2, .f32⟩
  | 98 => ⟨S128x128x2x2x2, .f32⟩
  | 99 => ⟨S128x128x2x2x2, .f32⟩
  | 100 => ⟨S1x1x1x128x128, .f32⟩
  | 101 => ⟨S128x128, .f32⟩
  | 102 => ⟨S128x128x2x2x2, .f32⟩
  | 103 => ⟨S128x128x2x2x2, .f32⟩
  | 104 => ⟨S128x128x2x2x2, .f32⟩
  | 105 => ⟨S128x128x2x2x2, .f32⟩
  | 106 => ⟨S1x1x1x128x128, .f32⟩
  | 107 => ⟨S128x128, .f32⟩
  | 108 => ⟨S128x128x2x2x2, .f32⟩
  | 109 => ⟨S128x128x2x2x2, .f32⟩
  | 110 => ⟨S128x128x2x2x2, .f32⟩
  | 111 => ⟨S128x128x2x2x2, .f32⟩
  | 112 => ⟨S1x1x1x128x128, .f32⟩
  | 113 => ⟨S128x128, .f32⟩
  | 114 => ⟨S128x128x2x2x2, .f32⟩
  | 115 => ⟨S128x128x2x2x2, .f32⟩
  | 116 => ⟨S128x128x2x2x2, .f32⟩
  | 117 => ⟨S128x128x2x2x2, .f32⟩
  | 118 => ⟨S1x1x1x128x128, .f32⟩
  | 119 => ⟨S128x128, .f32⟩
  | 120 => ⟨S128x128x2x2x2, .f32⟩
  | 121 => ⟨S128x128x2x2x2, .f32⟩
  | 122 => ⟨S128x128x2x2x2, .f32⟩
  | 123 => ⟨S128x128x2x2x2, .f32⟩
  | 124 => ⟨S1x1x1x128x128, .f32⟩
  | 125 => ⟨S128x128, .f32⟩
  | 126 => ⟨S128x128x2x2x2, .f32⟩
  | 127 => ⟨S128x128x2x2x2, .f32⟩
  | _ => ⟨S128x256, .f32⟩

abbrev hbmTy0_2 (i : Nat) : BufTy := match i % 128 with
  | 0 => ⟨S128x128x2x2x2, .f32⟩
  | 1 => ⟨S128x128x2x2x2, .f32⟩
  | 2 => ⟨S1x1x1x128x128, .f32⟩
  | 3 => ⟨S128x128, .f32⟩
  | 4 => ⟨S128x128x2x2x2, .f32⟩
  | 5 => ⟨S128x128x2x2x2, .f32⟩
  | 6 => ⟨S128x128x2x2x2, .f32⟩
  | 7 => ⟨S_, .f32⟩
  | 8 => ⟨S128, .f32⟩
  | 9 => ⟨S1x128x1x1x1, .f32⟩
  | 10 => ⟨S_, .f32⟩
  | 11 => ⟨S1x128x1x1x1, .f32⟩
  | 12 => ⟨S1x128x1x1x1, .f32⟩
  | 13 => ⟨S128x128x2x2x2, .f32⟩
  | 14 => ⟨S128x128x2x2x2, .f32⟩
  | 15 => ⟨S128x128x2x2x2, .f32⟩
  | 16 => ⟨S128x128x2x2x2, .f32⟩
  | 17 => ⟨S128x128x2x2x2, .f32⟩
  | 18 => ⟨S_, .f32⟩
  | 19 => ⟨S128, .f32⟩
  | 20 => ⟨S1x128x1x1x1, .f32⟩
  | 21 => ⟨S_, .f32⟩
  | 22 => ⟨S1x128x1x1x1, .f32⟩
  | 23 => ⟨S1x128x1x1x1, .f32⟩
  | 24 => ⟨S128x128x2x2x2, .f32⟩
  | 25 => ⟨S128x128x2x2x2, .f32⟩
  | 26 => ⟨S_, .f32⟩
  | 27 => ⟨S1x128x1x1x1, .f32⟩
  | 28 => ⟨S1x128x1x1x1, .f32⟩
  | 29 => ⟨S1x128x1x1x1, .f32⟩
  | 30 => ⟨S128x128x2x2x2, .f32⟩
  | 31 => ⟨S128x128x2x2x2, .f32⟩
  | 32 => ⟨S_, .f32⟩
  | 33 => ⟨S128x128x2x2x2, .f32⟩
  | 34 => ⟨S128x128x2x2x2, .i1⟩
  | 35 => ⟨S_, .f32⟩
  | 36 => ⟨S128x128x2x2x2, .f32⟩
  | 37 => ⟨S128x128x2x2x2, .f32⟩
  | 38 => ⟨S128x128x2x2x2, .f32⟩
  | 39 => ⟨S2x2x2x64x128x2x2x2, .f32⟩
  | 40 => ⟨S128x64x2x2x2x2x2x2, .f32⟩
  | 41 => ⟨S128x64x4x4x4, .f32⟩
  | 42 => ⟨S_, .f32⟩
  | 43 => ⟨S64, .f32⟩
  | 44 => ⟨S1x64x1x1x1, .f32⟩
  | 45 => ⟨S_, .f32⟩
  | 46 => ⟨S1x64x1x1x1, .f32⟩
  | 47 => ⟨S1x64x1x1x1, .f32⟩
  | 48 => ⟨S128x64x4x4x4, .f32⟩
  | 49 => ⟨S128x64x4x4x4, .f32⟩
  | 50 => ⟨S128x64x4x4x4, .f32⟩
  | 51 => ⟨S128x64x4x4x4, .f32⟩
  | 52 => ⟨S128x64x4x4x4, .f32⟩
  | 53 => ⟨S_, .f32⟩
  | 54 => ⟨S64, .f32⟩
  | 55 => ⟨S1x64x1x1x1, .f32⟩
  | 56 => ⟨S_, .f32⟩
  | 57 => ⟨S1x64x1x1x1, .f32⟩
  | 58 => ⟨S1x64x1x1x1, .f32⟩
  | 59 => ⟨S128x64x4x4x4, .f32⟩
  | 60 => ⟨S128x64x4x4x4, .f32⟩
  | 61 => ⟨S_, .f32⟩
  | 62 => ⟨S1x64x1x1x1, .f32⟩
  | 63 => ⟨S1x64x1x1x1, .f32⟩
  | 64 => ⟨S1x64x1x1x1, .f32⟩
  | 65 => ⟨S128x64x4x4x4, .f32⟩
  | 66 => ⟨S128x64x4x4x4, .f32⟩
  | 67 => ⟨S_, .f32⟩
  | 68 => ⟨S128x64x4x4x4, .f32⟩
  | 69 => ⟨S128x64x4x4x4, .i1⟩
  | 70 => ⟨S_, .f32⟩
  | 71 => ⟨S128x64x4x4x4, .f32⟩
  | 72 => ⟨S128x64x4x4x4, .f32⟩
  | 73 => ⟨S128x64x4x4x4, .f32⟩
  | 74 => ⟨S_, .i32⟩
  | 75 => ⟨S_, .f32⟩
  | 76 => ⟨S128x64x6x6x6, .f32⟩
  | 77 => ⟨S128x64x4x4x4, .f32⟩
  | 78 => ⟨S1x1x1x64x64, .f32⟩
  | 79 => ⟨S64x64, .f32⟩
  | 80 => ⟨S64x128x4x4x4, .f32⟩
  | 81 => ⟨S128x64x4x4x4, .f32⟩
  | 82 => ⟨S_, .f32⟩
  | 83 => ⟨S128x64x4x4x4, .f32⟩
  | 84 => ⟨S128x64x4x4x4, .f32⟩
  | 85 => ⟨S128x64x4x4x4, .f32⟩
  | 86 => ⟨S1x1x1x64x64, .f32⟩
  | 87 => ⟨S64x64, .f32⟩
  | 88 => ⟨S64x128x4x4x4, .f32⟩
  | 89 => ⟨S128x64x4x4x4, .f32⟩
  | 90 => ⟨S128x64x4x4x4, .f32⟩
  | 91 => ⟨S128x64x4x4x4, .f32⟩
  | 92 => ⟨S1x1x1x64x64, .f32⟩
  | 93 => ⟨S64x64, .f32⟩
  | 94 => ⟨S64x128x4x4x4, .f32⟩
  | 95 => ⟨S128x64x4x4x4, .f32⟩
  | 96 => ⟨S128x64x4x4x4, .f32⟩
  | 97 => ⟨S128x64x4x4x4, .f32⟩
  | 98 => ⟨S1x1x1x64x64, .f32⟩
  | 99 => ⟨S64x64, .f32⟩
  | 100 => ⟨S64x128x4x4x4, .f32⟩
  | 101 => ⟨S128x64x4x4x4, .f32⟩
  | 102 => ⟨S128x64x4x4x4, .f32⟩
  | 103 => ⟨S128x64x4x4x4, .f32⟩
  | 104 => ⟨S1x1x1x64x64, .f32⟩
  | 105 => ⟨S64x64, .f32⟩
  | 106 => ⟨S64x128x4x4x4, .f32⟩
  | 107 => ⟨S128x64x4x4x4, .f32⟩
  | 108 => ⟨S128x64x4x4x4, .f32⟩
  | 109 => ⟨S128x64x4x4x4, .f32⟩
  | 110 => ⟨S1x1x1x64x64, .f32⟩
  | 111 => ⟨S64x64, .f32⟩
  | 112 => ⟨S64x128x4x4x4, .f32⟩
  | 113 => ⟨S128x64x4x4x4, .f32⟩
  | 114 => ⟨S128x64x4x4x4, .f32⟩
  | 115 => ⟨S128x64x4x4x4, .f32⟩
  | 116 => ⟨S1x1x1x64x64, .f32⟩
  | 117 => ⟨S64x64, .f32⟩
  | 118 => ⟨S64x128x4x4x4, .f32⟩
  | 119 => ⟨S128x64x4x4x4, .f32⟩
  | 120 => ⟨S128x64x4x4x4, .f32⟩
  | 121 => ⟨S128x64x4x4x4, .f32⟩
  | 122 => ⟨S1x1x1x64x64, .f32⟩
  | 123 => ⟨S64x64, .f32⟩
  | 124 => ⟨S64x128x4x4x4, .f32⟩
  | 125 => ⟨S128x64x4x4x4, .f32⟩
  | 126 => ⟨S128x64x4x4x4, .f32⟩
  | 127 => ⟨S128x64x4x4x4, .f32⟩
  | _ => ⟨S128x256, .f32⟩

abbrev hbmTy0_3 (i : Nat) : BufTy := match i % 128 with
  | 0 => ⟨S1x1x1x64x64, .f32⟩
  | 1 => ⟨S64x64, .f32⟩
  | 2 => ⟨S64x128x4x4x4, .f32⟩
  | 3 => ⟨S128x64x4x4x4, .f32⟩
  | 4 => ⟨S128x64x4x4x4, .f32⟩
  | 5 => ⟨S128x64x4x4x4, .f32⟩
  | 6 => ⟨S1x1x1x64x64, .f32⟩
  | 7 => ⟨S64x64, .f32⟩
  | 8 => ⟨S64x128x4x4x4, .f32⟩
  | 9 => ⟨S128x64x4x4x4, .f32⟩
  | 10 => ⟨S128x64x4x4x4, .f32⟩
  | 11 => ⟨S128x64x4x4x4, .f32⟩
  | 12 => ⟨S1x1x1x64x64, .f32⟩
  | 13 => ⟨S64x64, .f32⟩
  | 14 => ⟨S64x128x4x4x4, .f32⟩
  | 15 => ⟨S128x64x4x4x4, .f32⟩
  | 16 => ⟨S128x64x4x4x4, .f32⟩
  | 17 => ⟨S128x64x4x4x4, .f32⟩
  | 18 => ⟨S1x1x1x64x64, .f32⟩
  | 19 => ⟨S64x64, .f32⟩
  | 20 => ⟨S64x128x4x4x4, .f32⟩
  | 21 => ⟨S128x64x4x4x4, .f32⟩
  | 22 => ⟨S128x64x4x4x4, .f32⟩
  | 23 => ⟨S128x64x4x4x4, .f32⟩
  | 24 => ⟨S1x1x1x64x64, .f32⟩
  | 25 => ⟨S64x64, .f32⟩
  | 26 => ⟨S64x128x4x4x4, .f32⟩
  | 27 => ⟨S128x64x4x4x4, .f32⟩
  | 28 => ⟨S128x64x4x4x4, .f32⟩
  | 29 => ⟨S128x64x4x4x4, .f32⟩
  | 30 => ⟨S1x1x1x64x64, .f32⟩
  | 31 => ⟨S64x64, .f32⟩
  | 32 => ⟨S64x128x4x4x4, .f32⟩
  | 33 => ⟨S128x64x4x4x4, .f32⟩
  | 34 => ⟨S128x64x4x4x4, .f32⟩
  | 35 => ⟨S128x64x4x4x4, .f32⟩
  | 36 => ⟨S1x1x1x64x64, .f32⟩
  | 37 => ⟨S64x64, .f32⟩
  | 38 => ⟨S64x128x4x4x4, .f32⟩
  | 39 => ⟨S128x64x4x4x4, .f32⟩
  | 40 => ⟨S128x64x4x4x4, .f32⟩
  | 41 => ⟨S128x64x4x4x4, .f32⟩
  | 42 => ⟨S1x1x1x64x64, .f32⟩
  | 43 => ⟨S64x64, .f32⟩
  | 44 => ⟨S64x128x4x4x4, .f32⟩
  | 45 => ⟨S128x64x4x4x4, .f32⟩
  | 46 => ⟨S128x64x4x4x4, .f32⟩
  | 47 => ⟨S128x64x4x4x4, .f32⟩
  | 48 => ⟨S1x1x1x64x64, .f32⟩
  | 49 => ⟨S64x64, .f32⟩
  | 50 => ⟨S64x128x4x4x4, .f32⟩
  | 51 => ⟨S128x64x4x4x4, .f32⟩
  | 52 => ⟨S128x64x4x4x4, .f32⟩
  | 53 => ⟨S128x64x4x4x4, .f32⟩
  | 54 => ⟨S1x1x1x64x64, .f32⟩
  | 55 => ⟨S64x64, .f32⟩
  | 56 => ⟨S64x128x4x4x4, .f32⟩
  | 57 => ⟨S128x64x4x4x4, .f32⟩
  | 58 => ⟨S128x64x4x4x4, .f32⟩
  | 59 => ⟨S128x64x4x4x4, .f32⟩
  | 60 => ⟨S1x1x1x64x64, .f32⟩
  | 61 => ⟨S64x64, .f32⟩
  | 62 => ⟨S64x128x4x4x4, .f32⟩
  | 63 => ⟨S128x64x4x4x4, .f32⟩
  | 64 => ⟨S128x64x4x4x4, .f32⟩
  | 65 => ⟨S128x64x4x4x4, .f32⟩
  | 66 => ⟨S1x1x1x64x64, .f32⟩
  | 67 => ⟨S64x64, .f32⟩
  | 68 => ⟨S64x128x4x4x4, .f32⟩
  | 69 => ⟨S128x64x4x4x4, .f32⟩
  | 70 => ⟨S128x64x4x4x4, .f32⟩
  | 71 => ⟨S128x64x4x4x4, .f32⟩
  | 72 => ⟨S1x1x1x64x64, .f32⟩
  | 73 => ⟨S64x64, .f32⟩
  | 74 => ⟨S64x128x4x4x4, .f32⟩
  | 75 => ⟨S128x64x4x4x4, .f32⟩
  | 76 => ⟨S128x64x4x4x4, .f32⟩
  | 77 => ⟨S128x64x4x4x4, .f32⟩
  | 78 => ⟨S1x1x1x64x64, .f32⟩
  | 79 => ⟨S64x64, .f32⟩
  | 80 => ⟨S64x128x4x4x4, .f32⟩
  | 81 => ⟨S128x64x4x4x4, .f32⟩
  | 82 => ⟨S128x64x4x4x4, .f32⟩
  | 83 => ⟨S128x64x4x4x4, .f32⟩
  | 84 => ⟨S1x1x1x64x64, .f32⟩
  | 85 => ⟨S64x64, .f32⟩
  | 86 => ⟨S64x128x4x4x4, .f32⟩
  | 87 => ⟨S128x64x4x4x4, .f32⟩
  | 88 => ⟨S128x64x4x4x4, .f32⟩
  | 89 => ⟨S128x64x4x4x4, .f32⟩
  | 90 => ⟨S1x1x1x64x64, .f32⟩
  | 91 => ⟨S64x64, .f32⟩
  | 92 => ⟨S64x128x4x4x4, .f32⟩
  | 93 => ⟨S128x64x4x4x4, .f32⟩
  | 94 => ⟨S128x64x4x4x4, .f32⟩
  | 95 => ⟨S128x64x4x4x4, .f32⟩
  | 96 => ⟨S1x1x1x64x64, .f32⟩
  | 97 => ⟨S64x64, .f32⟩
  | 98 => ⟨S64x128x4x4x4, .f32⟩
  | 99 => ⟨S128x64x4x4x4, .f32⟩
  | 100 => ⟨S128x64x4x4x4, .f32⟩
  | 101 => ⟨S128x64x4x4x4, .f32⟩
  | 102 => ⟨S1x1x1x64x64, .f32⟩
  | 103 => ⟨S64x64, .f32⟩
  | 104 => ⟨S64x128x4x4x4, .f32⟩
  | 105 => ⟨S128x64x4x4x4, .f32⟩
  | 106 => ⟨S128x64x4x4x4, .f32⟩
  | 107 => ⟨S128x64x4x4x4, .f32⟩
  | 108 => ⟨S1x1x1x64x64, .f32⟩
  | 109 => ⟨S64x64, .f32⟩
  | 110 => ⟨S64x128x4x4x4, .f32⟩
  | 111 => ⟨S128x64x4x4x4, .f32⟩
  | 112 => ⟨S128x64x4x4x4, .f32⟩
  | 113 => ⟨S_, .f32⟩
  | 114 => ⟨S64, .f32⟩
  | 115 => ⟨S1x64x1x1x1, .f32⟩
  | 116 => ⟨S_, .f32⟩
  | 117 => ⟨S1x64x1x1x1, .f32⟩
  | 118 => ⟨S1x64x1x1x1, .f32⟩
  | 119 => ⟨S128x64x4x4x4, .f32⟩
  | 120 => ⟨S128x64x4x4x4, .f32⟩
  | 121 => ⟨S128x64x4x4x4, .f32⟩
  | 122 => ⟨S128x64x4x4x4, .f32⟩
  | 123 => ⟨S128x64x4x4x4, .f32⟩
  | 124 => ⟨S_, .f32⟩
  | 125 => ⟨S64, .f32⟩
  | 126 => ⟨S1x64x1x1x1, .f32⟩
  | 127 => ⟨S_, .f32⟩
  | _ => ⟨S128x256, .f32⟩

abbrev hbmTy0_4 (i : Nat) : BufTy := match i % 128 with
  | 0 => ⟨S1x64x1x1x1, .f32⟩
  | 1 => ⟨S1x64x1x1x1, .f32⟩
  | 2 => ⟨S128x64x4x4x4, .f32⟩
  | 3 => ⟨S128x64x4x4x4, .f32⟩
  | 4 => ⟨S_, .f32⟩
  | 5 => ⟨S1x64x1x1x1, .f32⟩
  | 6 => ⟨S1x64x1x1x1, .f32⟩
  | 7 => ⟨S1x64x1x1x1, .f32⟩
  | 8 => ⟨S128x64x4x4x4, .f32⟩
  | 9 => ⟨S128x64x4x4x4, .f32⟩
  | 10 => ⟨S_, .f32⟩
  | 11 => ⟨S128x64x4x4x4, .f32⟩
  | 12 => ⟨S128x64x4x4x4, .i1⟩
  | 13 => ⟨S_, .f32⟩
  | 14 => ⟨S128x64x4x4x4, .f32⟩
  | 15 => ⟨S128x64x4x4x4, .f32⟩
  | 16 => ⟨S128x64x4x4x4, .f32⟩
  | 17 => ⟨S2x2x2x32x128x4x4x4, .f32⟩
  | 18 => ⟨S128x32x4x2x4x2x4x2, .f32⟩
  | 19 => ⟨S128x32x8x8x8, .f32⟩
  | 20 => ⟨S_, .f32⟩
  | 21 => ⟨S32, .f32⟩
  | 22 => ⟨S1x32x1x1x1, .f32⟩
  | 23 => ⟨S_, .f32⟩
  | 24 => ⟨S1x32x1x1x1, .f32⟩
  | 25 => ⟨S1x32x1x1x1, .f32⟩
  | 26 => ⟨S128x32x8x8x8, .f32⟩
  | 27 => ⟨S128x32x8x8x8, .f32⟩
  | 28 => ⟨S128x32x8x8x8, .f32⟩
  | 29 => ⟨S128x32x8x8x8, .f32⟩
  | 30 => ⟨S128x32x8x8x8, .f32⟩
  | 31 => ⟨S_, .f32⟩
  | 32 => ⟨S32, .f32⟩
  | 33 => ⟨S1x32x1x1x1, .f32⟩
  | 34 => ⟨S_, .f32⟩
  | 35 => ⟨S1x32x1x1x1, .f32⟩
  | 36 => ⟨S1x32x1x1x1, .f32⟩
  | 37 => ⟨S128x32x8x8x8, .f32⟩
  | 38 => ⟨S128x32x8x8x8, .f32⟩
  | 39 => ⟨S_, .f32⟩
  | 40 => ⟨S1x32x1x1x1, .f32⟩
  | 41 => ⟨S1x32x1x1x1, .f32⟩
  | 42 => ⟨S1x32x1x1x1, .f32⟩
  | 43 => ⟨S128x32x8x8x8, .f32⟩
  | 44 => ⟨S128x32x8x8x8, .f32⟩
  | 45 => ⟨S_, .f32⟩
  | 46 => ⟨S128x32x8x8x8, .f32⟩
  | 47 => ⟨S128x32x8x8x8, .i1⟩
  | 48 => ⟨S_, .f32⟩
  | 49 => ⟨S128x32x8x8x8, .f32⟩
  | 50 => ⟨S128x32x8x8x8, .f32⟩
  | 51 => ⟨S128x32x8x8x8, .f32⟩
  | 52 => ⟨S_, .i32⟩
  | 53 => ⟨S_, .f32⟩
  | 54 => ⟨S128x32x10x10x10, .f32⟩
  | 55 => ⟨S128x32x8x8x8, .f32⟩
  | 56 => ⟨S1x1x1x32x32, .f32⟩
  | 57 => ⟨S32x32, .f32⟩
  | 58 => ⟨S32x128x8x8x8, .f32⟩
  | 59 => ⟨S128x32x8x8x8, .f32⟩
  | 60 => ⟨S_, .f32⟩
  | 61 => ⟨S128x32x8x8x8, .f32⟩
  | 62 => ⟨S128x32x8x8x8, .f32⟩
  | 63 => ⟨S128x32x8x8x8, .f32⟩
  | 64 => ⟨S1x1x1x32x32, .f32⟩
  | 65 => ⟨S32x32, .f32⟩
  | 66 => ⟨S32x128x8x8x8, .f32⟩
  | 67 => ⟨S128x32x8x8x8, .f32⟩
  | 68 => ⟨S128x32x8x8x8, .f32⟩
  | 69 => ⟨S128x32x8x8x8, .f32⟩
  | 70 => ⟨S1x1x1x32x32, .f32⟩
  | 71 => ⟨S32x32, .f32⟩
  | 72 => ⟨S32x128x8x8x8, .f32⟩
  | 73 => ⟨S128x32x8x8x8, .f32⟩
  | 74 => ⟨S128x32x8x8x8, .f32⟩
  | 75 => ⟨S128x32x8x8x8, .f32⟩
  | 76 => ⟨S1x1x1x32x32, .f32⟩
  | 77 => ⟨S32x32, .f32⟩
  | 78 => ⟨S32x128x8x8x8, .f32⟩
  | 79 => ⟨S128x32x8x8x8, .f32⟩
  | 80 => ⟨S128x32x8x8x8, .f32⟩
  | 81 => ⟨S128x32x8x8x8, .f32⟩
  | 82 => ⟨S1x1x1x32x32, .f32⟩
  | 83 => ⟨S32x32, .f32⟩
  | 84 => ⟨S32x128x8x8x8, .f32⟩
  | 85 => ⟨S128x32x8x8x8, .f32⟩
  | 86 => ⟨S128x32x8x8x8, .f32⟩
  | 87 => ⟨S128x32x8x8x8, .f32⟩
  | 88 => ⟨S1x1x1x32x32, .f32⟩
  | 89 => ⟨S32x32, .f32⟩
  | 90 => ⟨S32x128x8x8x8, .f32⟩
  | 91 => ⟨S128x32x8x8x8, .f32⟩
  | 92 => ⟨S128x32x8x8x8, .f32⟩
  | 93 => ⟨S128x32x8x8x8, .f32⟩
  | 94 => ⟨S1x1x1x32x32, .f32⟩
  | 95 => ⟨S32x32, .f32⟩
  | 96 => ⟨S32x128x8x8x8, .f32⟩
  | 97 => ⟨S128x32x8x8x8, .f32⟩
  | 98 => ⟨S128x32x8x8x8, .f32⟩
  | 99 => ⟨S128x32x8x8x8, .f32⟩
  | 100 => ⟨S1x1x1x32x32, .f32⟩
  | 101 => ⟨S32x32, .f32⟩
  | 102 => ⟨S32x128x8x8x8, .f32⟩
  | 103 => ⟨S128x32x8x8x8, .f32⟩
  | 104 => ⟨S128x32x8x8x8, .f32⟩
  | 105 => ⟨S128x32x8x8x8, .f32⟩
  | 106 => ⟨S1x1x1x32x32, .f32⟩
  | 107 => ⟨S32x32, .f32⟩
  | 108 => ⟨S32x128x8x8x8, .f32⟩
  | 109 => ⟨S128x32x8x8x8, .f32⟩
  | 110 => ⟨S128x32x8x8x8, .f32⟩
  | 111 => ⟨S128x32x8x8x8, .f32⟩
  | 112 => ⟨S1x1x1x32x32, .f32⟩
  | 113 => ⟨S32x32, .f32⟩
  | 114 => ⟨S32x128x8x8x8, .f32⟩
  | 115 => ⟨S128x32x8x8x8, .f32⟩
  | 116 => ⟨S128x32x8x8x8, .f32⟩
  | 117 => ⟨S128x32x8x8x8, .f32⟩
  | 118 => ⟨S1x1x1x32x32, .f32⟩
  | 119 => ⟨S32x32, .f32⟩
  | 120 => ⟨S32x128x8x8x8, .f32⟩
  | 121 => ⟨S128x32x8x8x8, .f32⟩
  | 122 => ⟨S128x32x8x8x8, .f32⟩
  | 123 => ⟨S128x32x8x8x8, .f32⟩
  | 124 => ⟨S1x1x1x32x32, .f32⟩
  | 125 => ⟨S32x32, .f32⟩
  | 126 => ⟨S32x128x8x8x8, .f32⟩
  | 127 => ⟨S128x32x8x8x8, .f32⟩
  | _ => ⟨S128x256, .f32⟩

abbrev hbmTy0_5 (i : Nat) : BufTy := match i % 128 with
  | 0 => ⟨S128x32x8x8x8, .f32⟩
  | 1 => ⟨S128x32x8x8x8, .f32⟩
  | 2 => ⟨S1x1x1x32x32, .f32⟩
  | 3 => ⟨S32x32, .f32⟩
  | 4 => ⟨S32x128x8x8x8, .f32⟩
  | 5 => ⟨S128x32x8x8x8, .f32⟩
  | 6 => ⟨S128x32x8x8x8, .f32⟩
  | 7 => ⟨S128x32x8x8x8, .f32⟩
  | 8 => ⟨S1x1x1x32x32, .f32⟩
  | 9 => ⟨S32x32, .f32⟩
  | 10 => ⟨S32x128x8x8x8, .f32⟩
  | 11 => ⟨S128x32x8x8x8, .f32⟩
  | 12 => ⟨S128x32x8x8x8, .f32⟩
  | 13 => ⟨S128x32x8x8x8, .f32⟩
  | 14 => ⟨S1x1x1x32x32, .f32⟩
  | 15 => ⟨S32x32, .f32⟩
  | 16 => ⟨S32x128x8x8x8, .f32⟩
  | 17 => ⟨S128x32x8x8x8, .f32⟩
  | 18 => ⟨S128x32x8x8x8, .f32⟩
  | 19 => ⟨S128x32x8x8x8, .f32⟩
  | 20 => ⟨S1x1x1x32x32, .f32⟩
  | 21 => ⟨S32x32, .f32⟩
  | 22 => ⟨S32x128x8x8x8, .f32⟩
  | 23 => ⟨S128x32x8x8x8, .f32⟩
  | 24 => ⟨S128x32x8x8x8, .f32⟩
  | 25 => ⟨S128x32x8x8x8, .f32⟩
  | 26 => ⟨S1x1x1x32x32, .f32⟩
  | 27 => ⟨S32x32, .f32⟩
  | 28 => ⟨S32x128x8x8x8, .f32⟩
  | 29 => ⟨S128x32x8x8x8, .f32⟩
  | 30 => ⟨S128x32x8x8x8, .f32⟩
  | 31 => ⟨S128x32x8x8x8, .f32⟩
  | 32 => ⟨S1x1x1x32x32, .f32⟩
  | 33 => ⟨S32x32, .f32⟩
  | 34 => ⟨S32x128x8x8x8, .f32⟩
  | 35 => ⟨S128x32x8x8x8, .f32⟩
  | 36 => ⟨S128x32x8x8x8, .f32⟩
  | 37 => ⟨S128x32x8x8x8, .f32⟩
  | 38 => ⟨S1x1x1x32x32, .f32⟩
  | 39 => ⟨S32x32, .f32⟩
  | 40 => ⟨S32x128x8x8x8, .f32⟩
  | 41 => ⟨S128x32x8x8x8, .f32⟩
  | 42 => ⟨S128x32x8x8x8, .f32⟩
  | 43 => ⟨S128x32x8x8x8, .f32⟩
  | 44 => ⟨S1x1x1x32x32, .f32⟩
  | 45 => ⟨S32x32, .f32⟩
  | 46 => ⟨S32x128x8x8x8, .f32⟩
  | 47 => ⟨S128x32x8x8x8, .f32⟩
  | 48 => ⟨S128x32x8x8x8, .f32⟩
  | 49 => ⟨S128x32x8x8x8, .f32⟩
  | 50 => ⟨S1x1x1x32x32, .f32⟩
  | 51 => ⟨S32x32, .f32⟩
  | 52 => ⟨S32x128x8x8x8, .f32⟩
  | 53 => ⟨S128x32x8x8x8, .f32⟩
  | 54 => ⟨S128x32x8x8x8, .f32⟩
  | 55 => ⟨S128x32x8x8x8, .f32⟩
  | 56 => ⟨S1x1x1x32x32, .f32⟩
  | 57 => ⟨S32x32, .f32⟩
  | 58 => ⟨S32x128x8x8x8, .f32⟩
  | 59 => ⟨S128x32x8x8x8, .f32⟩
  | 60 => ⟨S128x32x8x8x8, .f32⟩
  | 61 => ⟨S128x32x8x8x8, .f32⟩
  | 62 => ⟨S1x1x1x32x32, .f32⟩
  | 63 => ⟨S32x32, .f32⟩
  | 64 => ⟨S32x128x8x8x8, .f32⟩
  | 65 => ⟨S128x32x8x8x8, .f32⟩
  | 66 => ⟨S128x32x8x8x8, .f32⟩
  | 67 => ⟨S128x32x8x8x8, .f32⟩
  | 68 => ⟨S1x1x1x32x32, .f32⟩
  | 69 => ⟨S32x32, .f32⟩
  | 70 => ⟨S32x128x8x8x8, .f32⟩
  | 71 => ⟨S128x32x8x8x8, .f32⟩
  | 72 => ⟨S128x32x8x8x8, .f32⟩
  | 73 => ⟨S128x32x8x8x8, .f32⟩
  | 74 => ⟨S1x1x1x32x32, .f32⟩
  | 75 => ⟨S32x32, .f32⟩
  | 76 => ⟨S32x128x8x8x8, .f32⟩
  | 77 => ⟨S128x32x8x8x8, .f32⟩
  | 78 => ⟨S128x32x8x8x8, .f32⟩
  | 79 => ⟨S128x32x8x8x8, .f32⟩
  | 80 => ⟨S1x1x1x32x32, .f32⟩
  | 81 => ⟨S32x32, .f32⟩
  | 82 => ⟨S32x128x8x8x8, .f32⟩
  | 83 => ⟨S128x32x8x8x8, .f32⟩
  | 84 => ⟨S128x32x8x8x8, .f32⟩
  | 85 => ⟨S128x32x8x8x8, .f32⟩
  | 86 => ⟨S1x1x1x32x32, .f32⟩
  | 87 => ⟨S32x32, .f32⟩
  | 88 => ⟨S32x128x8x8x8, .f32⟩
  | 89 => ⟨S128x32x8x8x8, .f32⟩
  | 90 => ⟨S128x32x8x8x8, .f32⟩
  | 91 => ⟨S_, .f32⟩
  | 92 => ⟨S32, .f32⟩
  | 93 => ⟨S1x32x1x1x1, .f32⟩
  | 94 => ⟨S_, .f32⟩
  | 95 => ⟨S1x32x1x1x1, .f32⟩
  | 96 => ⟨S1x32x1x1x1, .f32⟩
  | 97 => ⟨S128x32x8x8x8, .f32⟩
  | 98 => ⟨S128x32x8x8x8, .f32⟩
  | 99 => ⟨S128x32x8x8x8, .f32⟩
  | 100 => ⟨S128x32x8x8x8, .f32⟩
  | 101 => ⟨S128x32x8x8x8, .f32⟩
  | 102 => ⟨S_, .f32⟩
  | 103 => ⟨S32, .f32⟩
  | 104 => ⟨S1x32x1x1x1, .f32⟩
  | 105 => ⟨S_, .f32⟩
  | 106 => ⟨S1x32x1x1x1, .f32⟩
  | 107 => ⟨S1x32x1x1x1, .f32⟩
  | 108 => ⟨S128x32x8x8x8, .f32⟩
  | 109 => ⟨S128x32x8x8x8, .f32⟩
  | 110 => ⟨S_, .f32⟩
  | 111 => ⟨S1x32x1x1x1, .f32⟩
  | 112 => ⟨S1x32x1x1x1, .f32⟩
  | 113 => ⟨S1x32x1x1x1, .f32⟩
  | 114 => ⟨S128x32x8x8x8, .f32⟩
  | 115 => ⟨S128x32x8x8x8, .f32⟩
  | 116 => ⟨S_, .f32⟩
  | 117 => ⟨S128x32x8x8x8, .f32⟩
  | 118 => ⟨S128x32x8x8x8, .i1⟩
  | 119 => ⟨S_, .f32⟩
  | 120 => ⟨S128x32x8x8x8, .f32⟩
  | 121 => ⟨S128x32x8x8x8, .f32⟩
  | 122 => ⟨S128x32x8x8x8, .f32⟩
  | 123 => ⟨S2x2x2x16x128x8x8x8, .f32⟩
  | 124 => ⟨S128x16x8x2x8x2x8x2, .f32⟩
  | 125 => ⟨S128x16x16x16x16, .f32⟩
  | 126 => ⟨S_, .f32⟩
  | 127 => ⟨S16, .f32⟩
  | _ => ⟨S128x256, .f32⟩

abbrev hbmTy0_6 (i : Nat) : BufTy := match i % 128 with
  | 0 => ⟨S1x16x1x1x1, .f32⟩
  | 1 => ⟨S_, .f32⟩
  | 2 => ⟨S1x16x1x1x1, .f32⟩
  | 3 => ⟨S1x16x1x1x1, .f32⟩
  | 4 => ⟨S128x16x16x16x16, .f32⟩
  | 5 => ⟨S128x16x16x16x16, .f32⟩
  | 6 => ⟨S128x16x16x16x16, .f32⟩
  | 7 => ⟨S128x16x16x16x16, .f32⟩
  | 8 => ⟨S128x16x16x16x16, .f32⟩
  | 9 => ⟨S_, .f32⟩
  | 10 => ⟨S16, .f32⟩
  | 11 => ⟨S1x16x1x1x1, .f32⟩
  | 12 => ⟨S_, .f32⟩
  | 13 => ⟨S1x16x1x1x1, .f32⟩
  | 14 => ⟨S1x16x1x1x1, .f32⟩
  | 15 => ⟨S128x16x16x16x16, .f32⟩
  | 16 => ⟨S128x16x16x16x16, .f32⟩
  | 17 => ⟨S_, .f32⟩
  | 18 => ⟨S1x16x1x1x1, .f32⟩
  | 19 => ⟨S1x16x1x1x1, .f32⟩
  | 20 => ⟨S1x16x1x1x1, .f32⟩
  | 21 => ⟨S128x16x16x16x16, .f32⟩
  | 22 => ⟨S128x16x16x16x16, .f32⟩
  | 23 => ⟨S_, .f32⟩
  | 24 => ⟨S128x16x16x16x16, .f32⟩
  | 25 => ⟨S128x16x16x16x16, .i1⟩
  | 26 => ⟨S_, .f32⟩
  | 27 => ⟨S128x16x16x16x16, .f32⟩
  | 28 => ⟨S128x16x16x16x16, .f32⟩
  | 29 => ⟨S128x16x16x16x16, .f32⟩
  | 30 => ⟨S_, .i32⟩
  | 31 => ⟨S_, .f32⟩
  | 32 => ⟨S128x16x18x18x18, .f32⟩
  | 33 => ⟨S128x16x16x16x16, .f32⟩
  | 34 => ⟨S1x1x1x16x16, .f32⟩
  | 35 => ⟨S16x16, .f32⟩
  | 36 => ⟨S16x128x16x16x16, .f32⟩
  | 37 => ⟨S128x16x16x16x16, .f32⟩
  | 38 => ⟨S_, .f32⟩
  | 39 => ⟨S128x16x16x16x16, .f32⟩
  | 40 => ⟨S128x16x16x16x16, .f32⟩
  | 41 => ⟨S128x16x16x16x16, .f32⟩
  | 42 => ⟨S1x1x1x16x16, .f32⟩
  | 43 => ⟨S16x16, .f32⟩
  | 44 => ⟨S16x128x16x16x16, .f32⟩
  | 45 => ⟨S128x16x16x16x16, .f32⟩
  | 46 => ⟨S128x16x16x16x16, .f32⟩
  | 47 => ⟨S128x16x16x16x16, .f32⟩
  | 48 => ⟨S1x1x1x16x16, .f32⟩
  | 49 => ⟨S16x16, .f32⟩
  | 50 => ⟨S16x128x16x16x16, .f32⟩
  | 51 => ⟨S128x16x16x16x16, .f32⟩
  | 52 => ⟨S128x16x16x16x16, .f32⟩
  | 53 => ⟨S128x16x16x16x16, .f32⟩
  | 54 => ⟨S1x1x1x16x16, .f32⟩
  | 55 => ⟨S16x16, .f32⟩
  | 56 => ⟨S16x128x16x16x16, .f32⟩
  | 57 => ⟨S128x16x16x16x16, .f32⟩
  | 58 => ⟨S128x16x16x16x16, .f32⟩
  | 59 => ⟨S128x16x16x16x16, .f32⟩
  | 60 => ⟨S1x1x1x16x16, .f32⟩
  | 61 => ⟨S16x16, .f32⟩
  | 62 => ⟨S16x128x16x16x16, .f32⟩
  | 63 => ⟨S128x16x16x16x16, .f32⟩
  | 64 => ⟨S128x16x16x16x16, .f32⟩
  | 65 => ⟨S128x16x16x16x16, .f32⟩
  | 66 => ⟨S1x1x1x16x16, .f32⟩
  | 67 => ⟨S16x16, .f32⟩
  | 68 => ⟨S16x128x16x16x16, .f32⟩
  | 69 => ⟨S128x16x16x16x16, .f32⟩
  | 70 => ⟨S128x16x16x16x16, .f32⟩
  | 71 => ⟨S128x16x16x16x16, .f32⟩
  | 72 => ⟨S1x1x1x16x16, .f32⟩
  | 73 => ⟨S16x16, .f32⟩
  | 74 => ⟨S16x128x16x16x16, .f32⟩
  | 75 => ⟨S128x16x16x16x16, .f32⟩
  | 76 => ⟨S128x16x16x16x16, .f32⟩
  | 77 => ⟨S128x16x16x16x16, .f32⟩
  | 78 => ⟨S1x1x1x16x16, .f32⟩
  | 79 => ⟨S16x16, .f32⟩
  | 80 => ⟨S16x128x16x16x16, .f32⟩
  | 81 => ⟨S128x16x16x16x16, .f32⟩
  | 82 => ⟨S128x16x16x16x16, .f32⟩
  | 83 => ⟨S128x16x16x16x16, .f32⟩
  | 84 => ⟨S1x1x1x16x16, .f32⟩
  | 85 => ⟨S16x16, .f32⟩
  | 86 => ⟨S16x128x16x16x16, .f32⟩
  | 87 => ⟨S128x16x16x16x16, .f32⟩
  | 88 => ⟨S128x16x16x16x16, .f32⟩
  | 89 => ⟨S128x16x16x16x16, .f32⟩
  | 90 => ⟨S1x1x1x16x16, .f32⟩
  | 91 => ⟨S16x16, .f32⟩
  | 92 => ⟨S16x128x16x16x16, .f32⟩
  | 93 => ⟨S128x16x16x16x16, .f32⟩
  | 94 => ⟨S128x16x16x16x16, .f32⟩
  | 95 => ⟨S128x16x16x16x16, .f32⟩
  | 96 => ⟨S1x1x1x16x16, .f32⟩
  | 97 => ⟨S16x16, .f32⟩
  | 98 => ⟨S16x128x16x16x16, .f32⟩
  | 99 => ⟨S128x16x16x16x16, .f32⟩
  | 100 => ⟨S128x16x16x16x16, .f32⟩
  | 101 => ⟨S128x16x16x16x16, .f32⟩
  | 102 => ⟨S1x1x1x16x16, .f32⟩
  | 103 => ⟨S16x16, .f32⟩
  | 104 => ⟨S16x128x16x16x16, .f32⟩
  | 105 => ⟨S128x16x16x16x16, .f32⟩
  | 106 => ⟨S128x16x16x16x16, .f32⟩
  | 107 => ⟨S128x16x16x16x16, .f32⟩
  | 108 => ⟨S1x1x1x16x16, .f32⟩
  | 109 => ⟨S16x16, .f32⟩
  | 110 => ⟨S16x128x16x16x16, .f32⟩
  | 111 => ⟨S128x16x16x16x16, .f32⟩
  | 112 => ⟨S128x16x16x16x16, .f32⟩
  | 113 => ⟨S128x16x16x16x16, .f32⟩
  | 114 => ⟨S1x1x1x16x16, .f32⟩
  | 115 => ⟨S16x16, .f32⟩
  | 116 => ⟨S16x128x16x16x16, .f32⟩
  | 117 => ⟨S128x16x16x16x16, .f32⟩
  | 118 => ⟨S128x16x16x16x16, .f32⟩
  | 119 => ⟨S128x16x16x16x16, .f32⟩
  | 120 => ⟨S1x1x1x16x16, .f32⟩
  | 121 => ⟨S16x16, .f32⟩
  | 122 => ⟨S16x128x16x16x16, .f32⟩
  | 123 => ⟨S128x16x16x16x16, .f32⟩
  | 124 => ⟨S128x16x16x16x16, .f32⟩
  | 125 => ⟨S128x16x16x16x16, .f32⟩
  | 126 => ⟨S1x1x1x16x16, .f32⟩
  | 127 => ⟨S16x16, .f32⟩
  | _ => ⟨S128x256, .f32⟩

abbrev hbmTy0_7 (i : Nat) : BufTy := match i % 128 with
  | 0 => ⟨S16x128x16x16x16, .f32⟩
  | 1 => ⟨S128x16x16x16x16, .f32⟩
  | 2 => ⟨S128x16x16x16x16, .f32⟩
  | 3 => ⟨S128x16x16x16x16, .f32⟩
  | 4 => ⟨S1x1x1x16x16, .f32⟩
  | 5 => ⟨S16x16, .f32⟩
  | 6 => ⟨S16x128x16x16x16, .f32⟩
  | 7 => ⟨S128x16x16x16x16, .f32⟩
  | 8 => ⟨S128x16x16x16x16, .f32⟩
  | 9 => ⟨S128x16x16x16x16, .f32⟩
  | 10 => ⟨S1x1x1x16x16, .f32⟩
  | 11 => ⟨S16x16, .f32⟩
  | 12 => ⟨S16x128x16x16x16, .f32⟩
  | 13 => ⟨S128x16x16x16x16, .f32⟩
  | 14 => ⟨S128x16x16x16x16, .f32⟩
  | 15 => ⟨S128x16x16x16x16, .f32⟩
  | 16 => ⟨S1x1x1x16x16, .f32⟩
  | 17 => ⟨S16x16, .f32⟩
  | 18 => ⟨S16x128x16x16x16, .f32⟩
  | 19 => ⟨S128x16x16x16x16, .f32⟩
  | 20 => ⟨S128x16x16x16x16, .f32⟩
  | 21 => ⟨S128x16x16x16x16, .f32⟩
  | 22 => ⟨S1x1x1x16x16, .f32⟩
  | 23 => ⟨S16x16, .f32⟩
  | 24 => ⟨S16x128x16x16x16, .f32⟩
  | 25 => ⟨S128x16x16x16x16, .f32⟩
  | 26 => ⟨S128x16x16x16x16, .f32⟩
  | 27 => ⟨S128x16x16x16x16, .f32⟩
  | 28 => ⟨S1x1x1x16x16, .f32⟩
  | 29 => ⟨S16x16, .f32⟩
  | 30 => ⟨S16x128x16x16x16, .f32⟩
  | 31 => ⟨S128x16x16x16x16, .f32⟩
  | 32 => ⟨S128x16x16x16x16, .f32⟩
  | 33 => ⟨S128x16x16x16x16, .f32⟩
  | 34 => ⟨S1x1x1x16x16, .f32⟩
  | 35 => ⟨S16x16, .f32⟩
  | 36 => ⟨S16x128x16x16x16, .f32⟩
  | 37 => ⟨S128x16x16x16x16, .f32⟩
  | 38 => ⟨S128x16x16x16x16, .f32⟩
  | 39 => ⟨S128x16x16x16x16, .f32⟩
  | 40 => ⟨S1x1x1x16x16, .f32⟩
  | 41 => ⟨S16x16, .f32⟩
  | 42 => ⟨S16x128x16x16x16, .f32⟩
  | 43 => ⟨S128x16x16x16x16, .f32⟩
  | 44 => ⟨S128x16x16x16x16, .f32⟩
  | 45 => ⟨S128x16x16x16x16, .f32⟩
  | 46 => ⟨S1x1x1x16x16, .f32⟩
  | 47 => ⟨S16x16, .f32⟩
  | 48 => ⟨S16x128x16x16x16, .f32⟩
  | 49 => ⟨S128x16x16x16x16, .f32⟩
  | 50 => ⟨S128x16x16x16x16, .f32⟩
  | 51 => ⟨S128x16x16x16x16, .f32⟩
  | 52 => ⟨S1x1x1x16x16, .f32⟩
  | 53 => ⟨S16x16, .f32⟩
  | 54 => ⟨S16x128x16x16x16, .f32⟩
  | 55 => ⟨S128x16x16x16x16, .f32⟩
  | 56 => ⟨S128x16x16x16x16, .f32⟩
  | 57 => ⟨S128x16x16x16x16, .f32⟩
  | 58 => ⟨S1x1x1x16x16, .f32⟩
  | 59 => ⟨S16x16, .f32⟩
  | 60 => ⟨S16x128x16x16x16, .f32⟩
  | 61 => ⟨S128x16x16x16x16, .f32⟩
  | 62 => ⟨S128x16x16x16x16, .f32⟩
  | 63 => ⟨S128x16x16x16x16, .f32⟩
  | 64 => ⟨S1x1x1x16x16, .f32⟩
  | 65 => ⟨S16x16, .f32⟩
  | 66 => ⟨S16x128x16x16x16, .f32⟩
  | 67 => ⟨S128x16x16x16x16, .f32⟩
  | 68 => ⟨S128x16x16x16x16, .f32⟩
  | 69 => ⟨S_, .f32⟩
  | 70 => ⟨S16, .f32⟩
  | 71 => ⟨S1x16x1x1x1, .f32⟩
  | 72 => ⟨S_, .f32⟩
  | 73 => ⟨S1x16x1x1x1, .f32⟩
  | 74 => ⟨S1x16x1x1x1, .f32⟩
  | 75 => ⟨S128x16x16x16x16, .f32⟩
  | 76 => ⟨S128x16x16x16x16, .f32⟩
  | 77 => ⟨S128x16x16x16x16, .f32⟩
  | 78 => ⟨S128x16x16x16x16, .f32⟩
  | 79 => ⟨S128x16x16x16x16, .f32⟩
  | 80 => ⟨S_, .f32⟩
  | 81 => ⟨S16, .f32⟩
  | 82 => ⟨S1x16x1x1x1, .f32⟩
  | 83 => ⟨S_, .f32⟩
  | 84 => ⟨S1x16x1x1x1, .f32⟩
  | 85 => ⟨S1x16x1x1x1, .f32⟩
  | 86 => ⟨S128x16x16x16x16, .f32⟩
  | 87 => ⟨S128x16x16x16x16, .f32⟩
  | 88 => ⟨S_, .f32⟩
  | 89 => ⟨S1x16x1x1x1, .f32⟩
  | 90 => ⟨S1x16x1x1x1, .f32⟩
  | 91 => ⟨S1x16x1x1x1, .f32⟩
  | 92 => ⟨S128x16x16x16x16, .f32⟩
  | 93 => ⟨S128x16x16x16x16, .f32⟩
  | 94 => ⟨S_, .f32⟩
  | 95 => ⟨S128x16x16x16x16, .f32⟩
  | 96 => ⟨S128x16x16x16x16, .i1⟩
  | 97 => ⟨S_, .f32⟩
  | 98 => ⟨S128x16x16x16x16, .f32⟩
  | 99 => ⟨S128x16x16x16x16, .f32⟩
  | 100 => ⟨S128x16x16x16x16, .f32⟩
  | 101 => ⟨S1x128x16x16x16, .f32⟩
  | 102 => ⟨S128x1x16x16x16, .f32⟩
  | 103 => ⟨S1x1x1x1x1, .f32⟩
  | 104 => ⟨S128x1x16x16x16, .f32⟩
  | 105 => ⟨S128x1x16x16x16, .f32⟩
  | 106 => ⟨S128x1x16x16x16, .f32⟩
  | 107 => ⟨S128x1x16x16x16, .f32⟩
  | 108 => ⟨S_, .f32⟩
  | 109 => ⟨S128x1x16x16x16, .f32⟩
  | 110 => ⟨S128x1x16x16x16, .f32⟩
  | 111 => ⟨S_, .f32⟩
  | 112 => ⟨S128x1x16x16x16, .f32⟩
  | 113 => ⟨S128x1x16x16x16, .f32⟩
  | _ => ⟨S128x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S128x256, .f32⟩

abbrev bufTy : (tb : Table) → Fin (tcTables nBuf tb) → BufTy
  | .hbm, ⟨i, _⟩ => hbmTy i
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c : Ref sig .tc := ⟨.hbm, 96, rfl⟩
abbrev main_call3_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_cst_16 : Ref sig .tc := ⟨.hbm, 263, rfl⟩
abbrev main_v230 : Ref sig .tc := ⟨.hbm, 264, rfl⟩
abbrev main_v231 : Ref sig .tc := ⟨.hbm, 265, rfl⟩
abbrev main_cst_17 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_cst_18 : Ref sig .tc := ⟨.hbm, 274, rfl⟩
abbrev main_v239 : Ref sig .tc := ⟨.hbm, 275, rfl⟩
abbrev main_v240 : Ref sig .tc := ⟨.hbm, 276, rfl⟩
abbrev main_cst_19 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_cst_20 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_cst_21 : Ref sig .tc := ⟨.hbm, 288, rfl⟩
abbrev main_v250 : Ref sig .tc := ⟨.hbm, 289, rfl⟩
abbrev main_v251 : Ref sig .tc := ⟨.hbm, 290, rfl⟩
abbrev main_cst_22 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_cst_23 : Ref sig .tc := ⟨.hbm, 298, rfl⟩
abbrev main_v258 : Ref sig .tc := ⟨.hbm, 299, rfl⟩
abbrev main_v259 : Ref sig .tc := ⟨.hbm, 300, rfl⟩
abbrev main_cst_24 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_cst_25 : Ref sig .tc := ⟨.hbm, 309, rfl⟩
abbrev main_v267 : Ref sig .tc := ⟨.hbm, 310, rfl⟩
abbrev main_v268 : Ref sig .tc := ⟨.hbm, 311, rfl⟩
abbrev main_cst_26 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_cst_27 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_cst_28 : Ref sig .tc := ⟨.hbm, 323, rfl⟩
abbrev main_v278 : Ref sig .tc := ⟨.hbm, 324, rfl⟩
abbrev main_v279 : Ref sig .tc := ⟨.hbm, 325, rfl⟩
abbrev main_cst_29 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_c_30 : Ref sig .tc := ⟨.hbm, 330, rfl⟩
abbrev main_call6_v0 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_cst_31 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_v307 : Ref sig .tc := ⟨.hbm, 357, rfl⟩
abbrev main_v308 : Ref sig .tc := ⟨.hbm, 358, rfl⟩
abbrev main_v309 : Ref sig .tc := ⟨.hbm, 359, rfl⟩
abbrev main_v310 : Ref sig .tc := ⟨.hbm, 360, rfl⟩
abbrev main_v311 : Ref sig .tc := ⟨.hbm, 361, rfl⟩
abbrev main_v312 : Ref sig .tc := ⟨.hbm, 362, rfl⟩
abbrev main_v313 : Ref sig .tc := ⟨.hbm, 363, rfl⟩
abbrev main_v314 : Ref sig .tc := ⟨.hbm, 364, rfl⟩
abbrev main_v315 : Ref sig .tc := ⟨.hbm, 365, rfl⟩
abbrev main_v316 : Ref sig .tc := ⟨.hbm, 366, rfl⟩
abbrev main_v317 : Ref sig .tc := ⟨.hbm, 367, rfl⟩
abbrev main_v318 : Ref sig .tc := ⟨.hbm, 368, rfl⟩
abbrev main_v319 : Ref sig .tc := ⟨.hbm, 369, rfl⟩
abbrev main_v320 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_v324 : Ref sig .tc := ⟨.hbm, 374, rfl⟩
abbrev main_v325 : Ref sig .tc := ⟨.hbm, 375, rfl⟩
abbrev main_v326 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_v332 : Ref sig .tc := ⟨.hbm, 382, rfl⟩
abbrev main_v333 : Ref sig .tc := ⟨.hbm, 383, rfl⟩
abbrev main_v334 : Ref sig .tc := ⟨.hbm, 384, rfl⟩
abbrev main_v335 : Ref sig .tc := ⟨.hbm, 385, rfl⟩
abbrev main_v336 : Ref sig .tc := ⟨.hbm, 386, rfl⟩
abbrev main_v337 : Ref sig .tc := ⟨.hbm, 387, rfl⟩
abbrev main_v338 : Ref sig .tc := ⟨.hbm, 388, rfl⟩
abbrev main_v339 : Ref sig .tc := ⟨.hbm, 389, rfl⟩
abbrev main_v340 : Ref sig .tc := ⟨.hbm, 390, rfl⟩
abbrev main_v341 : Ref sig .tc := ⟨.hbm, 391, rfl⟩
abbrev main_v342 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_v346 : Ref sig .tc := ⟨.hbm, 396, rfl⟩
abbrev main_v347 : Ref sig .tc := ⟨.hbm, 397, rfl⟩
abbrev main_v348 : Ref sig .tc := ⟨.hbm, 398, rfl⟩
abbrev main_v349 : Ref sig .tc := ⟨.hbm, 399, rfl⟩
abbrev main_v350 : Ref sig .tc := ⟨.hbm, 400, rfl⟩
abbrev main_v351 : Ref sig .tc := ⟨.hbm, 401, rfl⟩
abbrev main_v352 : Ref sig .tc := ⟨.hbm, 402, rfl⟩
abbrev main_v353 : Ref sig .tc := ⟨.hbm, 403, rfl⟩
abbrev main_v354 : Ref sig .tc := ⟨.hbm, 404, rfl⟩
abbrev main_v355 : Ref sig .tc := ⟨.hbm, 405, rfl⟩
abbrev main_v356 : Ref sig .tc := ⟨.hbm, 406, rfl⟩
abbrev main_v357 : Ref sig .tc := ⟨.hbm, 407, rfl⟩
abbrev main_v358 : Ref sig .tc := ⟨.hbm, 408, rfl⟩
abbrev main_v359 : Ref sig .tc := ⟨.hbm, 409, rfl⟩
abbrev main_v360 : Ref sig .tc := ⟨.hbm, 410, rfl⟩
abbrev main_v361 : Ref sig .tc := ⟨.hbm, 411, rfl⟩
abbrev main_v362 : Ref sig .tc := ⟨.hbm, 412, rfl⟩
abbrev main_v363 : Ref sig .tc := ⟨.hbm, 413, rfl⟩
abbrev main_v364 : Ref sig .tc := ⟨.hbm, 414, rfl⟩
abbrev main_v365 : Ref sig .tc := ⟨.hbm, 415, rfl⟩
abbrev main_v366 : Ref sig .tc := ⟨.hbm, 416, rfl⟩
abbrev main_v367 : Ref sig .tc := ⟨.hbm, 417, rfl⟩
abbrev main_v368 : Ref sig .tc := ⟨.hbm, 418, rfl⟩
abbrev main_v369 : Ref sig .tc := ⟨.hbm, 419, rfl⟩
abbrev main_v370 : Ref sig .tc := ⟨.hbm, 420, rfl⟩
abbrev main_v371 : Ref sig .tc := ⟨.hbm, 421, rfl⟩
abbrev main_v372 : Ref sig .tc := ⟨.hbm, 422, rfl⟩
abbrev main_v373 : Ref sig .tc := ⟨.hbm, 423, rfl⟩
abbrev main_v374 : Ref sig .tc := ⟨.hbm, 424, rfl⟩
abbrev main_v375 : Ref sig .tc := ⟨.hbm, 425, rfl⟩
abbrev main_v376 : Ref sig .tc := ⟨.hbm, 426, rfl⟩
abbrev main_v377 : Ref sig .tc := ⟨.hbm, 427, rfl⟩
abbrev main_v378 : Ref sig .tc := ⟨.hbm, 428, rfl⟩
abbrev main_v379 : Ref sig .tc := ⟨.hbm, 429, rfl⟩
abbrev main_v380 : Ref sig .tc := ⟨.hbm, 430, rfl⟩
abbrev main_v381 : Ref sig .tc := ⟨.hbm, 431, rfl⟩
abbrev main_v382 : Ref sig .tc := ⟨.hbm, 432, rfl⟩
abbrev main_v383 : Ref sig .tc := ⟨.hbm, 433, rfl⟩
abbrev main_v384 : Ref sig .tc := ⟨.hbm, 434, rfl⟩
abbrev main_v385 : Ref sig .tc := ⟨.hbm, 435, rfl⟩
abbrev main_v386 : Ref sig .tc := ⟨.hbm, 436, rfl⟩
abbrev main_v387 : Ref sig .tc := ⟨.hbm, 437, rfl⟩
abbrev main_v388 : Ref sig .tc := ⟨.hbm, 438, rfl⟩
abbrev main_v389 : Ref sig .tc := ⟨.hbm, 439, rfl⟩
abbrev main_v390 : Ref sig .tc := ⟨.hbm, 440, rfl⟩
abbrev main_v391 : Ref sig .tc := ⟨.hbm, 441, rfl⟩
abbrev main_v392 : Ref sig .tc := ⟨.hbm, 442, rfl⟩
abbrev main_v393 : Ref sig .tc := ⟨.hbm, 443, rfl⟩
abbrev main_v394 : Ref sig .tc := ⟨.hbm, 444, rfl⟩
abbrev main_v395 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_v400 : Ref sig .tc := ⟨.hbm, 450, rfl⟩
abbrev main_v401 : Ref sig .tc := ⟨.hbm, 451, rfl⟩
abbrev main_v402 : Ref sig .tc := ⟨.hbm, 452, rfl⟩
abbrev main_v403 : Ref sig .tc := ⟨.hbm, 453, rfl⟩
abbrev main_v404 : Ref sig .tc := ⟨.hbm, 454, rfl⟩
abbrev main_v405 : Ref sig .tc := ⟨.hbm, 455, rfl⟩
abbrev main_v406 : Ref sig .tc := ⟨.hbm, 456, rfl⟩
abbrev main_v407 : Ref sig .tc := ⟨.hbm, 457, rfl⟩
abbrev main_v408 : Ref sig .tc := ⟨.hbm, 458, rfl⟩
abbrev main_v409 : Ref sig .tc := ⟨.hbm, 459, rfl⟩
abbrev main_v410 : Ref sig .tc := ⟨.hbm, 460, rfl⟩
abbrev main_v411 : Ref sig .tc := ⟨.hbm, 461, rfl⟩
abbrev main_v412 : Ref sig .tc := ⟨.hbm, 462, rfl⟩
abbrev main_v413 : Ref sig .tc := ⟨.hbm, 463, rfl⟩
abbrev main_v414 : Ref sig .tc := ⟨.hbm, 464, rfl⟩
abbrev main_v415 : Ref sig .tc := ⟨.hbm, 465, rfl⟩
abbrev main_v416 : Ref sig .tc := ⟨.hbm, 466, rfl⟩
abbrev main_v417 : Ref sig .tc := ⟨.hbm, 467, rfl⟩
abbrev main_v418 : Ref sig .tc := ⟨.hbm, 468, rfl⟩
abbrev main_v419 : Ref sig .tc := ⟨.hbm, 469, rfl⟩
abbrev main_v420 : Ref sig .tc := ⟨.hbm, 470, rfl⟩
abbrev main_v421 : Ref sig .tc := ⟨.hbm, 471, rfl⟩
abbrev main_v422 : Ref sig .tc := ⟨.hbm, 472, rfl⟩
abbrev main_v423 : Ref sig .tc := ⟨.hbm, 473, rfl⟩
abbrev main_v424 : Ref sig .tc := ⟨.hbm, 474, rfl⟩
abbrev main_v425 : Ref sig .tc := ⟨.hbm, 475, rfl⟩
abbrev main_v426 : Ref sig .tc := ⟨.hbm, 476, rfl⟩
abbrev main_v427 : Ref sig .tc := ⟨.hbm, 477, rfl⟩
abbrev main_v428 : Ref sig .tc := ⟨.hbm, 478, rfl⟩
abbrev main_v429 : Ref sig .tc := ⟨.hbm, 479, rfl⟩
abbrev main_v430 : Ref sig .tc := ⟨.hbm, 480, rfl⟩
abbrev main_v431 : Ref sig .tc := ⟨.hbm, 481, rfl⟩
abbrev main_v432 : Ref sig .tc := ⟨.hbm, 482, rfl⟩
abbrev main_v433 : Ref sig .tc := ⟨.hbm, 483, rfl⟩
abbrev main_v434 : Ref sig .tc := ⟨.hbm, 484, rfl⟩
abbrev main_v435 : Ref sig .tc := ⟨.hbm, 485, rfl⟩
abbrev main_v436 : Ref sig .tc := ⟨.hbm, 486, rfl⟩
abbrev main_v437 : Ref sig .tc := ⟨.hbm, 487, rfl⟩
abbrev main_v438 : Ref sig .tc := ⟨.hbm, 488, rfl⟩
abbrev main_v439 : Ref sig .tc := ⟨.hbm, 489, rfl⟩
abbrev main_v440 : Ref sig .tc := ⟨.hbm, 490, rfl⟩
abbrev main_v441 : Ref sig .tc := ⟨.hbm, 491, rfl⟩
abbrev main_v442 : Ref sig .tc := ⟨.hbm, 492, rfl⟩
abbrev main_v443 : Ref sig .tc := ⟨.hbm, 493, rfl⟩
abbrev main_v444 : Ref sig .tc := ⟨.hbm, 494, rfl⟩
abbrev main_v445 : Ref sig .tc := ⟨.hbm, 495, rfl⟩
abbrev main_v446 : Ref sig .tc := ⟨.hbm, 496, rfl⟩
abbrev main_cst_32 : Ref sig .tc := ⟨.hbm, 497, rfl⟩
abbrev main_v447 : Ref sig .tc := ⟨.hbm, 498, rfl⟩
abbrev main_v448 : Ref sig .tc := ⟨.hbm, 499, rfl⟩
abbrev main_cst_33 : Ref sig .tc := ⟨.hbm, 500, rfl⟩
abbrev main_v449 : Ref sig .tc := ⟨.hbm, 501, rfl⟩
abbrev main_v450 : Ref sig .tc := ⟨.hbm, 502, rfl⟩
abbrev main_v451 : Ref sig .tc := ⟨.hbm, 503, rfl⟩
abbrev main_v452 : Ref sig .tc := ⟨.hbm, 504, rfl⟩
abbrev main_v453 : Ref sig .tc := ⟨.hbm, 505, rfl⟩
abbrev main_v454 : Ref sig .tc := ⟨.hbm, 506, rfl⟩
abbrev main_v455 : Ref sig .tc := ⟨.hbm, 507, rfl⟩
abbrev main_cst_34 : Ref sig .tc := ⟨.hbm, 508, rfl⟩
abbrev main_v456 : Ref sig .tc := ⟨.hbm, 509, rfl⟩
abbrev main_v457 : Ref sig .tc := ⟨.hbm, 510, rfl⟩
abbrev main_cst_35 : Ref sig .tc := ⟨.hbm, 511, rfl⟩
abbrev main_v458 : Ref sig .tc := ⟨.hbm, 512, rfl⟩
abbrev main_v459 : Ref sig .tc := ⟨.hbm, 513, rfl⟩
abbrev main_v460 : Ref sig .tc := ⟨.hbm, 514, rfl⟩
abbrev main_v461 : Ref sig .tc := ⟨.hbm, 515, rfl⟩
abbrev main_cst_36 : Ref sig .tc := ⟨.hbm, 516, rfl⟩
abbrev main_v462 : Ref sig .tc := ⟨.hbm, 517, rfl⟩
abbrev main_v463 : Ref sig .tc := ⟨.hbm, 518, rfl⟩
abbrev main_v464 : Ref sig .tc := ⟨.hbm, 519, rfl⟩
abbrev main_v465 : Ref sig .tc := ⟨.hbm, 520, rfl⟩
abbrev main_v466 : Ref sig .tc := ⟨.hbm, 521, rfl⟩
abbrev main_cst_37 : Ref sig .tc := ⟨.hbm, 522, rfl⟩
abbrev main_v467 : Ref sig .tc := ⟨.hbm, 523, rfl⟩
abbrev main_v468 : Ref sig .tc := ⟨.hbm, 524, rfl⟩
abbrev main_cst_38 : Ref sig .tc := ⟨.hbm, 525, rfl⟩
abbrev main_v469 : Ref sig .tc := ⟨.hbm, 526, rfl⟩
abbrev main_v470 : Ref sig .tc := ⟨.hbm, 527, rfl⟩
abbrev main_v471 : Ref sig .tc := ⟨.hbm, 528, rfl⟩
abbrev main_v472 : Ref sig .tc := ⟨.hbm, 529, rfl⟩
abbrev main_v473 : Ref sig .tc := ⟨.hbm, 530, rfl⟩
abbrev main_v474 : Ref sig .tc := ⟨.hbm, 531, rfl⟩
abbrev main_cst_39 : Ref sig .tc := ⟨.hbm, 532, rfl⟩
abbrev main_v475 : Ref sig .tc := ⟨.hbm, 533, rfl⟩
abbrev main_v476 : Ref sig .tc := ⟨.hbm, 534, rfl⟩
abbrev main_cst_40 : Ref sig .tc := ⟨.hbm, 535, rfl⟩
abbrev main_v477 : Ref sig .tc := ⟨.hbm, 536, rfl⟩
abbrev main_v478 : Ref sig .tc := ⟨.hbm, 537, rfl⟩
abbrev main_v479 : Ref sig .tc := ⟨.hbm, 538, rfl⟩
abbrev main_v480 : Ref sig .tc := ⟨.hbm, 539, rfl⟩
abbrev main_v481 : Ref sig .tc := ⟨.hbm, 540, rfl⟩
abbrev main_v482 : Ref sig .tc := ⟨.hbm, 541, rfl⟩
abbrev main_v483 : Ref sig .tc := ⟨.hbm, 542, rfl⟩
abbrev main_cst_41 : Ref sig .tc := ⟨.hbm, 543, rfl⟩
abbrev main_v484 : Ref sig .tc := ⟨.hbm, 544, rfl⟩
abbrev main_v485 : Ref sig .tc := ⟨.hbm, 545, rfl⟩
abbrev main_cst_42 : Ref sig .tc := ⟨.hbm, 546, rfl⟩
abbrev main_v486 : Ref sig .tc := ⟨.hbm, 547, rfl⟩
abbrev main_v487 : Ref sig .tc := ⟨.hbm, 548, rfl⟩
abbrev main_v488 : Ref sig .tc := ⟨.hbm, 549, rfl⟩
abbrev main_v489 : Ref sig .tc := ⟨.hbm, 550, rfl⟩
abbrev main_cst_43 : Ref sig .tc := ⟨.hbm, 551, rfl⟩
abbrev main_v490 : Ref sig .tc := ⟨.hbm, 552, rfl⟩
abbrev main_v491 : Ref sig .tc := ⟨.hbm, 553, rfl⟩
abbrev main_v492 : Ref sig .tc := ⟨.hbm, 554, rfl⟩
abbrev main_v493 : Ref sig .tc := ⟨.hbm, 555, rfl⟩
abbrev main_v494 : Ref sig .tc := ⟨.hbm, 556, rfl⟩
abbrev main_cst_44 : Ref sig .tc := ⟨.hbm, 557, rfl⟩
abbrev main_v495 : Ref sig .tc := ⟨.hbm, 558, rfl⟩
abbrev main_v496 : Ref sig .tc := ⟨.hbm, 559, rfl⟩
abbrev main_cst_45 : Ref sig .tc := ⟨.hbm, 560, rfl⟩
abbrev main_v497 : Ref sig .tc := ⟨.hbm, 561, rfl⟩
abbrev main_v498 : Ref sig .tc := ⟨.hbm, 562, rfl⟩
abbrev main_v499 : Ref sig .tc := ⟨.hbm, 563, rfl⟩
abbrev main_c_46 : Ref sig .tc := ⟨.hbm, 564, rfl⟩
abbrev main_call9_v0 : Ref sig .tc := ⟨.hbm, 565, rfl⟩
abbrev main_v500 : Ref sig .tc := ⟨.hbm, 566, rfl⟩
abbrev main_v501 : Ref sig .tc := ⟨.hbm, 567, rfl⟩
abbrev main_v502 : Ref sig .tc := ⟨.hbm, 568, rfl⟩
abbrev main_v503 : Ref sig .tc := ⟨.hbm, 569, rfl⟩
abbrev main_v504 : Ref sig .tc := ⟨.hbm, 570, rfl⟩
abbrev main_v505 : Ref sig .tc := ⟨.hbm, 571, rfl⟩
abbrev main_cst_47 : Ref sig .tc := ⟨.hbm, 572, rfl⟩
abbrev main_v506 : Ref sig .tc := ⟨.hbm, 573, rfl⟩
abbrev main_v507 : Ref sig .tc := ⟨.hbm, 574, rfl⟩
abbrev main_v508 : Ref sig .tc := ⟨.hbm, 575, rfl⟩
abbrev main_v509 : Ref sig .tc := ⟨.hbm, 576, rfl⟩
abbrev main_v510 : Ref sig .tc := ⟨.hbm, 577, rfl⟩
abbrev main_v511 : Ref sig .tc := ⟨.hbm, 578, rfl⟩
abbrev main_v512 : Ref sig .tc := ⟨.hbm, 579, rfl⟩
abbrev main_v513 : Ref sig .tc := ⟨.hbm, 580, rfl⟩
abbrev main_v514 : Ref sig .tc := ⟨.hbm, 581, rfl⟩
abbrev main_v515 : Ref sig .tc := ⟨.hbm, 582, rfl⟩
abbrev main_v516 : Ref sig .tc := ⟨.hbm, 583, rfl⟩
abbrev main_v517 : Ref sig .tc := ⟨.hbm, 584, rfl⟩
abbrev main_v518 : Ref sig .tc := ⟨.hbm, 585, rfl⟩
abbrev main_v519 : Ref sig .tc := ⟨.hbm, 586, rfl⟩
abbrev main_v520 : Ref sig .tc := ⟨.hbm, 587, rfl⟩
abbrev main_v521 : Ref sig .tc := ⟨.hbm, 588, rfl⟩
abbrev main_v522 : Ref sig .tc := ⟨.hbm, 589, rfl⟩
abbrev main_v523 : Ref sig .tc := ⟨.hbm, 590, rfl⟩
abbrev main_v524 : Ref sig .tc := ⟨.hbm, 591, rfl⟩
abbrev main_v525 : Ref sig .tc := ⟨.hbm, 592, rfl⟩
abbrev main_v526 : Ref sig .tc := ⟨.hbm, 593, rfl⟩
abbrev main_v527 : Ref sig .tc := ⟨.hbm, 594, rfl⟩
abbrev main_v528 : Ref sig .tc := ⟨.hbm, 595, rfl⟩
abbrev main_v529 : Ref sig .tc := ⟨.hbm, 596, rfl⟩
abbrev main_v530 : Ref sig .tc := ⟨.hbm, 597, rfl⟩
abbrev main_v531 : Ref sig .tc := ⟨.hbm, 598, rfl⟩
abbrev main_v532 : Ref sig .tc := ⟨.hbm, 599, rfl⟩
abbrev main_v533 : Ref sig .tc := ⟨.hbm, 600, rfl⟩
abbrev main_v534 : Ref sig .tc := ⟨.hbm, 601, rfl⟩
abbrev main_v535 : Ref sig .tc := ⟨.hbm, 602, rfl⟩
abbrev main_v536 : Ref sig .tc := ⟨.hbm, 603, rfl⟩
abbrev main_v537 : Ref sig .tc := ⟨.hbm, 604, rfl⟩
abbrev main_v538 : Ref sig .tc := ⟨.hbm, 605, rfl⟩
abbrev main_v539 : Ref sig .tc := ⟨.hbm, 606, rfl⟩
abbrev main_v540 : Ref sig .tc := ⟨.hbm, 607, rfl⟩
abbrev main_v541 : Ref sig .tc := ⟨.hbm, 608, rfl⟩
abbrev main_v542 : Ref sig .tc := ⟨.hbm, 609, rfl⟩
abbrev main_v543 : Ref sig .tc := ⟨.hbm, 610, rfl⟩
abbrev main_v544 : Ref sig .tc := ⟨.hbm, 611, rfl⟩
abbrev main_v545 : Ref sig .tc := ⟨.hbm, 612, rfl⟩
abbrev main_v546 : Ref sig .tc := ⟨.hbm, 613, rfl⟩
abbrev main_v547 : Ref sig .tc := ⟨.hbm, 614, rfl⟩
abbrev main_v548 : Ref sig .tc := ⟨.hbm, 615, rfl⟩
abbrev main_v549 : Ref sig .tc := ⟨.hbm, 616, rfl⟩
abbrev main_v550 : Ref sig .tc := ⟨.hbm, 617, rfl⟩
abbrev main_v551 : Ref sig .tc := ⟨.hbm, 618, rfl⟩
abbrev main_v552 : Ref sig .tc := ⟨.hbm, 619, rfl⟩
abbrev main_v553 : Ref sig .tc := ⟨.hbm, 620, rfl⟩
abbrev main_v554 : Ref sig .tc := ⟨.hbm, 621, rfl⟩
abbrev main_v555 : Ref sig .tc := ⟨.hbm, 622, rfl⟩
abbrev main_v556 : Ref sig .tc := ⟨.hbm, 623, rfl⟩
abbrev main_v557 : Ref sig .tc := ⟨.hbm, 624, rfl⟩
abbrev main_v558 : Ref sig .tc := ⟨.hbm, 625, rfl⟩
abbrev main_v559 : Ref sig .tc := ⟨.hbm, 626, rfl⟩
abbrev main_v560 : Ref sig .tc := ⟨.hbm, 627, rfl⟩
abbrev main_v561 : Ref sig .tc := ⟨.hbm, 628, rfl⟩
abbrev main_v562 : Ref sig .tc := ⟨.hbm, 629, rfl⟩
abbrev main_v563 : Ref sig .tc := ⟨.hbm, 630, rfl⟩
abbrev main_v564 : Ref sig .tc := ⟨.hbm, 631, rfl⟩
abbrev main_v565 : Ref sig .tc := ⟨.hbm, 632, rfl⟩
abbrev main_v566 : Ref sig .tc := ⟨.hbm, 633, rfl⟩
abbrev main_v567 : Ref sig .tc := ⟨.hbm, 634, rfl⟩
abbrev main_v568 : Ref sig .tc := ⟨.hbm, 635, rfl⟩
abbrev main_v569 : Ref sig .tc := ⟨.hbm, 636, rfl⟩
abbrev main_v570 : Ref sig .tc := ⟨.hbm, 637, rfl⟩
abbrev main_v571 : Ref sig .tc := ⟨.hbm, 638, rfl⟩
abbrev main_v572 : Ref sig .tc := ⟨.hbm, 639, rfl⟩
abbrev main_v573 : Ref sig .tc := ⟨.hbm, 640, rfl⟩
abbrev main_v574 : Ref sig .tc := ⟨.hbm, 641, rfl⟩
abbrev main_v575 : Ref sig .tc := ⟨.hbm, 642, rfl⟩
abbrev main_v576 : Ref sig .tc := ⟨.hbm, 643, rfl⟩
abbrev main_v577 : Ref sig .tc := ⟨.hbm, 644, rfl⟩
abbrev main_v578 : Ref sig .tc := ⟨.hbm, 645, rfl⟩
abbrev main_v579 : Ref sig .tc := ⟨.hbm, 646, rfl⟩
abbrev main_v580 : Ref sig .tc := ⟨.hbm, 647, rfl⟩
abbrev main_v581 : Ref sig .tc := ⟨.hbm, 648, rfl⟩
abbrev main_v582 : Ref sig .tc := ⟨.hbm, 649, rfl⟩
abbrev main_v583 : Ref sig .tc := ⟨.hbm, 650, rfl⟩
abbrev main_v584 : Ref sig .tc := ⟨.hbm, 651, rfl⟩
abbrev main_v585 : Ref sig .tc := ⟨.hbm, 652, rfl⟩
abbrev main_v586 : Ref sig .tc := ⟨.hbm, 653, rfl⟩
abbrev main_v587 : Ref sig .tc := ⟨.hbm, 654, rfl⟩
abbrev main_v588 : Ref sig .tc := ⟨.hbm, 655, rfl⟩
abbrev main_v589 : Ref sig .tc := ⟨.hbm, 656, rfl⟩
abbrev main_v590 : Ref sig .tc := ⟨.hbm, 657, rfl⟩
abbrev main_v591 : Ref sig .tc := ⟨.hbm, 658, rfl⟩
abbrev main_v592 : Ref sig .tc := ⟨.hbm, 659, rfl⟩
abbrev main_v593 : Ref sig .tc := ⟨.hbm, 660, rfl⟩
abbrev main_v594 : Ref sig .tc := ⟨.hbm, 661, rfl⟩
abbrev main_v595 : Ref sig .tc := ⟨.hbm, 662, rfl⟩
abbrev main_v596 : Ref sig .tc := ⟨.hbm, 663, rfl⟩
abbrev main_v597 : Ref sig .tc := ⟨.hbm, 664, rfl⟩
abbrev main_v598 : Ref sig .tc := ⟨.hbm, 665, rfl⟩
abbrev main_v599 : Ref sig .tc := ⟨.hbm, 666, rfl⟩
abbrev main_v600 : Ref sig .tc := ⟨.hbm, 667, rfl⟩
abbrev main_v601 : Ref sig .tc := ⟨.hbm, 668, rfl⟩
abbrev main_v602 : Ref sig .tc := ⟨.hbm, 669, rfl⟩
abbrev main_v603 : Ref sig .tc := ⟨.hbm, 670, rfl⟩
abbrev main_v604 : Ref sig .tc := ⟨.hbm, 671, rfl⟩
abbrev main_v605 : Ref sig .tc := ⟨.hbm, 672, rfl⟩
abbrev main_v606 : Ref sig .tc := ⟨.hbm, 673, rfl⟩
abbrev main_v607 : Ref sig .tc := ⟨.hbm, 674, rfl⟩
abbrev main_v608 : Ref sig .tc := ⟨.hbm, 675, rfl⟩
abbrev main_v609 : Ref sig .tc := ⟨.hbm, 676, rfl⟩
abbrev main_v610 : Ref sig .tc := ⟨.hbm, 677, rfl⟩
abbrev main_v611 : Ref sig .tc := ⟨.hbm, 678, rfl⟩
abbrev main_v612 : Ref sig .tc := ⟨.hbm, 679, rfl⟩
abbrev main_v613 : Ref sig .tc := ⟨.hbm, 680, rfl⟩
abbrev main_v614 : Ref sig .tc := ⟨.hbm, 681, rfl⟩
abbrev main_v615 : Ref sig .tc := ⟨.hbm, 682, rfl⟩
abbrev main_v616 : Ref sig .tc := ⟨.hbm, 683, rfl⟩
abbrev main_v617 : Ref sig .tc := ⟨.hbm, 684, rfl⟩
abbrev main_v618 : Ref sig .tc := ⟨.hbm, 685, rfl⟩
abbrev main_v619 : Ref sig .tc := ⟨.hbm, 686, rfl⟩
abbrev main_v620 : Ref sig .tc := ⟨.hbm, 687, rfl⟩
abbrev main_v621 : Ref sig .tc := ⟨.hbm, 688, rfl⟩
abbrev main_v622 : Ref sig .tc := ⟨.hbm, 689, rfl⟩
abbrev main_v623 : Ref sig .tc := ⟨.hbm, 690, rfl⟩
abbrev main_v624 : Ref sig .tc := ⟨.hbm, 691, rfl⟩
abbrev main_v625 : Ref sig .tc := ⟨.hbm, 692, rfl⟩
abbrev main_v626 : Ref sig .tc := ⟨.hbm, 693, rfl⟩
abbrev main_v627 : Ref sig .tc := ⟨.hbm, 694, rfl⟩
abbrev main_v628 : Ref sig .tc := ⟨.hbm, 695, rfl⟩
abbrev main_v629 : Ref sig .tc := ⟨.hbm, 696, rfl⟩
abbrev main_v630 : Ref sig .tc := ⟨.hbm, 697, rfl⟩
abbrev main_v631 : Ref sig .tc := ⟨.hbm, 698, rfl⟩
abbrev main_v632 : Ref sig .tc := ⟨.hbm, 699, rfl⟩
abbrev main_v633 : Ref sig .tc := ⟨.hbm, 700, rfl⟩
abbrev main_v634 : Ref sig .tc := ⟨.hbm, 701, rfl⟩
abbrev main_v635 : Ref sig .tc := ⟨.hbm, 702, rfl⟩
abbrev main_v636 : Ref sig .tc := ⟨.hbm, 703, rfl⟩
abbrev main_v637 : Ref sig .tc := ⟨.hbm, 704, rfl⟩
abbrev main_v638 : Ref sig .tc := ⟨.hbm, 705, rfl⟩
abbrev main_v639 : Ref sig .tc := ⟨.hbm, 706, rfl⟩
abbrev main_v640 : Ref sig .tc := ⟨.hbm, 707, rfl⟩
abbrev main_v641 : Ref sig .tc := ⟨.hbm, 708, rfl⟩
abbrev main_v642 : Ref sig .tc := ⟨.hbm, 709, rfl⟩
abbrev main_v643 : Ref sig .tc := ⟨.hbm, 710, rfl⟩
abbrev main_v644 : Ref sig .tc := ⟨.hbm, 711, rfl⟩
abbrev main_v645 : Ref sig .tc := ⟨.hbm, 712, rfl⟩
abbrev main_v646 : Ref sig .tc := ⟨.hbm, 713, rfl⟩
abbrev main_v647 : Ref sig .tc := ⟨.hbm, 714, rfl⟩
abbrev main_v648 : Ref sig .tc := ⟨.hbm, 715, rfl⟩
abbrev main_v649 : Ref sig .tc := ⟨.hbm, 716, rfl⟩
abbrev main_v650 : Ref sig .tc := ⟨.hbm, 717, rfl⟩
abbrev main_v651 : Ref sig .tc := ⟨.hbm, 718, rfl⟩
abbrev main_v652 : Ref sig .tc := ⟨.hbm, 719, rfl⟩
abbrev main_v653 : Ref sig .tc := ⟨.hbm, 720, rfl⟩
abbrev main_v654 : Ref sig .tc := ⟨.hbm, 721, rfl⟩
abbrev main_v655 : Ref sig .tc := ⟨.hbm, 722, rfl⟩
abbrev main_v656 : Ref sig .tc := ⟨.hbm, 723, rfl⟩
abbrev main_v657 : Ref sig .tc := ⟨.hbm, 724, rfl⟩
abbrev main_v658 : Ref sig .tc := ⟨.hbm, 725, rfl⟩
abbrev main_v659 : Ref sig .tc := ⟨.hbm, 726, rfl⟩
abbrev main_v660 : Ref sig .tc := ⟨.hbm, 727, rfl⟩
abbrev main_v661 : Ref sig .tc := ⟨.hbm, 728, rfl⟩
abbrev main_v662 : Ref sig .tc := ⟨.hbm, 729, rfl⟩
abbrev main_v663 : Ref sig .tc := ⟨.hbm, 730, rfl⟩
abbrev main_cst_48 : Ref sig .tc := ⟨.hbm, 731, rfl⟩
abbrev main_v664 : Ref sig .tc := ⟨.hbm, 732, rfl⟩
abbrev main_v665 : Ref sig .tc := ⟨.hbm, 733, rfl⟩
abbrev main_cst_49 : Ref sig .tc := ⟨.hbm, 734, rfl⟩
abbrev main_v666 : Ref sig .tc := ⟨.hbm, 735, rfl⟩
abbrev main_v667 : Ref sig .tc := ⟨.hbm, 736, rfl⟩
abbrev main_v668 : Ref sig .tc := ⟨.hbm, 737, rfl⟩
abbrev main_v669 : Ref sig .tc := ⟨.hbm, 738, rfl⟩
abbrev main_v670 : Ref sig .tc := ⟨.hbm, 739, rfl⟩
abbrev main_v671 : Ref sig .tc := ⟨.hbm, 740, rfl⟩
abbrev main_v672 : Ref sig .tc := ⟨.hbm, 741, rfl⟩
abbrev main_cst_50 : Ref sig .tc := ⟨.hbm, 742, rfl⟩
abbrev main_v673 : Ref sig .tc := ⟨.hbm, 743, rfl⟩
abbrev main_v674 : Ref sig .tc := ⟨.hbm, 744, rfl⟩
abbrev main_cst_51 : Ref sig .tc := ⟨.hbm, 745, rfl⟩
abbrev main_v675 : Ref sig .tc := ⟨.hbm, 746, rfl⟩
abbrev main_v676 : Ref sig .tc := ⟨.hbm, 747, rfl⟩
abbrev main_v677 : Ref sig .tc := ⟨.hbm, 748, rfl⟩
abbrev main_v678 : Ref sig .tc := ⟨.hbm, 749, rfl⟩
abbrev main_cst_52 : Ref sig .tc := ⟨.hbm, 750, rfl⟩
abbrev main_v679 : Ref sig .tc := ⟨.hbm, 751, rfl⟩
abbrev main_v680 : Ref sig .tc := ⟨.hbm, 752, rfl⟩
abbrev main_v681 : Ref sig .tc := ⟨.hbm, 753, rfl⟩
abbrev main_v682 : Ref sig .tc := ⟨.hbm, 754, rfl⟩
abbrev main_v683 : Ref sig .tc := ⟨.hbm, 755, rfl⟩
abbrev main_cst_53 : Ref sig .tc := ⟨.hbm, 756, rfl⟩
abbrev main_v684 : Ref sig .tc := ⟨.hbm, 757, rfl⟩
abbrev main_v685 : Ref sig .tc := ⟨.hbm, 758, rfl⟩
abbrev main_cst_54 : Ref sig .tc := ⟨.hbm, 759, rfl⟩
abbrev main_v686 : Ref sig .tc := ⟨.hbm, 760, rfl⟩
abbrev main_v687 : Ref sig .tc := ⟨.hbm, 761, rfl⟩
abbrev main_v688 : Ref sig .tc := ⟨.hbm, 762, rfl⟩
abbrev main_v689 : Ref sig .tc := ⟨.hbm, 763, rfl⟩
abbrev main_v690 : Ref sig .tc := ⟨.hbm, 764, rfl⟩
abbrev main_v691 : Ref sig .tc := ⟨.hbm, 765, rfl⟩
abbrev main_cst_55 : Ref sig .tc := ⟨.hbm, 766, rfl⟩
abbrev main_v692 : Ref sig .tc := ⟨.hbm, 767, rfl⟩
abbrev main_v693 : Ref sig .tc := ⟨.hbm, 768, rfl⟩
abbrev main_cst_56 : Ref sig .tc := ⟨.hbm, 769, rfl⟩
abbrev main_v694 : Ref sig .tc := ⟨.hbm, 770, rfl⟩
abbrev main_v695 : Ref sig .tc := ⟨.hbm, 771, rfl⟩
abbrev main_v696 : Ref sig .tc := ⟨.hbm, 772, rfl⟩
abbrev main_v697 : Ref sig .tc := ⟨.hbm, 773, rfl⟩
abbrev main_v698 : Ref sig .tc := ⟨.hbm, 774, rfl⟩
abbrev main_v699 : Ref sig .tc := ⟨.hbm, 775, rfl⟩
abbrev main_v700 : Ref sig .tc := ⟨.hbm, 776, rfl⟩
abbrev main_cst_57 : Ref sig .tc := ⟨.hbm, 777, rfl⟩
abbrev main_v701 : Ref sig .tc := ⟨.hbm, 778, rfl⟩
abbrev main_v702 : Ref sig .tc := ⟨.hbm, 779, rfl⟩
abbrev main_cst_58 : Ref sig .tc := ⟨.hbm, 780, rfl⟩
abbrev main_v703 : Ref sig .tc := ⟨.hbm, 781, rfl⟩
abbrev main_v704 : Ref sig .tc := ⟨.hbm, 782, rfl⟩
abbrev main_v705 : Ref sig .tc := ⟨.hbm, 783, rfl⟩
abbrev main_v706 : Ref sig .tc := ⟨.hbm, 784, rfl⟩
abbrev main_cst_59 : Ref sig .tc := ⟨.hbm, 785, rfl⟩
abbrev main_v707 : Ref sig .tc := ⟨.hbm, 786, rfl⟩
abbrev main_v708 : Ref sig .tc := ⟨.hbm, 787, rfl⟩
abbrev main_v709 : Ref sig .tc := ⟨.hbm, 788, rfl⟩
abbrev main_v710 : Ref sig .tc := ⟨.hbm, 789, rfl⟩
abbrev main_v711 : Ref sig .tc := ⟨.hbm, 790, rfl⟩
abbrev main_cst_60 : Ref sig .tc := ⟨.hbm, 791, rfl⟩
abbrev main_v712 : Ref sig .tc := ⟨.hbm, 792, rfl⟩
abbrev main_v713 : Ref sig .tc := ⟨.hbm, 793, rfl⟩
abbrev main_cst_61 : Ref sig .tc := ⟨.hbm, 794, rfl⟩
abbrev main_v714 : Ref sig .tc := ⟨.hbm, 795, rfl⟩
abbrev main_v715 : Ref sig .tc := ⟨.hbm, 796, rfl⟩
abbrev main_v716 : Ref sig .tc := ⟨.hbm, 797, rfl⟩
abbrev main_c_62 : Ref sig .tc := ⟨.hbm, 798, rfl⟩
abbrev main_call12_v0 : Ref sig .tc := ⟨.hbm, 799, rfl⟩
abbrev main_v717 : Ref sig .tc := ⟨.hbm, 800, rfl⟩
abbrev main_v718 : Ref sig .tc := ⟨.hbm, 801, rfl⟩
abbrev main_v719 : Ref sig .tc := ⟨.hbm, 802, rfl⟩
abbrev main_v720 : Ref sig .tc := ⟨.hbm, 803, rfl⟩
abbrev main_v721 : Ref sig .tc := ⟨.hbm, 804, rfl⟩
abbrev main_v722 : Ref sig .tc := ⟨.hbm, 805, rfl⟩
abbrev main_cst_63 : Ref sig .tc := ⟨.hbm, 806, rfl⟩
abbrev main_v723 : Ref sig .tc := ⟨.hbm, 807, rfl⟩
abbrev main_v724 : Ref sig .tc := ⟨.hbm, 808, rfl⟩
abbrev main_v725 : Ref sig .tc := ⟨.hbm, 809, rfl⟩
abbrev main_v726 : Ref sig .tc := ⟨.hbm, 810, rfl⟩
abbrev main_v727 : Ref sig .tc := ⟨.hbm, 811, rfl⟩
abbrev main_v728 : Ref sig .tc := ⟨.hbm, 812, rfl⟩
abbrev main_v729 : Ref sig .tc := ⟨.hbm, 813, rfl⟩
abbrev main_v730 : Ref sig .tc := ⟨.hbm, 814, rfl⟩
abbrev main_v731 : Ref sig .tc := ⟨.hbm, 815, rfl⟩
abbrev main_v732 : Ref sig .tc := ⟨.hbm, 816, rfl⟩
abbrev main_v733 : Ref sig .tc := ⟨.hbm, 817, rfl⟩
abbrev main_v734 : Ref sig .tc := ⟨.hbm, 818, rfl⟩
abbrev main_v735 : Ref sig .tc := ⟨.hbm, 819, rfl⟩
abbrev main_v736 : Ref sig .tc := ⟨.hbm, 820, rfl⟩
abbrev main_v737 : Ref sig .tc := ⟨.hbm, 821, rfl⟩
abbrev main_v738 : Ref sig .tc := ⟨.hbm, 822, rfl⟩
abbrev main_v739 : Ref sig .tc := ⟨.hbm, 823, rfl⟩
abbrev main_v740 : Ref sig .tc := ⟨.hbm, 824, rfl⟩
abbrev main_v741 : Ref sig .tc := ⟨.hbm, 825, rfl⟩
abbrev main_v742 : Ref sig .tc := ⟨.hbm, 826, rfl⟩
abbrev main_v743 : Ref sig .tc := ⟨.hbm, 827, rfl⟩
abbrev main_v744 : Ref sig .tc := ⟨.hbm, 828, rfl⟩
abbrev main_v745 : Ref sig .tc := ⟨.hbm, 829, rfl⟩
abbrev main_v746 : Ref sig .tc := ⟨.hbm, 830, rfl⟩
abbrev main_v747 : Ref sig .tc := ⟨.hbm, 831, rfl⟩
abbrev main_v748 : Ref sig .tc := ⟨.hbm, 832, rfl⟩
abbrev main_v749 : Ref sig .tc := ⟨.hbm, 833, rfl⟩
abbrev main_v750 : Ref sig .tc := ⟨.hbm, 834, rfl⟩
abbrev main_v751 : Ref sig .tc := ⟨.hbm, 835, rfl⟩
abbrev main_v752 : Ref sig .tc := ⟨.hbm, 836, rfl⟩
abbrev main_v753 : Ref sig .tc := ⟨.hbm, 837, rfl⟩
abbrev main_v754 : Ref sig .tc := ⟨.hbm, 838, rfl⟩
abbrev main_v755 : Ref sig .tc := ⟨.hbm, 839, rfl⟩
abbrev main_v756 : Ref sig .tc := ⟨.hbm, 840, rfl⟩
abbrev main_v757 : Ref sig .tc := ⟨.hbm, 841, rfl⟩
abbrev main_v758 : Ref sig .tc := ⟨.hbm, 842, rfl⟩
abbrev main_v759 : Ref sig .tc := ⟨.hbm, 843, rfl⟩
abbrev main_v760 : Ref sig .tc := ⟨.hbm, 844, rfl⟩
abbrev main_v761 : Ref sig .tc := ⟨.hbm, 845, rfl⟩
abbrev main_v762 : Ref sig .tc := ⟨.hbm, 846, rfl⟩
abbrev main_v763 : Ref sig .tc := ⟨.hbm, 847, rfl⟩
abbrev main_v764 : Ref sig .tc := ⟨.hbm, 848, rfl⟩
abbrev main_v765 : Ref sig .tc := ⟨.hbm, 849, rfl⟩
abbrev main_v766 : Ref sig .tc := ⟨.hbm, 850, rfl⟩
abbrev main_v767 : Ref sig .tc := ⟨.hbm, 851, rfl⟩
abbrev main_v768 : Ref sig .tc := ⟨.hbm, 852, rfl⟩
abbrev main_v769 : Ref sig .tc := ⟨.hbm, 853, rfl⟩
abbrev main_v770 : Ref sig .tc := ⟨.hbm, 854, rfl⟩
abbrev main_v771 : Ref sig .tc := ⟨.hbm, 855, rfl⟩
abbrev main_v772 : Ref sig .tc := ⟨.hbm, 856, rfl⟩
abbrev main_v773 : Ref sig .tc := ⟨.hbm, 857, rfl⟩
abbrev main_v774 : Ref sig .tc := ⟨.hbm, 858, rfl⟩
abbrev main_v775 : Ref sig .tc := ⟨.hbm, 859, rfl⟩
abbrev main_v776 : Ref sig .tc := ⟨.hbm, 860, rfl⟩
abbrev main_v777 : Ref sig .tc := ⟨.hbm, 861, rfl⟩
abbrev main_v778 : Ref sig .tc := ⟨.hbm, 862, rfl⟩
abbrev main_v779 : Ref sig .tc := ⟨.hbm, 863, rfl⟩
abbrev main_v780 : Ref sig .tc := ⟨.hbm, 864, rfl⟩
abbrev main_v781 : Ref sig .tc := ⟨.hbm, 865, rfl⟩
abbrev main_v782 : Ref sig .tc := ⟨.hbm, 866, rfl⟩
abbrev main_v783 : Ref sig .tc := ⟨.hbm, 867, rfl⟩
abbrev main_v784 : Ref sig .tc := ⟨.hbm, 868, rfl⟩
abbrev main_v785 : Ref sig .tc := ⟨.hbm, 869, rfl⟩
abbrev main_v786 : Ref sig .tc := ⟨.hbm, 870, rfl⟩
abbrev main_v787 : Ref sig .tc := ⟨.hbm, 871, rfl⟩
abbrev main_v788 : Ref sig .tc := ⟨.hbm, 872, rfl⟩
abbrev main_v789 : Ref sig .tc := ⟨.hbm, 873, rfl⟩
abbrev main_v790 : Ref sig .tc := ⟨.hbm, 874, rfl⟩
abbrev main_v791 : Ref sig .tc := ⟨.hbm, 875, rfl⟩
abbrev main_v792 : Ref sig .tc := ⟨.hbm, 876, rfl⟩
abbrev main_v793 : Ref sig .tc := ⟨.hbm, 877, rfl⟩
abbrev main_v794 : Ref sig .tc := ⟨.hbm, 878, rfl⟩
abbrev main_v795 : Ref sig .tc := ⟨.hbm, 879, rfl⟩
abbrev main_v796 : Ref sig .tc := ⟨.hbm, 880, rfl⟩
abbrev main_v797 : Ref sig .tc := ⟨.hbm, 881, rfl⟩
abbrev main_v798 : Ref sig .tc := ⟨.hbm, 882, rfl⟩
abbrev main_v799 : Ref sig .tc := ⟨.hbm, 883, rfl⟩
abbrev main_v800 : Ref sig .tc := ⟨.hbm, 884, rfl⟩
abbrev main_v801 : Ref sig .tc := ⟨.hbm, 885, rfl⟩
abbrev main_v802 : Ref sig .tc := ⟨.hbm, 886, rfl⟩
abbrev main_v803 : Ref sig .tc := ⟨.hbm, 887, rfl⟩
abbrev main_v804 : Ref sig .tc := ⟨.hbm, 888, rfl⟩
abbrev main_v805 : Ref sig .tc := ⟨.hbm, 889, rfl⟩
abbrev main_v806 : Ref sig .tc := ⟨.hbm, 890, rfl⟩
abbrev main_v807 : Ref sig .tc := ⟨.hbm, 891, rfl⟩
abbrev main_v808 : Ref sig .tc := ⟨.hbm, 892, rfl⟩
abbrev main_v809 : Ref sig .tc := ⟨.hbm, 893, rfl⟩
abbrev main_v810 : Ref sig .tc := ⟨.hbm, 894, rfl⟩
abbrev main_v811 : Ref sig .tc := ⟨.hbm, 895, rfl⟩
abbrev main_v812 : Ref sig .tc := ⟨.hbm, 896, rfl⟩
abbrev main_v813 : Ref sig .tc := ⟨.hbm, 897, rfl⟩
abbrev main_v814 : Ref sig .tc := ⟨.hbm, 898, rfl⟩
abbrev main_v815 : Ref sig .tc := ⟨.hbm, 899, rfl⟩
abbrev main_v816 : Ref sig .tc := ⟨.hbm, 900, rfl⟩
abbrev main_v817 : Ref sig .tc := ⟨.hbm, 901, rfl⟩
abbrev main_v818 : Ref sig .tc := ⟨.hbm, 902, rfl⟩
abbrev main_v819 : Ref sig .tc := ⟨.hbm, 903, rfl⟩
abbrev main_v820 : Ref sig .tc := ⟨.hbm, 904, rfl⟩
abbrev main_v821 : Ref sig .tc := ⟨.hbm, 905, rfl⟩
abbrev main_v822 : Ref sig .tc := ⟨.hbm, 906, rfl⟩
abbrev main_v823 : Ref sig .tc := ⟨.hbm, 907, rfl⟩
abbrev main_v824 : Ref sig .tc := ⟨.hbm, 908, rfl⟩
abbrev main_v825 : Ref sig .tc := ⟨.hbm, 909, rfl⟩
abbrev main_v826 : Ref sig .tc := ⟨.hbm, 910, rfl⟩
abbrev main_v827 : Ref sig .tc := ⟨.hbm, 911, rfl⟩
abbrev main_v828 : Ref sig .tc := ⟨.hbm, 912, rfl⟩
abbrev main_v829 : Ref sig .tc := ⟨.hbm, 913, rfl⟩
abbrev main_v830 : Ref sig .tc := ⟨.hbm, 914, rfl⟩
abbrev main_v831 : Ref sig .tc := ⟨.hbm, 915, rfl⟩
abbrev main_v832 : Ref sig .tc := ⟨.hbm, 916, rfl⟩
abbrev main_v833 : Ref sig .tc := ⟨.hbm, 917, rfl⟩
abbrev main_v834 : Ref sig .tc := ⟨.hbm, 918, rfl⟩
abbrev main_v835 : Ref sig .tc := ⟨.hbm, 919, rfl⟩
abbrev main_v836 : Ref sig .tc := ⟨.hbm, 920, rfl⟩
abbrev main_v837 : Ref sig .tc := ⟨.hbm, 921, rfl⟩
abbrev main_v838 : Ref sig .tc := ⟨.hbm, 922, rfl⟩
abbrev main_v839 : Ref sig .tc := ⟨.hbm, 923, rfl⟩
abbrev main_v840 : Ref sig .tc := ⟨.hbm, 924, rfl⟩
abbrev main_v841 : Ref sig .tc := ⟨.hbm, 925, rfl⟩
abbrev main_v842 : Ref sig .tc := ⟨.hbm, 926, rfl⟩
abbrev main_v843 : Ref sig .tc := ⟨.hbm, 927, rfl⟩
abbrev main_v844 : Ref sig .tc := ⟨.hbm, 928, rfl⟩
abbrev main_v845 : Ref sig .tc := ⟨.hbm, 929, rfl⟩
abbrev main_v846 : Ref sig .tc := ⟨.hbm, 930, rfl⟩
abbrev main_v847 : Ref sig .tc := ⟨.hbm, 931, rfl⟩
abbrev main_v848 : Ref sig .tc := ⟨.hbm, 932, rfl⟩
abbrev main_v849 : Ref sig .tc := ⟨.hbm, 933, rfl⟩
abbrev main_v850 : Ref sig .tc := ⟨.hbm, 934, rfl⟩
abbrev main_v851 : Ref sig .tc := ⟨.hbm, 935, rfl⟩
abbrev main_v852 : Ref sig .tc := ⟨.hbm, 936, rfl⟩
abbrev main_v853 : Ref sig .tc := ⟨.hbm, 937, rfl⟩
abbrev main_v854 : Ref sig .tc := ⟨.hbm, 938, rfl⟩
abbrev main_v855 : Ref sig .tc := ⟨.hbm, 939, rfl⟩
abbrev main_v856 : Ref sig .tc := ⟨.hbm, 940, rfl⟩
abbrev main_v857 : Ref sig .tc := ⟨.hbm, 941, rfl⟩
abbrev main_v858 : Ref sig .tc := ⟨.hbm, 942, rfl⟩
abbrev main_v859 : Ref sig .tc := ⟨.hbm, 943, rfl⟩
abbrev main_v860 : Ref sig .tc := ⟨.hbm, 944, rfl⟩
abbrev main_v861 : Ref sig .tc := ⟨.hbm, 945, rfl⟩
abbrev main_v862 : Ref sig .tc := ⟨.hbm, 946, rfl⟩
abbrev main_v863 : Ref sig .tc := ⟨.hbm, 947, rfl⟩
abbrev main_v864 : Ref sig .tc := ⟨.hbm, 948, rfl⟩
abbrev main_v865 : Ref sig .tc := ⟨.hbm, 949, rfl⟩
abbrev main_v866 : Ref sig .tc := ⟨.hbm, 950, rfl⟩
abbrev main_v867 : Ref sig .tc := ⟨.hbm, 951, rfl⟩
abbrev main_v868 : Ref sig .tc := ⟨.hbm, 952, rfl⟩
abbrev main_v869 : Ref sig .tc := ⟨.hbm, 953, rfl⟩
abbrev main_v870 : Ref sig .tc := ⟨.hbm, 954, rfl⟩
abbrev main_v871 : Ref sig .tc := ⟨.hbm, 955, rfl⟩
abbrev main_v872 : Ref sig .tc := ⟨.hbm, 956, rfl⟩
abbrev main_v873 : Ref sig .tc := ⟨.hbm, 957, rfl⟩
abbrev main_v874 : Ref sig .tc := ⟨.hbm, 958, rfl⟩
abbrev main_v875 : Ref sig .tc := ⟨.hbm, 959, rfl⟩
abbrev main_v876 : Ref sig .tc := ⟨.hbm, 960, rfl⟩
abbrev main_v877 : Ref sig .tc := ⟨.hbm, 961, rfl⟩
abbrev main_v878 : Ref sig .tc := ⟨.hbm, 962, rfl⟩
abbrev main_v879 : Ref sig .tc := ⟨.hbm, 963, rfl⟩
abbrev main_v880 : Ref sig .tc := ⟨.hbm, 964, rfl⟩
abbrev main_cst_64 : Ref sig .tc := ⟨.hbm, 965, rfl⟩
abbrev main_v881 : Ref sig .tc := ⟨.hbm, 966, rfl⟩
abbrev main_v882 : Ref sig .tc := ⟨.hbm, 967, rfl⟩
abbrev main_cst_65 : Ref sig .tc := ⟨.hbm, 968, rfl⟩
abbrev main_v883 : Ref sig .tc := ⟨.hbm, 969, rfl⟩
abbrev main_v884 : Ref sig .tc := ⟨.hbm, 970, rfl⟩
abbrev main_v885 : Ref sig .tc := ⟨.hbm, 971, rfl⟩
abbrev main_v886 : Ref sig .tc := ⟨.hbm, 972, rfl⟩
abbrev main_v887 : Ref sig .tc := ⟨.hbm, 973, rfl⟩
abbrev main_v888 : Ref sig .tc := ⟨.hbm, 974, rfl⟩
abbrev main_v889 : Ref sig .tc := ⟨.hbm, 975, rfl⟩
abbrev main_cst_66 : Ref sig .tc := ⟨.hbm, 976, rfl⟩
abbrev main_v890 : Ref sig .tc := ⟨.hbm, 977, rfl⟩
abbrev main_v891 : Ref sig .tc := ⟨.hbm, 978, rfl⟩
abbrev main_cst_67 : Ref sig .tc := ⟨.hbm, 979, rfl⟩
abbrev main_v892 : Ref sig .tc := ⟨.hbm, 980, rfl⟩
abbrev main_v893 : Ref sig .tc := ⟨.hbm, 981, rfl⟩
abbrev main_v894 : Ref sig .tc := ⟨.hbm, 982, rfl⟩
abbrev main_v895 : Ref sig .tc := ⟨.hbm, 983, rfl⟩
abbrev main_cst_68 : Ref sig .tc := ⟨.hbm, 984, rfl⟩
abbrev main_v896 : Ref sig .tc := ⟨.hbm, 985, rfl⟩
abbrev main_v897 : Ref sig .tc := ⟨.hbm, 986, rfl⟩
abbrev main_v898 : Ref sig .tc := ⟨.hbm, 987, rfl⟩
abbrev main_v899 : Ref sig .tc := ⟨.hbm, 988, rfl⟩
abbrev main_v900 : Ref sig .tc := ⟨.hbm, 989, rfl⟩
abbrev main_cst_69 : Ref sig .tc := ⟨.hbm, 990, rfl⟩
abbrev main_v901 : Ref sig .tc := ⟨.hbm, 991, rfl⟩
abbrev main_v902 : Ref sig .tc := ⟨.hbm, 992, rfl⟩
abbrev main_cst_70 : Ref sig .tc := ⟨.hbm, 993, rfl⟩
abbrev main_v903 : Ref sig .tc := ⟨.hbm, 994, rfl⟩
abbrev main_v904 : Ref sig .tc := ⟨.hbm, 995, rfl⟩
abbrev main_v905 : Ref sig .tc := ⟨.hbm, 996, rfl⟩
abbrev main_v906 : Ref sig .tc := ⟨.hbm, 997, rfl⟩
abbrev main_v907 : Ref sig .tc := ⟨.hbm, 998, rfl⟩
abbrev main_v908 : Ref sig .tc := ⟨.hbm, 999, rfl⟩
abbrev main_v909 : Ref sig .tc := ⟨.hbm, 1000, rfl⟩
abbrev main_v910 : Ref sig .tc := ⟨.hbm, 1001, rfl⟩
abbrev main_v911 : Ref sig .tc := ⟨.hbm, 1002, rfl⟩
abbrev main_v912 : Ref sig .tc := ⟨.hbm, 1003, rfl⟩
abbrev main_cst_71 : Ref sig .tc := ⟨.hbm, 1004, rfl⟩
abbrev main_v913 : Ref sig .tc := ⟨.hbm, 1005, rfl⟩
abbrev main_v914 : Ref sig .tc := ⟨.hbm, 1006, rfl⟩
abbrev main_cst_72 : Ref sig .tc := ⟨.hbm, 1007, rfl⟩
abbrev main_v915 : Ref sig .tc := ⟨.hbm, 1008, rfl⟩
abbrev main_v916 : Ref sig .tc := ⟨.hbm, 1009, rfl⟩

abbrev nD : Nat := 1
abbrev τ : Topo := Topo.v7x

variable {F : FTy → Type} [FloatOps F]
-- ==== Proof.Spec.lean ====
module

public import Mathlib.Analysis.Real.Sqrt
public import Mathlib.Algebra.BigOperators.Intervals
public import Mathlib.Algebra.Order.BigOperators.Group.Finset
public import Mathlib.Algebra.BigOperators.Ring.Finset
public import Mathlib.Algebra.BigOperators.Field
public import Mathlib.Tactic.Ring
public import Mathlib.Tactic.FieldSimp
public import Mathlib.Tactic.Positivity
public import Mathlib.Tactic.Linarith
public import Mathlib.Tactic.NormNum

/-! The network over the real numbers, with every array a function of natural numbers, and the identities
    that carry it from (batch, channel, depth, height, width) to the kernel's rows and lanes. -/

@[expose] public section

noncomputable section

namespace Cert.Spec

open Finset

/-- An activation: batch, channel, depth, height, width. -/
abbrev A5 := ℕ → ℕ → ℕ → ℕ → ℕ → ℝ

/-- The slp below zero: the 32-bit number nearest to 0.2. -/
def slp : ℝ := 13421773 / 67108864
/-- The number added to a variance: the 32-bit number nearest to 0.00001. -/
def eps : ℝ := 10995116 / 1099511627776

/-- The stabiliser is positive. -/
theorem eps_pos : 0 < eps := by unfold eps; norm_num

/-- The leaky rectifier. -/
def lrelu (x : ℝ) : ℝ := if 0 ≤ x then x else slp * x

/-- The sum over the batch and an `S`-cube. -/
def sum4 (S : ℕ) (f : ℕ → ℕ → ℕ → ℕ → ℝ) : ℝ :=
  ∑ b ∈ range 128, ∑ d ∈ range S, ∑ h ∈ range S, ∑ w ∈ range S, f b d h w

/-- How many numbers a channel holds. -/
def cnt (S : ℕ) : ℝ := 128 * (S : ℝ) ^ 3

/-- A channel's mean. -/
def mean (S : ℕ) (X : A5) (o : ℕ) : ℝ := sum4 S (fun b d h w => X b o d h w) / cnt S

/-- A channel's variance: the mean of the squared differences from the mean. -/
def var (S : ℕ) (X : A5) (o : ℕ) : ℝ :=
  sum4 S (fun b d h w => (X b o d h w - mean S X o) * (X b o d h w - mean S X o)) / cnt S

/-- Batch normalization followed by the leaky rectifier. -/
def bnl (S : ℕ) (X : A5) : A5 := fun b o d h w =>
  lrelu ((X b o d h w - mean S X o) / Real.sqrt (var S X o + eps))

/-- The transposed convolution of stride 2 with a 2-cube of weights. -/
def tc (C : ℕ) (X : A5) (W : A5) : A5 := fun b o d h w =>
  ∑ c ∈ range C, X b c (d / 2) (h / 2) (w / 2) * W (d % 2) (h % 2) (w % 2) c o

/-- An `S`-cube with a border of zeros one wide, read at positions counted from the border. -/
def pad1 (S : ℕ) (X : A5) : A5 := fun b c d h w =>
  if (1 ≤ d ∧ d ≤ S) ∧ (1 ≤ h ∧ h ≤ S) ∧ (1 ≤ w ∧ w ≤ S) then X b c (d - 1) (h - 1) (w - 1) else 0

/-- The convolution with a 3-cube of weights over the zero border. -/
def cv (C S : ℕ) (X : A5) (W : A5) : A5 := fun b o d h w =>
  ∑ p ∈ range 3, ∑ q ∈ range 3, ∑ r ∈ range 3, ∑ i ∈ range C,
    pad1 S X b i (d + p) (h + q) (w + r) * W p q r i o

/-! ## Rows and lanes -/

/-- The kernel's layout of an activation: row `(d * S + h) * 128 + b`, lane `w * C + c`. -/
def rl (S C : ℕ) (X : A5) (r l : ℕ) : ℝ := X (r % 128) (l % C) (r / 128 / S) (r / 128 % S) (l / C)

/-- A sum over `m * n` numbers is a double sum. -/
theorem sum_range_mul {M : Type*} [AddCommMonoid M] (m n : ℕ) (f : ℕ → M) :
    ∑ k ∈ range (m * n), f k = ∑ i ∈ range m, ∑ j ∈ range n, f (i * n + j) := by
  induction m with
  | zero => simp
  | succ m ih => rw [Nat.succ_mul, Finset.sum_range_add, ih, Finset.sum_range_succ]

/-- The quotient of a two-digit number is its high digit. -/
theorem mul_add_div_of_lt {n i j : ℕ} (h : j < n) : (i * n + j) / n = i := by
  rw [Nat.add_comm, Nat.add_mul_div_right _ _ (by omega), Nat.div_eq_of_lt h, Nat.zero_add]

/-- The remainder of a two-digit number is its low digit. -/
theorem mul_add_mod_of_lt' {n i j : ℕ} (h : j < n) : (i * n + j) % n = j := by
  rw [Nat.add_comm, Nat.add_mul_mod_self_right, Nat.mod_eq_of_lt h]

/-- A sum over the lanes of a row is a sum over positions and channels. -/
theorem sum_lanes {M : Type*} [AddCommMonoid M] (S C : ℕ) (g : ℕ → ℕ → M) :
    ∑ k ∈ range (S * C), g (k / C) (k % C) = ∑ p ∈ range S, ∑ c ∈ range C, g p c := by
  rw [sum_range_mul]
  refine sum_congr rfl fun p _ => sum_congr rfl fun c hc => ?_
  rw [mul_add_div_of_lt (mem_range.1 hc), mul_add_mod_of_lt' (mem_range.1 hc)]

/-- A sum over the rows is a sum over the batch, depth and height. -/
theorem sum_rows {M : Type*} [AddCommMonoid M] (S : ℕ) (g : ℕ → ℕ → ℕ → M) :
    ∑ r ∈ range (S * S * 128), g (r % 128) (r / 128 / S) (r / 128 % S)
      = ∑ b ∈ range 128, ∑ d ∈ range S, ∑ h ∈ range S, g b d h := by
  have h := sum_lanes (S * S) 128 (fun q b => g b (q / S) (q % S))
  rw [h, sum_comm]
  refine sum_congr rfl fun b _ => ?_
  exact sum_lanes S S (fun d h => g b d h)

/-- Summing a per-lane quantity over the lanes of one channel. -/
theorem sum_chan (S C : ℕ) (g : ℕ → ℕ → ℝ) {o : ℕ} (ho : o < C) :
    ∑ k ∈ range (S * C), g (k / C) (k % C) * (if k % C = o then 1 else 0) = ∑ p ∈ range S, g p o := by
  rw [sum_lanes S C (fun p c => g p c * (if c = o then 1 else 0))]
  refine sum_congr rfl fun p _ => ?_
  simp [ho]

/-- The channel totals the kernel forms: rows summed per lane, then lanes of one channel summed. -/
theorem stat_eq (S C : ℕ) (F : ℝ → ℝ) (X : A5) {l : ℕ} (hC : 0 < C) :
    ∑ k ∈ range (S * C), (∑ r ∈ range (S * S * 128), F (rl S C X r k)) * (if k % C = l % C then 1 else 0)
      = sum4 S (fun b d h w => F (X b (l % C) d h w)) := by
  unfold rl
  have h1 : ∀ k, (∑ r ∈ range (S * S * 128), F (X (r % 128) (k % C) (r / 128 / S) (r / 128 % S) (k / C)))
      = ∑ b ∈ range 128, ∑ d ∈ range S, ∑ h ∈ range S, F (X b (k % C) d h (k / C)) := fun k =>
    sum_rows S (fun b d h => F (X b (k % C) d h (k / C)))
  simp only [h1]
  rw [sum_chan S C (fun p c => ∑ b ∈ range 128, ∑ d ∈ range S, ∑ h ∈ range S, F (X b c d h p)) (Nat.mod_lt _ hC)]
  unfold sum4
  rw [sum_comm]
  refine sum_congr rfl fun b _ => ?_
  rw [sum_comm]
  refine sum_congr rfl fun d _ => ?_
  rw [sum_comm]

/-! ## The variance -/

/-- Totals add. -/
theorem sum4_add (S : ℕ) (f g : ℕ → ℕ → ℕ → ℕ → ℝ) :
    sum4 S (fun b d h w => f b d h w + g b d h w) = sum4 S f + sum4 S g := by
  simp only [sum4, sum_add_distrib]

/-- A factor leaves a total. -/
theorem sum4_mul (S : ℕ) (c : ℝ) (f : ℕ → ℕ → ℕ → ℕ → ℝ) :
    sum4 S (fun b d h w => c * f b d h w) = c * sum4 S f := by
  simp only [sum4, mul_sum]

/-- The total of a constant. -/
theorem sum4_const (S : ℕ) (c : ℝ) : sum4 S (fun _ _ _ _ => c) = c * cnt S := by
  simp only [sum4, cnt, sum_const, card_range, nsmul_eq_mul]; push_cast; ring

/-- A grid has voxels. -/
theorem cnt_pos {S : ℕ} (hS : 0 < S) : 0 < cnt S := by unfold cnt; positivity

/-- The mean square less the squared mean is the variance. -/
theorem var_eq {S : ℕ} (hS : 0 < S) (X : A5) (o : ℕ) :
    sum4 S (fun b d h w => X b o d h w * X b o d h w) / cnt S - mean S X o * mean S X o = var S X o := by
  have hn := (cnt_pos hS).ne'
  have h : sum4 S (fun b d h w => (X b o d h w - mean S X o) * (X b o d h w - mean S X o))
      = sum4 S (fun b d h w => X b o d h w * X b o d h w)
        + ((-2 * mean S X o) * sum4 S (fun b d h w => X b o d h w) + mean S X o * mean S X o * cnt S) := by
    rw [← sum4_const, ← sum4_mul, ← sum4_add, ← sum4_add]
    congr 1; funext b d h w; ring
  have hm : sum4 S (fun b d h w => X b o d h w) = mean S X o * cnt S := by
    unfold mean; field_simp
  unfold var
  rw [h, hm]; field_simp; ring

/-- A variance is not negative. -/
theorem var_nonneg (S : ℕ) (X : A5) (o : ℕ) : 0 ≤ var S X o := by
  unfold var cnt sum4
  refine div_nonneg ?_ (by positivity)
  exact sum_nonneg fun _ _ => sum_nonneg fun _ _ => sum_nonneg fun _ _ => sum_nonneg fun _ _ => mul_self_nonneg _

/-! ## The transposed convolution in rows and lanes -/

/-- The kernel's matrix for the parities `i`, `j`. -/
def tmat (C Co : ℕ) (W : A5) (i j k l : ℕ) : ℝ :=
  ∑ z ∈ range 2, (if l / Co = 2 * (k / C) + z then 1 else 0) * W i j z (k % C) (l % Co)

/-- One row of a part times the matrix. -/
def tpart (S C Co : ℕ) (X W : A5) (i j r l : ℕ) : ℝ := ∑ k ∈ range (S * C), rl S C X r k * tmat C Co W i j k l

/-- A row times the parity matrix is the transposed convolution there. -/
theorem tpart_eq {S C Co : ℕ} (X W : A5) {i j r l : ℕ} (hi : i < 2) (hj : j < 2) (hl : l / Co < 2 * S) :
    tpart S C Co X W i j r l = tc C X W (r % 128) (l % Co) (2 * (r / 128 / S) + i) (2 * (r / 128 % S) + j) (l / Co) := by
  unfold tpart rl tmat tc
  rw [sum_lanes S C (fun p c => X (r % 128) c (r / 128 / S) (r / 128 % S) p *
    ∑ z ∈ range 2, (if l / Co = 2 * p + z then 1 else 0) * W i j z c (l % Co))]
  rw [sum_comm]
  refine sum_congr rfl fun c _ => ?_
  have e1 : (2 * (r / 128 / S) + i) / 2 = r / 128 / S := by omega
  have e2 : (2 * (r / 128 % S) + j) / 2 = r / 128 % S := by omega
  have e3 : (2 * (r / 128 / S) + i) % 2 = i := by omega
  have e4 : (2 * (r / 128 % S) + j) % 2 = j := by omega
  rw [e1, e2, e3, e4]
  have hp : l / Co / 2 ∈ range S := by rw [mem_range]; omega
  rw [sum_eq_single_of_mem (l / Co / 2) hp]
  · congr 1
    rcases Nat.mod_two_eq_zero_or_one (l / Co) with h | h
    · have a0 : l / Co = 2 * (l / Co / 2) + 0 := by omega
      have a1 : ¬ l / Co = 2 * (l / Co / 2) + 1 := by omega
      rw [sum_range_succ, sum_range_one, if_pos a0, if_neg a1, h]; ring
    · have a0 : ¬ l / Co = 2 * (l / Co / 2) + 0 := by omega
      have a1 : l / Co = 2 * (l / Co / 2) + 1 := by omega
      rw [sum_range_succ, sum_range_one, if_neg a0, if_pos a1, h]; ring
  · intro p _ hne
    have : ∀ z ∈ range 2, (if l / Co = 2 * p + z then (1 : ℝ) else 0) * W i j z c (l % Co) = 0 := by
      intro z hz; rw [mem_range] at hz
      rw [if_neg (by omega), zero_mul]
    rw [sum_eq_zero this, mul_zero]

/-- The four parts interleaved are the transposed convolution's rows and lanes. -/
theorem ilv_eq {S C Co : ℕ} (X W : A5) {r l : ℕ} (hS : 0 < S) (hl : l / Co < 2 * S) :
    tpart S C Co X W (r / 128 / (2 * S) % 2) (r / 128 % (2 * S) % 2)
      ((r / 128 / (2 * S) / 2 * S + r / 128 % (2 * S) / 2) * 128 + r % 128) l
      = rl (2 * S) Co (tc C X W) r l := by
  have hb : r % 128 < 128 := Nat.mod_lt _ (by norm_num)
  have hh : r / 128 % (2 * S) / 2 < S := by
    have := Nat.mod_lt (r / 128) (show 0 < 2 * S by omega); omega
  rw [tpart_eq X W (Nat.mod_lt _ (by norm_num)) (Nat.mod_lt _ (by norm_num)) hl]
  rw [mul_add_div_of_lt hb, mul_add_mod_of_lt' hb, mul_add_div_of_lt hh, mul_add_mod_of_lt' hh]
  unfold rl
  congr 1 <;> omega

/-- The kernel's per-lane totals over the four parts, summed over the lanes of a channel. -/
theorem tstat_eq {S C Co : ℕ} (F : ℝ → ℝ) (X W : A5) {l : ℕ} (hCo : 0 < Co) :
    ∑ k ∈ range (2 * S * Co), (∑ i ∈ range 2, ∑ j ∈ range 2, ∑ r ∈ range (S * S * 128), F (tpart S C Co X W i j r k))
        * (if k % Co = l % Co then 1 else 0)
      = sum4 (2 * S) (fun b d h w => F (tc C X W b (l % Co) d h w)) := by
  have h1 : ∀ k ∈ range (2 * S * Co), (∑ i ∈ range 2, ∑ j ∈ range 2, ∑ r ∈ range (S * S * 128), F (tpart S C Co X W i j r k))
        * (if k % Co = l % Co then 1 else 0) =
      (fun p c => ∑ i ∈ range 2, ∑ j ∈ range 2, ∑ b ∈ range 128, ∑ d ∈ range S, ∑ h ∈ range S,
        F (tc C X W b c (2 * d + i) (2 * h + j) p)) (k / Co) (k % Co) * (if k % Co = l % Co then 1 else 0) := by
    intro k hk
    congr 1
    refine sum_congr rfl fun i hi => sum_congr rfl fun j hj => ?_
    rw [← sum_rows S (fun b d h => F (tc C X W b (k % Co) (2 * d + i) (2 * h + j) (k / Co)))]
    refine sum_congr rfl fun r _ => ?_
    rw [tpart_eq X W (mem_range.1 hi) (mem_range.1 hj)
      ((Nat.div_lt_iff_lt_mul hCo).2 (mem_range.1 hk))]
  rw [sum_congr rfl h1]
  refine (sum_chan (2 * S) Co (fun p c => ∑ i ∈ range 2, ∑ j ∈ range 2, ∑ b ∈ range 128, ∑ d ∈ range S, ∑ h ∈ range S,
        F (tc C X W b c (2 * d + i) (2 * h + j) p)) (Nat.mod_lt l hCo)).trans ?_
  unfold sum4
  have h2 : ∀ (g : ℕ → ℝ), ∑ d ∈ range (2 * S), g d = ∑ i ∈ range 2, ∑ d ∈ range S, g (2 * d + i) := by
    intro g
    rw [Nat.mul_comm, sum_range_mul, sum_comm]
    refine sum_congr rfl fun i _ => sum_congr rfl fun d _ => by rw [Nat.mul_comm]
  -- bring the four-fold sum into the same order
  have h3 : ∀ b, (∑ d ∈ range (2 * S), ∑ h ∈ range (2 * S), ∑ w ∈ range (2 * S), F (tc C X W b (l % Co) d h w))
      = ∑ p ∈ range (2 * S), ∑ i ∈ range 2, ∑ j ∈ range 2, ∑ d ∈ range S, ∑ h ∈ range S,
          F (tc C X W b (l % Co) (2 * d + i) (2 * h + j) p) := by
    intro b
    have h4 : ∀ d, (∑ h ∈ range (2 * S), ∑ w ∈ range (2 * S), F (tc C X W b (l % Co) d h w))
        = ∑ w ∈ range (2 * S), ∑ j ∈ range 2, ∑ h ∈ range S, F (tc C X W b (l % Co) d (2 * h + j) w) := by
      intro d
      rw [sum_comm]
      exact sum_congr rfl fun w _ => h2 (fun h => F (tc C X W b (l % Co) d h w))
    simp only [h4]
    rw [sum_comm]
    refine sum_congr rfl fun w _ => ?_
    rw [h2]
    refine sum_congr rfl fun i _ => ?_
    rw [sum_comm]
  simp only [h3]
  conv_rhs => rw [sum_comm]
  refine sum_congr rfl fun p _ => ?_
  conv_rhs => rw [sum_comm]
  refine sum_congr rfl fun i _ => ?_
  conv_rhs => rw [sum_comm]

/-! ## The convolution in rows and lanes -/

/-- The kernel's band matrix for the depth and height taps `a`, `e`. -/
def band (C : ℕ) (W : A5) (a e k l : ℕ) : ℝ :=
  ∑ z ∈ range 3, (if k / C + 1 = l / C + z then 1 else 0) * W a e z (k % C) (l % C)

/-- One tap of the convolution: the row moved by `a - 1` in depth and `e - 1` in height, times a matrix. -/
def tap (S L : ℕ) (Y : ℕ → ℕ → ℝ) (M : ℕ → ℕ → ℝ) (a e r l : ℕ) : ℝ :=
  ∑ k ∈ range L, (if (1 ≤ r / 128 / S + a ∧ r / 128 / S + a ≤ S) ∧ (1 ≤ r / 128 % S + e ∧ r / 128 % S + e ≤ S)
    then Y (r + a * S * 128 + e * 128 - (S + 1) * 128) k else 0) * M k l

/-- The nine taps. -/
def taps (S L : ℕ) (Y : ℕ → ℕ → ℝ) (M : ℕ → ℕ → ℕ → ℕ → ℝ) (r l : ℕ) : ℝ :=
  ∑ a ∈ range 3, ∑ e ∈ range 3, tap S L Y (M a e) a e r l

/-- The nine taps of an activation's rows against its band matrices are the convolution's rows. -/
theorem taps_eq {S C : ℕ} (X W : A5) {r l : ℕ} (hS : 0 < S) (hl : l / C < S) :
    taps S (S * C) (rl S C X) (band C W) r l = rl S C (cv C S X W) r l := by
  unfold taps
  show _ = cv C S X W (r % 128) (l % C) (r / 128 / S) (r / 128 % S) (l / C)
  unfold cv
  refine sum_congr rfl fun a ha => sum_congr rfl fun e he => ?_
  unfold tap
  have hb : r % 128 < 128 := Nat.mod_lt _ (by norm_num)
  by_cases hc : (1 ≤ r / 128 / S + a ∧ r / 128 / S + a ≤ S) ∧ (1 ≤ r / 128 % S + e ∧ r / 128 % S + e ≤ S)
  · have hrow : r + a * S * 128 + e * 128 - (S + 1) * 128
        = ((r / 128 / S + a - 1) * S + (r / 128 % S + e - 1)) * 128 + r % 128 := by
      have e1 : r = r / 128 * 128 + r % 128 := by omega
      have e2 : r / 128 = r / 128 / S * S + r / 128 % S := by
        rw [Nat.mul_comm]; exact (Nat.div_add_mod _ _).symm
      obtain ⟨D, hD⟩ : ∃ D, r / 128 / S + a = D + 1 := ⟨r / 128 / S + a - 1, by omega⟩
      obtain ⟨H, hH⟩ : ∃ H, r / 128 % S + e = H + 1 := ⟨r / 128 % S + e - 1, by omega⟩
      rw [hD, hH]
      have : r + a * S * 128 + e * 128 = (((D + 1) * S) + (H + 1)) * 128 + r % 128 := by
        rw [← hD, ← hH]
        calc r + a * S * 128 + e * 128 = (r / 128 / S * S + r / 128 % S) * 128 + r % 128 + a * S * 128 + e * 128 := by
              rw [← e2, ← e1]
          _ = _ := by ring
      rw [this]
      have : (((D + 1) * S) + (H + 1)) * 128 + r % 128 = (D * S + H) * 128 + r % 128 + (S + 1) * 128 := by ring
      rw [this]; simp
    have hH : r / 128 % S + e - 1 < S := by omega
    have e5 : ∀ k, rl S C X (r + a * S * 128 + e * 128 - (S + 1) * 128) k
        = X (r % 128) (k % C) (r / 128 / S + a - 1) (r / 128 % S + e - 1) (k / C) := by
      intro k
      unfold rl
      rw [hrow, mul_add_mod_of_lt' hb, mul_add_div_of_lt hb, mul_add_div_of_lt hH, mul_add_mod_of_lt' hH]
    simp only [if_pos hc, e5]
    unfold band
    rw [sum_lanes S C (fun p c => X (r % 128) c (r / 128 / S + a - 1) (r / 128 % S + e - 1) p *
      ∑ z ∈ range 3, (if p + 1 = l / C + z then 1 else 0) * W a e z c (l % C))]
    simp only [mul_sum]
    rw [sum_comm]
    have : ∀ c ∈ range C, ∑ p ∈ range S, ∑ z ∈ range 3, X (r % 128) c (r / 128 / S + a - 1) (r / 128 % S + e - 1) p *
        ((if p + 1 = l / C + z then 1 else 0) * W a e z c (l % C))
        = ∑ z ∈ range 3, pad1 S X (r % 128) c (r / 128 / S + a) (r / 128 % S + e) (l / C + z) * W a e z c (l % C) := by
      intro c _
      rw [sum_comm]
      refine sum_congr rfl fun z _ => ?_
      unfold pad1
      by_cases hz : 1 ≤ l / C + z ∧ l / C + z ≤ S
      · rw [if_pos ⟨hc.1, hc.2, hz⟩, sum_eq_single_of_mem (l / C + z - 1) (by rw [mem_range]; omega)]
        · rw [if_pos (by omega), one_mul]
        · intro p _ hp; rw [if_neg (by omega), zero_mul, mul_zero]
      · rw [if_neg (fun h => hz h.2.2), zero_mul]
        refine sum_eq_zero fun p hp => ?_
        rw [mem_range] at hp
        rw [if_neg (by omega), zero_mul, mul_zero]
    rw [sum_congr rfl this, sum_comm]
  · simp only [if_neg hc, zero_mul, sum_const_zero]
    symm
    refine sum_eq_zero fun z _ => sum_eq_zero fun i _ => ?_
    unfold pad1
    rw [if_neg (fun h => hc ⟨h.1, h.2.1⟩), zero_mul]

end Cert.Spec

end
-- ==== Proof.Reals.lean ====
module

public import Idealize.ShloMosaic.PureOps.Ideal.Laws
public import Idealize.ShloMosaic.Lib.IdealHost
public import Idealize.ShloMosaic.Lib.Routing.Words
public import Idealize.ShloMosaic.Lib.WordCmp
public import proofs.«01_k».proof.Proof.Spec

/-! Extended-real arithmetic at real operands, the constants of the two programs, and the kernel's row
    masks read as conditions on natural numbers. -/

@[expose] public section

noncomputable section

namespace Cert.Reals

open Idealize.ShloMosaic Cert.Spec

/-- The extended-real quotient of reals is the real quotient. -/
theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The extended-real square root of a nonnegative real. -/
theorem sqrt_coe {a : ℝ} (ha : 0 ≤ a) : Ideal.sqrt (a : EReal) = ((Real.sqrt a : ℝ) : EReal) := by
  show (if a < 0 then (⊥ : EReal) else (Real.sqrt a : EReal)) = _
  rw [if_neg (not_lt.2 ha)]

/-- The extended-real inverse square root of a positive real. -/
theorem rsqrt_coe {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 ha.le), if_neg ha.ne']

/-- A sum of reals over `Fin n` is the real sum over the naturals below `n`. -/
theorem sum_coe {n : ℕ} {f : Fin n → EReal} (g : ℕ → ℝ) (h : ∀ k : Fin n, f k = (g k : EReal)) :
    ∑ k, f k = ((∑ k ∈ Finset.range n, g k : ℝ) : EReal) := by
  rw [Finset.sum_congr rfl fun k _ => h k, Fin.sum_univ_eq_sum_range (fun k => ((g k : ℝ) : EReal)) n]
  induction n with
  | zero => simp
  | succ n ih => rw [Finset.sum_range_succ, Finset.sum_range_succ, EReal.coe_add, ih (f := fun k => (g k : EReal)) (fun _ => rfl)]

/-- The word of the slp. -/
theorem lit_slope : Ideal.ofBits .f32 1045220557#32 = (slp : EReal) := by
  unfold slp; simp [Ideal.ofBits, Ideal.ieee, -EReal.coe_mul]; norm_num

/-- The word of the number added to a variance. -/
theorem lit_eps : Ideal.ofBits .f32 925353388#32 = (eps : EReal) := by
  unfold eps; simp [Ideal.ofBits, Ideal.ieee, -EReal.coe_mul]; norm_num

/-- The literal count of the grid of side 1 is the number of its voxels over the batch. -/
theorem lit_cnt1 : Ideal.ofBits .f32 1124073472#32 = (cnt 1 : EReal) := by
  unfold cnt; simp [Ideal.ofBits, Ideal.ieee, -EReal.coe_mul]; norm_num
/-- The literal count of the grid of side 2 is the number of its voxels over the batch. -/
theorem lit_cnt2 : Ideal.ofBits .f32 1149239296#32 = (cnt 2 : EReal) := by
  unfold cnt; simp [Ideal.ofBits, Ideal.ieee, -EReal.coe_mul]; norm_num
/-- The literal count of the grid of side 4 is the number of its voxels over the batch. -/
theorem lit_cnt4 : Ideal.ofBits .f32 1174405120#32 = (cnt 4 : EReal) := by
  unfold cnt; simp [Ideal.ofBits, Ideal.ieee, -EReal.coe_mul]; norm_num
/-- The literal count of the grid of side 8 is the number of its voxels over the batch. -/
theorem lit_cnt8 : Ideal.ofBits .f32 1199570944#32 = (cnt 8 : EReal) := by
  unfold cnt; simp [Ideal.ofBits, Ideal.ieee, -EReal.coe_mul]; norm_num
/-- The literal count of the grid of side 16 is the number of its voxels over the batch. -/
theorem lit_cnt16 : Ideal.ofBits .f32 1224736768#32 = (cnt 16 : EReal) := by
  unfold cnt; simp [Ideal.ofBits, Ideal.ieee, -EReal.coe_mul]; norm_num

/-- The leaky rectifier of a real. -/
theorem lrelu_coe (x : ℝ) :
    (if (0 : EReal) ≤ (x : EReal) then (x : EReal) else (slp : EReal) * (x : EReal)) = (lrelu x : EReal) := by
  unfold lrelu
  by_cases h : 0 ≤ x
  · rw [if_pos (by exact_mod_cast h), if_pos h]
  · rw [if_neg (by exact_mod_cast h), if_neg h, EReal.coe_mul]

/-- The kernel's normalization, from a channel's sum and sum of squares. -/
theorem bnK {S : ℕ} (hS : 0 < S) (X : A5) (o : ℕ) (x : ℝ) {s q : ℝ}
    (hs : s = sum4 S (fun b d h w => X b o d h w))
    (hq : q = sum4 S (fun b d h w => X b o d h w * X b o d h w)) :
    ((x : EReal) - Ideal.div (s : EReal) (cnt S : EReal))
        * Ideal.rsqrt (Ideal.div (q : EReal) (cnt S : EReal)
          - Ideal.div (s : EReal) (cnt S : EReal) * Ideal.div (s : EReal) (cnt S : EReal) + (eps : EReal))
      = (((x - mean S X o) / Real.sqrt (var S X o + eps) : ℝ) : EReal) := by
  have hn := (cnt_pos hS).ne'
  rw [div_coe s hn, div_coe q hn, ← EReal.coe_mul, ← EReal.coe_sub, ← EReal.coe_sub, ← EReal.coe_add]
  have hm : s / cnt S = mean S X o := by rw [hs]; rfl
  have hv : q / cnt S - s / cnt S * (s / cnt S) = var S X o := by rw [hm, hq, var_eq hS]
  rw [hv, rsqrt_coe (by have := var_nonneg S X o; have := eps_pos; linarith), ← EReal.coe_mul, hm, div_eq_mul_inv]

/-- The reference's normalization, from a channel's mean and variance. -/
theorem bnR {S : ℕ} (X : A5) (o : ℕ) (x : ℝ) :
    Ideal.div ((x : EReal) - (mean S X o : EReal)) (Ideal.sqrt ((var S X o : EReal) + (eps : EReal)))
      = (((x - mean S X o) / Real.sqrt (var S X o + eps) : ℝ) : EReal) := by
  have h : 0 < var S X o + eps := by have := var_nonneg S X o; have := eps_pos; linarith
  rw [← EReal.coe_add, sqrt_coe h.le, ← EReal.coe_sub, div_coe _ (Real.sqrt_pos.2 h).ne']

/-- The kernel's channel sums: rows added per lane, then lanes of a channel added by a 0-1 matrix. -/
theorem colsum_coe {L R S C l : ℕ} (Z : A5) (km : Fin L → EReal) (hC : 0 < C) (hL : L = S * C) (hR : R = S * S * 128)
    (hkm : ∀ k : Fin L, km k = (((if (k : ℕ) % C = l % C then 1 else 0 : ℝ)) : EReal)) :
    ∑ x : Fin L, (∑ y : Fin R, ((rl S C Z y x : ℝ) : EReal)) * km x
      = ((sum4 S (fun b d h w => Z b (l % C) d h w) : ℝ) : EReal) := by
  subst hL hR
  rw [← stat_eq S C (fun x => x) Z hC]
  refine sum_coe _ fun k => ?_
  rw [hkm, EReal.coe_mul, sum_coe (fun y => rl S C Z y k) fun _ => rfl]

/-- The kernel's channel sums of squares. -/
theorem colsq_coe {L R S C l : ℕ} (Z : A5) (km : Fin L → EReal) (hC : 0 < C) (hL : L = S * C) (hR : R = S * S * 128)
    (hkm : ∀ k : Fin L, km k = (((if (k : ℕ) % C = l % C then 1 else 0 : ℝ)) : EReal)) :
    ∑ x : Fin L, (∑ y : Fin R, ((rl S C Z y x : ℝ) : EReal) * ((rl S C Z y x : ℝ) : EReal)) * km x
      = ((sum4 S (fun b d h w => Z b (l % C) d h w * Z b (l % C) d h w) : ℝ) : EReal) := by
  subst hL hR
  rw [← stat_eq S C (fun x => x * x) Z hC]
  refine sum_coe _ fun k => ?_
  rw [hkm, EReal.coe_mul, sum_coe (fun y => rl S C Z y k * rl S C Z y k) fun _ => (EReal.coe_mul _ _).symm]

/-- Per-lane totals carry a channel's totals when the lanes of a channel add up to them. -/
def Carries (L C : ℕ) (s : ℕ → ℝ) (T : ℕ → ℝ) : Prop :=
  ∀ l, ∑ k ∈ Finset.range L, s k * (if k % C = l % C then 1 else 0) = T (l % C)

/-- The lanes of a channel added by a 0-1 matrix. -/
theorem carries_coe {L C l : ℕ} {s T : ℕ → ℝ} (h : Carries L C s T) (v km : Fin L → EReal) (hv : ∀ k : Fin L, v k = (s k : EReal))
    (hkm : ∀ k : Fin L, km k = (((if (k : ℕ) % C = l % C then 1 else 0 : ℝ)) : EReal)) :
    ∑ x : Fin L, v x * km x = ((T (l % C) : ℝ) : EReal) := by
  rw [← h l]
  refine sum_coe _ fun k => ?_
  rw [hv, hkm, EReal.coe_mul]

/-! ## Row masks -/

/-- The word added for tap `e` of three: `e - 1`. -/
def offw (e : ℕ) : BitVec 32 := if e = 0 then 4294967295#32 else if e = 1 then 0#32 else 1#32

/-- The test that a moved coordinate is not below zero. -/
theorem sge_off : ∀ d < 16, ∀ e < 3,
    IntOp.cmpi .sge (IntOp.addi (BitVec.ofNat 32 d) (offw e)) 0#32 = if 1 ≤ d + e then 1#1 else 0#1 := by decide +kernel

/-- The test that a moved coordinate is below the edge. -/
theorem slt_off : ∀ d < 16, ∀ e < 3, ∀ S < 17, 1 ≤ S →
    IntOp.cmpi .slt (IntOp.addi (BitVec.ofNat 32 d) (offw e)) (BitVec.ofNat 32 S) = if d + e ≤ S then 1#1 else 0#1 := by
  decide +kernel

/-- The kernel's four tests on a row's depth and height, joined, select as one condition on naturals. -/
theorem mask_sel {α : Type} {d h a e S : ℕ} (A B : α) (hd : d < 16) (hh : h < 16) (ha : a < 3) (he : e < 3)
    (hS : S < 17) (hS1 : 1 ≤ S) :
    Scalar.select (IntOp.andi (IntOp.andi (IntOp.andi
        (IntOp.cmpi .sge (IntOp.addi (BitVec.ofNat 32 d) (offw a)) 0#32)
        (IntOp.cmpi .slt (IntOp.addi (BitVec.ofNat 32 d) (offw a)) (BitVec.ofNat 32 S)))
        (IntOp.cmpi .sge (IntOp.addi (BitVec.ofNat 32 h) (offw e)) 0#32))
        (IntOp.cmpi .slt (IntOp.addi (BitVec.ofNat 32 h) (offw e)) (BitVec.ofNat 32 S))) A B
      = if (1 ≤ d + a ∧ d + a ≤ S) ∧ (1 ≤ h + e ∧ h + e ≤ S) then A else B := by
  rw [sge_off d hd a ha, sge_off h hh e he, slt_off d hd a ha S hS hS1, slt_off h hh e he S hS hS1]
  by_cases h1 : 1 ≤ d + a <;> by_cases h2 : d + a ≤ S <;> by_cases h3 : 1 ≤ h + e <;> by_cases h4 : h + e ≤ S <;>
    simp [h1, h2, h3, h4, Scalar.select, IntOp.andi]

/-- `mask_sel` with the added words named by equations. -/
theorem mask_sel' {d h a e S : ℕ} {wa we : BitVec 32} {wd wh : BitVec 32} (hwd : wd = BitVec.ofNat 32 d) (hwh : wh = BitVec.ofNat 32 h)
    (hwa : wa = offw a) (hwe : we = offw e) (hd : d < 16) (hh : h < 16) (ha : a < 3) (he : e < 3)
    (hS : S < 17) (hS1 : 1 ≤ S) (A B : EReal) :
    Scalar.select (IntOp.andi (IntOp.andi (IntOp.andi
        (IntOp.cmpi .sge (IntOp.addi wd wa) 0#32)
        (IntOp.cmpi .slt (IntOp.addi wd wa) (BitVec.ofNat 32 S)))
        (IntOp.cmpi .sge (IntOp.addi wh we) 0#32))
        (IntOp.cmpi .slt (IntOp.addi wh we) (BitVec.ofNat 32 S))) A B
      = if (1 ≤ d + a ∧ d + a ≤ S) ∧ (1 ≤ h + e ∧ h + e ≤ S) then A else B := by
  subst hwd hwh hwa hwe
  exact mask_sel A B hd hh ha he hS hS1

/-- Rounding a quotient of nonnegative words down leaves the quotient of the naturals. -/
theorem fdiv_word {a b : ℕ} (ha : a < 2 ^ 31) (h0 : 0 < b) (hb : b < 2 ^ 31) :
    Scalar.select
      (IntOp.andi
        (IntOp.cmpi .ne
          (IntOp.subi (BitVec.setWidth 32 (IntOp.cmpi .sgt (BitVec.ofNat 32 a) 0#32))
            (BitVec.setWidth 32 (IntOp.cmpi .slt (BitVec.ofNat 32 a) 0#32)))
          (Scalar.subi (Scalar.extui (Scalar.cmpi .sgt (BitVec.ofNat 32 b) 0#32))
            (Scalar.extui (Scalar.cmpi .slt (BitVec.ofNat 32 b) 0#32))))
        (IntOp.cmpi .ne (IntOp.remsi .vector (BitVec.ofNat 32 a) (BitVec.ofNat 32 b)) 0#32))
      (IntOp.subi (IntOp.divsi .vector (BitVec.ofNat 32 a) (BitVec.ofNat 32 b)) 1#32)
      (IntOp.divsi .vector (BitVec.ofNat 32 a) (BitVec.ofNat 32 b)) = BitVec.ofNat 32 (a / b) := by
  rw [Routing.remsi_word _ ha h0 hb, Routing.divsi_word _ ha h0 hb]
  unfold Scalar.cmpi
  rw [WordCmp.cmpi_sgt_ofNat ha (by norm_num), WordCmp.cmpi_slt_ofNat ha (by norm_num),
    WordCmp.cmpi_sgt_ofNat hb (by norm_num), WordCmp.cmpi_slt_ofNat hb (by norm_num)]
  rcases Nat.eq_zero_or_pos a with rfl | hp
  · simp [Scalar.select, IntOp.andi, IntOp.cmpi]
  · simp [Scalar.select, IntOp.andi, IntOp.cmpi, hp, h0, Scalar.subi, Scalar.extui, IntOp.subi]

/-- The remainder of nonnegative words, made to take the divisor's sign, is the remainder of the naturals. -/
theorem fmod_word {a b : ℕ} (ha : a < 2 ^ 31) (h0 : 0 < b) (hb : b < 2 ^ 31) :
    Scalar.select
      (IntOp.andi
        (IntOp.xori (IntOp.cmpi .slt (IntOp.remsi .vector (BitVec.ofNat 32 a) (BitVec.ofNat 32 b)) 0#32)
          (Scalar.cmpi .slt (BitVec.ofNat 32 b) 0#32))
        (IntOp.cmpi .ne (IntOp.remsi .vector (BitVec.ofNat 32 a) (BitVec.ofNat 32 b)) 0#32))
      (IntOp.addi (IntOp.remsi .vector (BitVec.ofNat 32 a) (BitVec.ofNat 32 b)) (BitVec.ofNat 32 b))
      (IntOp.remsi .vector (BitVec.ofNat 32 a) (BitVec.ofNat 32 b)) = BitVec.ofNat 32 (a % b) := by
  have hm : a % b < 2 ^ 31 := lt_of_le_of_lt (Nat.mod_le _ _) ha
  rw [Routing.remsi_word _ ha h0 hb]
  unfold Scalar.cmpi
  rw [WordCmp.cmpi_slt_ofNat hm (by norm_num), WordCmp.cmpi_slt_ofNat hb (by norm_num)]
  simp [Scalar.select, IntOp.andi, IntOp.xori]

/-- The divisor as written, guarded against zero. -/
theorem guard_word {b : ℕ} (h0 : 0 < b) (hb : b < 2 ^ 31) :
    Scalar.select (Scalar.cmpi .eq (BitVec.ofNat 32 b) 0#32) 1#32 (BitVec.ofNat 32 b) = BitVec.ofNat 32 b := by
  unfold Scalar.cmpi
  rw [WordCmp.cmpi_eq_ofNat (lt_trans hb (by norm_num)) (by norm_num)]
  simp [Scalar.select, h0.ne']

/-! ## One tap of the convolution -/

/-- A masked, moved row times a matrix is one tap. -/
theorem tap_val {L S a e r l : ℕ} {Y : ℕ → ℕ → ℝ} {M : ℕ → ℕ → ℝ} {c : BitVec 1} {A : Fin L → EReal}
    (hc : ∀ (x y : EReal), Scalar.select c x y
      = if (1 ≤ r / 128 / S + a ∧ r / 128 / S + a ≤ S) ∧ (1 ≤ r / 128 % S + e ∧ r / 128 % S + e ≤ S) then x else y)
    (hA : (1 ≤ r / 128 / S + a ∧ r / 128 / S + a ≤ S) ∧ (1 ≤ r / 128 % S + e ∧ r / 128 % S + e ≤ S) →
      ∀ k : Fin L, A k = ((Y (r + a * S * 128 + e * 128 - (S + 1) * 128) k * M k l : ℝ) : EReal)) :
    ∑ k, Scalar.select c (A k) 0 = ((tap S L Y M a e r l : ℝ) : EReal) := by
  refine sum_coe _ fun k => ?_
  rw [hc]
  by_cases h : (1 ≤ r / 128 / S + a ∧ r / 128 / S + a ≤ S) ∧ (1 ≤ r / 128 % S + e ∧ r / 128 % S + e ≤ S)
  · rw [if_pos h, if_pos h, hA h]
  · rw [if_neg h, if_neg h, zero_mul, EReal.coe_zero]

/-- The middle tap moves nothing and masks nothing. -/
theorem tap_mid {L S r l : ℕ} {Y : ℕ → ℕ → ℝ} {M : ℕ → ℕ → ℝ} {A : Fin L → EReal} (hS : 0 < S) (hr : r / 128 / S < S)
    (hA : ∀ k : Fin L, A k = ((Y r k * M k l : ℝ) : EReal)) :
    ∑ k, A k = ((tap S L Y M 1 1 r l : ℝ) : EReal) := by
  refine sum_coe _ fun k => ?_
  have := Nat.mod_lt (r / 128) hS
  have e : r + 1 * S * 128 + 1 * 128 - (S + 1) * 128 = r := by
    have : r + 1 * S * 128 + 1 * 128 = r + (S + 1) * 128 := by ring
    rw [this]; simp
  generalize r / 128 / S = d at hr ⊢
  generalize r / 128 % S = h at this ⊢
  rw [if_pos ⟨⟨by omega, by omega⟩, by omega, by omega⟩, hA, e]

/-- The nine taps added up. -/
theorem taps_sum (S L : ℕ) (Y : ℕ → ℕ → ℝ) (M : ℕ → ℕ → ℕ → ℕ → ℝ) (r l : ℕ) :
    ((taps S L Y M r l : ℝ) : EReal)
      = ((tap S L Y (M 0 0) 0 0 r l : ℝ) : EReal) + ((tap S L Y (M 0 1) 0 1 r l : ℝ) : EReal) + ((tap S L Y (M 0 2) 0 2 r l : ℝ) : EReal)
        + ((tap S L Y (M 1 0) 1 0 r l : ℝ) : EReal) + ((tap S L Y (M 1 1) 1 1 r l : ℝ) : EReal) + ((tap S L Y (M 1 2) 1 2 r l : ℝ) : EReal)
        + ((tap S L Y (M 2 0) 2 0 r l : ℝ) : EReal) + ((tap S L Y (M 2 1) 2 1 r l : ℝ) : EReal) + ((tap S L Y (M 2 2) 2 2 r l : ℝ) : EReal) := by
  simp only [← EReal.coe_add]
  unfold taps
  simp only [Finset.sum_range_succ, Finset.sum_range_zero, zero_add, add_assoc]

end Cert.Reals

end
-- ==== Proof.KSums.lean ====
module

public import proofs.«01_k».proof.Proof.Gen.KernelIdeal.Frame
public import proofs.«01_k».proof.Proof.Reals
public import Idealize.ShloMosaic.Lib.Pointwise

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

/-- The host's sum over the third of seven axes: at a position of the result, the sum along that axis. -/
theorem red7 {n0 n1 n2 n3 n4 n5 n6 : ℕ}
    (h : (⟨7, ![n0, n1, n2, n3, n4, n5, n6]⟩ : Shape).ReducesTo [2] ⟨6, ![n0, n1, n3, n4, n5, n6]⟩)
    (v : (⟨7, ![n0, n1, n2, n3, n4, n5, n6]⟩ : Shape).Idx → EReal) (init : EReal)
    (a : Fin n0) (b : Fin n1) (d : Fin n3) (e : Fin n4) (f : Fin n5) (g : Fin n6) :
    Ideal.hostReduceAdd h v init (ix6 a b d e f g) = init + ∑ k : Fin n2, v (ix7 a b k d e f g) := by
  refine congrArg (init + ·) (Finset.sum_filter_eq_sum_of_fiber _ (fun k : Fin n2 => ix7 a b k d e f g)
    (fun _ _ q => congrFun q 2) (fun i => ?_) v)
  constructor
  · intro q
    refine ⟨i 2, ?_⟩
    funext x
    apply Fin.ext
    match x with
    | ⟨0, _⟩ => exact (congrArg Fin.val (congrFun q 0)).symm
    | ⟨1, _⟩ => exact (congrArg Fin.val (congrFun q 1)).symm
    | ⟨2, _⟩ => rfl
    | ⟨3, _⟩ => exact (congrArg Fin.val (congrFun q 2)).symm
    | ⟨4, _⟩ => exact (congrArg Fin.val (congrFun q 3)).symm
    | ⟨5, _⟩ => exact (congrArg Fin.val (congrFun q 4)).symm
    | ⟨6, _⟩ => exact (congrArg Fin.val (congrFun q 5)).symm
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl
    | ⟨5, _⟩ => rfl

/-- The host's sum over every axis of five but the second: at a channel, the sum over the four others. -/
theorem red5 {n0 n1 n2 n3 n4 : ℕ}
    (h : (⟨5, ![n0, n1, n2, n3, n4]⟩ : Shape).ReducesTo [0, 2, 3, 4] ⟨1, ![n1]⟩)
    (v : (⟨5, ![n0, n1, n2, n3, n4]⟩ : Shape).Idx → EReal) (init : EReal) (c : Fin n1) :
    Ideal.hostReduceAdd h v init (ix1 c)
      = init + ∑ a : Fin n0, ∑ d : Fin n2, ∑ e : Fin n3, ∑ f : Fin n4, v (ix5 a c d e f) := by
  refine congrArg (init + ·) ((Finset.sum_filter_eq_sum_of_fiber _
    (fun k : Fin n0 × Fin n2 × Fin n3 × Fin n4 => ix5 k.1 c k.2.1 k.2.2.1 k.2.2.2)
    (fun _ _ q => Prod.ext (congrFun q 0) (Prod.ext (congrFun q 2) (Prod.ext (congrFun q 3) (congrFun q 4))))
    (fun i => ?_) v).trans ?_)
  · constructor
    · intro q
      refine ⟨(i 0, i 2, i 3, i 4), ?_⟩
      funext x
      apply Fin.ext
      match x with
      | ⟨0, _⟩ => rfl
      | ⟨1, _⟩ => exact (congrArg Fin.val (congrFun q 0)).symm
      | ⟨2, _⟩ => rfl
      | ⟨3, _⟩ => rfl
      | ⟨4, _⟩ => rfl
    · rintro ⟨k, rfl⟩
      funext x
      apply Fin.ext
      match x with
      | ⟨0, _⟩ => rfl
  · simp only [Fintype.sum_prod_type]

/-- A comparison of two words, read as a real: one when they are equal and zero when not. -/
theorem ind_eq (x y : BitVec 32) :
    (FloatOps.uitofp (F := Ideal) FTy.f32 (IntOp.cmpi .eq x y) : EReal) = (((if x = y then 1 else 0 : ℝ)) : EReal) := by
  show (((BitVec.ofBool (x == y)).toNat : ℝ) : EReal) = _
  by_cases h : x = y
  · subst h; simp
  · simp [h]

/-- Words of numbers below a bound are equal exactly when the numbers are. -/
theorem word_eq {a b : ℕ} (ha : a < 65536) (hb : b < 65536) : BitVec.ofNat 32 a = BitVec.ofNat 32 b ↔ a = b := by
  constructor
  · intro h
    have := congrArg BitVec.toNat h
    simp only [BitVec.toNat_ofNat] at this
    omega
  · rintro rfl; rfl

/-- Three comparisons of block numbers with the neighbours' numbers, times three weights: an entry of the banded matrix of a 3-convolution. -/
theorem band_words (C : ℕ) (W : ℕ → ℕ → ℕ → ℕ → ℕ → ℝ) (a e k l : ℕ) (p0 p1 p2 : EReal)
    (hk : k / C < 65536) (hl : l / C < 65536)
    (h0 : p0 = ((W a e 0 (k % C) (l % C) : ℝ) : EReal)) (h1 : p1 = ((W a e 1 (k % C) (l % C) : ℝ) : EReal))
    (h2 : p2 = ((W a e 2 (k % C) (l % C) : ℝ) : EReal)) :
    FloatOps.uitofp (F := Ideal) FTy.f32 (IntOp.cmpi .eq (BitVec.ofNat 32 (k / C)) (IntOp.addi (BitVec.ofNat 32 (l / C)) 4294967295#32)) * p0
      + FloatOps.uitofp (F := Ideal) FTy.f32 (IntOp.cmpi .eq (BitVec.ofNat 32 (k / C)) (IntOp.addi (BitVec.ofNat 32 (l / C)) 0#32)) * p1
      + FloatOps.uitofp (F := Ideal) FTy.f32 (IntOp.cmpi .eq (BitVec.ofNat 32 (k / C)) (IntOp.addi (BitVec.ofNat 32 (l / C)) 1#32)) * p2
      = ((band C W a e k l : ℝ) : EReal) := by
  have q (w : BitVec 32) (z : ℕ) (hw : w.toNat = (4294967295 + z) % 4294967296) (hz : z < 3) :
      (BitVec.ofNat 32 (k / C) = IntOp.addi (BitVec.ofNat 32 (l / C)) w) ↔ k / C + 1 = l / C + z := by
    rw [← BitVec.toNat_inj]
    show _ = (BitVec.ofNat 32 (l / C) + w).toNat ↔ _
    rw [BitVec.toNat_add, BitVec.toNat_ofNat, BitVec.toNat_ofNat, hw, Nat.mod_eq_of_lt (show k / C < 2 ^ 32 by omega),
      Nat.mod_eq_of_lt (show l / C < 2 ^ 32 by omega)]
    generalize k / C = x at *
    generalize l / C = y at *
    interval_cases z <;> omega
  rw [ind_eq, ind_eq, ind_eq, h0, h1, h2, ← EReal.coe_mul, ← EReal.coe_mul, ← EReal.coe_mul, ← EReal.coe_add, ← EReal.coe_add]
  simp only [q 4294967295#32 0 rfl (by norm_num), q 0#32 1 rfl (by norm_num), q 1#32 2 rfl (by norm_num)]
  simp only [band, Finset.sum_range_succ, Finset.sum_range_zero, zero_add]

/-- Two comparisons of output columns with twice the input columns, times two weights: an entry of the matrix of a strided transposed convolution. -/
theorem tmat_words (C Co : ℕ) (W : ℕ → ℕ → ℕ → ℕ → ℕ → ℝ) (i j k l m : ℕ) (p0 p1 : EReal)
    (hm : m = k / C) (hk : m < 65536) (hl : l / Co < 65536)
    (h0 : p0 = ((W i j 0 (k % C) (l % Co) : ℝ) : EReal)) (h1 : p1 = ((W i j 1 (k % C) (l % Co) : ℝ) : EReal)) :
    FloatOps.uitofp (F := Ideal) FTy.f32 (IntOp.cmpi .eq (BitVec.ofNat 32 (l / Co)) (IntOp.addi (IntOp.muli 2#32 (BitVec.ofNat 32 m)) 0#32)) * p0
      + FloatOps.uitofp (F := Ideal) FTy.f32 (IntOp.cmpi .eq (BitVec.ofNat 32 (l / Co)) (IntOp.addi (IntOp.muli 2#32 (BitVec.ofNat 32 m)) 1#32)) * p1
      = ((tmat C Co W i j k l : ℝ) : EReal) := by
  have q (w : BitVec 32) (z : ℕ) (hw : w.toNat = z) (hz : z < 3) :
      (BitVec.ofNat 32 (l / Co) = IntOp.addi (IntOp.muli 2#32 (BitVec.ofNat 32 m)) w) ↔ l / Co = 2 * (k / C) + z := by
    rw [← BitVec.toNat_inj]
    show _ = (2#32 * BitVec.ofNat 32 m + w).toNat ↔ _
    rw [BitVec.toNat_add, BitVec.toNat_mul, BitVec.toNat_ofNat, BitVec.toNat_ofNat, BitVec.toNat_ofNat, hw, ← hm,
      Nat.mod_eq_of_lt (show l / Co < 2 ^ 32 by omega), Nat.mod_eq_of_lt (show m < 2 ^ 32 by omega),
      Nat.mod_eq_of_lt (show 2 < 2 ^ 32 by norm_num), Nat.mod_eq_of_lt (show 2 * m < 2 ^ 32 by omega),
      Nat.mod_eq_of_lt (show 2 * m + z < 2 ^ 32 by omega)]
  rw [ind_eq, ind_eq, h0, h1, ← EReal.coe_mul, ← EReal.coe_mul, ← EReal.coe_add]
  simp only [q 0#32 0 rfl (by norm_num), q 1#32 1 rfl (by norm_num)]
  simp only [tmat, Finset.sum_range_succ, Finset.sum_range_zero, zero_add]

/-- A comparison of two channel numbers. -/
theorem chan_words (k l : ℕ) (hk : k < 65536) (hl : l < 65536) :
    (FloatOps.uitofp (F := Ideal) FTy.f32 (IntOp.cmpi .eq (IntOp.addi (BitVec.ofNat 32 k) 0#32) (BitVec.ofNat 32 l)) : EReal)
      = (((if k = l then 1 else 0 : ℝ)) : EReal) := by
  have e : IntOp.addi (BitVec.ofNat 32 k) 0#32 = BitVec.ofNat 32 k := by
    show BitVec.ofNat 32 k + 0#32 = _; simp
  rw [e, ind_eq]; simp only [word_eq hk hl]

end Cert.KV
end
-- ==== Proof.Net.lean ====
module

public import proofs.«01_k».proof.Proof.Reals
public import Idealize.ShloMosaic.Lib.Pointwise

@[expose] public section

noncomputable section

namespace Cert.Net

open Idealize.ShloMosaic Cert.Spec Cert.Reals

/-- The dense layer, its leaky rectifier and the first convolution: 2048 hidden units, weights `WR`. -/
def seed (Z FW : ℕ → ℕ → ℝ) (FB : ℕ → ℝ) (WR : ℕ → ℕ → ℝ) : A5 := fun b o _ _ _ =>
  ∑ n ∈ Finset.range 2048, lrelu (∑ k ∈ Finset.range 256, Z b k * FW k n + FB n) * WR n o

/-- The real arguments of the generator. -/
structure Net where
  (Z FW : ℕ → ℕ → ℝ)
  (FB : ℕ → ℝ)
  (WI T0 C0 T1 C1 T2 C2 T3 C3 : A5)
  (WF : ℕ → ℝ)
  (BF : ℝ)

namespace Net
variable (N : Net)

/-- The first convolution's eight inner taps, as the rows of a matrix. -/
def wr : ℕ → ℕ → ℝ := fun n o => N.WI (1 + n / 4 % 2) (1 + n / 2 % 2) (1 + n % 2) (n / 8) o

/-- The activations of side 1: 256 channels. -/
def x0 : A5 := bnl 1 (seed N.Z N.FW N.FB N.wr)
/-- The activations of side 2 before the 3-convolution: 128 channels. -/
def t0 : A5 := tc 256 N.x0 N.T0
/-- The activations of side 2. -/
def x1 : A5 := bnl 2 (cv 128 2 (bnl 2 N.t0) N.C0)
/-- The activations of side 4 before the 3-convolution: 64 channels. -/
def t1 : A5 := tc 128 N.x1 N.T1
/-- The activations of side 4. -/
def x2 : A5 := bnl 4 (cv 64 4 (bnl 4 N.t1) N.C1)
/-- The activations of side 8 before the 3-convolution: 32 channels. -/
def t2 : A5 := tc 64 N.x2 N.T2
/-- The activations of side 8. -/
def x3 : A5 := bnl 8 (cv 32 8 (bnl 8 N.t2) N.C2)
/-- The activations of side 16 before the 3-convolution: 16 channels. -/
def t3 : A5 := tc 32 N.x3 N.T3
/-- The last 3-convolution, before its normalization. -/
def z4 : A5 := cv 16 16 (bnl 16 N.t3) N.C3
/-- The number whose logistic function is the entry of the result. -/
def out (b d h w : ℕ) : ℝ := ∑ c ∈ Finset.range 16, bnl 16 N.z4 b c d h w * N.WF c + N.BF

end Net

/-- The real entries of a five-axis array. -/
def Ent {n0 n1 n2 n3 n4 : ℕ} (v : (⟨5, ![n0, n1, n2, n3, n4]⟩ : Shape).Idx → EReal) (W : A5) : Prop :=
  ∀ p q r x o, v (ix5 p q r x o) = ((W p q r x o : ℝ) : EReal)

/-- The fourteen arrays hold these real arguments. -/
structure IsNet (N : Net) (a0 : (⟨2, ![128, 256]⟩ : Shape).Idx → EReal) (a1 : (⟨2, ![256, 2048]⟩ : Shape).Idx → EReal)
    (a2 : (⟨1, ![2048]⟩ : Shape).Idx → EReal) (a3 : (⟨5, ![3, 3, 3, 256, 256]⟩ : Shape).Idx → EReal)
    (a4 : (⟨5, ![2, 2, 2, 256, 128]⟩ : Shape).Idx → EReal) (a5 : (⟨5, ![3, 3, 3, 128, 128]⟩ : Shape).Idx → EReal)
    (a6 : (⟨5, ![2, 2, 2, 128, 64]⟩ : Shape).Idx → EReal) (a7 : (⟨5, ![3, 3, 3, 64, 64]⟩ : Shape).Idx → EReal)
    (a8 : (⟨5, ![2, 2, 2, 64, 32]⟩ : Shape).Idx → EReal) (a9 : (⟨5, ![3, 3, 3, 32, 32]⟩ : Shape).Idx → EReal)
    (a10 : (⟨5, ![2, 2, 2, 32, 16]⟩ : Shape).Idx → EReal) (a11 : (⟨5, ![3, 3, 3, 16, 16]⟩ : Shape).Idx → EReal)
    (a12 : (⟨2, ![16, 1]⟩ : Shape).Idx → EReal) (a13 : (⟨1, ![1]⟩ : Shape).Idx → EReal) : Prop where
  h0 : ∀ i j, a0 (ix2 i j) = ((N.Z i j : ℝ) : EReal)
  h1 : ∀ i j, a1 (ix2 i j) = ((N.FW i j : ℝ) : EReal)
  h2 : ∀ i, a2 (ix1 i) = ((N.FB i : ℝ) : EReal)
  h3 : Ent a3 N.WI
  h4 : Ent a4 N.T0
  h5 : Ent a5 N.C0
  h6 : Ent a6 N.T1
  h7 : Ent a7 N.C1
  h8 : Ent a8 N.T2
  h9 : Ent a9 N.C2
  h10 : Ent a10 N.T3
  h11 : Ent a11 N.C3
  h12 : ∀ i, a12 (ix2 i 0) = ((N.WF i : ℝ) : EReal)
  h13 : a13 (ix1 0) = ((N.BF : ℝ) : EReal)

end Cert.Net
end
-- ==== Proof.KHost.lean ====
module

public import proofs.«01_k».proof.Proof.KSums
public import proofs.«01_k».proof.Proof.Net
public import Idealize.ShloMosaic.Lib.StableHlo.RunRead

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

open Cert.Net

set_option maxHeartbeats 8000000 in
/-- The banded matrices built from the weights of the 3-convolution of 128 channels. -/
theorem read167 (V : Valuation τ sig (Elt Ideal)) (W : A5) (hW : Ent (V main_arg5 : Vec Ideal S3x3x3x128x128 .f32) W)
    (a e : Fin 3) (k l : Fin 256) :
    (StableHlo.after hostOps0 V main_v167 : Vec Ideal S3x3x256x256 .f32) (ix4 a e k l) = ((band 128 W a e k l : ℝ) : EReal) := by
  after_reads_simp
  pointwise
  rw [red7]
  simp only [Fin.sum_univ_three]
  pointwise
  after_reads_simp
  pointwise
  exact band_words 128 W a e k l _ _ _ (by omega) (by omega) (hW ..) (hW ..) (hW ..)

set_option maxHeartbeats 8000000 in
/-- The banded matrices built from the weights of the 3-convolution of 64 channels. -/
theorem read203 (V : Valuation τ sig (Elt Ideal)) (W : A5) (hW : Ent (V main_arg7 : Vec Ideal S3x3x3x64x64 .f32) W)
    (a e : Fin 3) (k l : Fin 256) :
    (StableHlo.after hostOps0 V main_v203 : Vec Ideal S3x3x256x256 .f32) (ix4 a e k l) = ((band 64 W a e k l : ℝ) : EReal) := by
  after_reads_simp
  pointwise
  rw [red7]
  simp only [Fin.sum_univ_three]
  pointwise
  after_reads_simp
  pointwise
  exact band_words 64 W a e k l _ _ _ (by omega) (by omega) (hW ..) (hW ..) (hW ..)

set_option maxHeartbeats 8000000 in
/-- The banded matrices built from the weights of the 3-convolution of 32 channels. -/
theorem read239 (V : Valuation τ sig (Elt Ideal)) (W : A5) (hW : Ent (V main_arg9 : Vec Ideal S3x3x3x32x32 .f32) W)
    (a e : Fin 3) (k l : Fin 256) :
    (StableHlo.after hostOps0 V main_v239 : Vec Ideal S3x3x256x256 .f32) (ix4 a e k l) = ((band 32 W a e k l : ℝ) : EReal) := by
  after_reads_simp
  pointwise
  rw [red7]
  simp only [Fin.sum_univ_three]
  pointwise
  after_reads_simp
  pointwise
  exact band_words 32 W a e k l _ _ _ (by omega) (by omega) (hW ..) (hW ..) (hW ..)

set_option maxHeartbeats 8000000 in
/-- The banded matrices built from the weights of the 3-convolution of 16 channels. -/
theorem read276 (V : Valuation τ sig (Elt Ideal)) (W : A5) (hW : Ent (V main_arg11 : Vec Ideal S3x3x3x16x16 .f32) W)
    (a e : Fin 3) (k l : Fin 256) :
    (StableHlo.after hostOps0 V main_v276 : Vec Ideal S3x3x256x256 .bf16) (ix4 a e k l) = ((band 16 W a e k l : ℝ) : EReal) := by
  after_reads_simp
  pointwise
  rw [red7]
  simp only [Fin.sum_univ_three]
  pointwise
  after_reads_simp
  pointwise
  exact band_words 16 W a e k l _ _ _ (by omega) (by omega) (hW ..) (hW ..) (hW ..)

set_option maxHeartbeats 8000000 in
/-- The matrices built from the weights of the transposed convolution from 256 to 128 channels. -/
theorem read35 (V : Valuation τ sig (Elt Ideal)) (W : A5) (hW : Ent (V main_arg4 : Vec Ideal S2x2x2x256x128 .f32) W)
    (i j : Fin 2) (k l : Fin 256) :
    (StableHlo.after hostOps0 V main_v35 : Vec Ideal S2x2x256x256 .f32) (ix4 i j k l) = ((tmat 256 128 W i j k l : ℝ) : EReal) := by
  after_reads_simp
  pointwise
  rw [red7]
  simp only [Fin.sum_univ_two]
  pointwise
  after_reads_simp
  pointwise
  have e : (k : ℕ) = k % 256 := (Nat.mod_eq_of_lt k.2).symm
  exact tmat_words 256 128 W i j k l 0 _ _ (by omega) (by omega) (by omega) ((hW ..).trans (by rw [← e]; rfl)) ((hW ..).trans (by rw [← e]; rfl))

set_option maxHeartbeats 8000000 in
/-- The matrices built from the weights of the transposed convolution from 128 to 64 channels. -/
theorem read67 (V : Valuation τ sig (Elt Ideal)) (W : A5) (hW : Ent (V main_arg6 : Vec Ideal S2x2x2x128x64 .f32) W)
    (i j : Fin 2) (k l : Fin 256) :
    (StableHlo.after hostOps0 V main_v67 : Vec Ideal S2x2x256x256 .f32) (ix4 i j k l) = ((tmat 128 64 W i j k l : ℝ) : EReal) := by
  after_reads_simp
  pointwise
  rw [red7]
  simp only [Fin.sum_univ_two]
  pointwise
  after_reads_simp
  pointwise
  exact tmat_words 128 64 W i j k l _ _ _ rfl (by omega) (by omega) (hW ..) (hW ..)

set_option maxHeartbeats 8000000 in
/-- The matrices built from the weights of the transposed convolution from 64 to 32 channels. -/
theorem read99 (V : Valuation τ sig (Elt Ideal)) (W : A5) (hW : Ent (V main_arg8 : Vec Ideal S2x2x2x64x32 .f32) W)
    (i j : Fin 2) (k l : Fin 256) :
    (StableHlo.after hostOps0 V main_v99 : Vec Ideal S2x2x256x256 .f32) (ix4 i j k l) = ((tmat 64 32 W i j k l : ℝ) : EReal) := by
  after_reads_simp
  pointwise
  rw [red7]
  simp only [Fin.sum_univ_two]
  pointwise
  after_reads_simp
  pointwise
  exact tmat_words 64 32 W i j k l _ _ _ rfl (by omega) (by omega) (hW ..) (hW ..)

set_option maxHeartbeats 8000000 in
/-- The matrices built from the weights of the transposed convolution from 32 to 16 channels. -/
theorem read131 (V : Valuation τ sig (Elt Ideal)) (W : A5) (hW : Ent (V main_arg10 : Vec Ideal S2x2x2x32x16 .f32) W)
    (i j : Fin 2) (k l : Fin 256) :
    (StableHlo.after hostOps0 V main_v131 : Vec Ideal S2x2x256x256 .f32) (ix4 i j k l) = ((tmat 32 16 W i j k l : ℝ) : EReal) := by
  after_reads_simp
  pointwise
  rw [red7]
  simp only [Fin.sum_univ_two]
  pointwise
  after_reads_simp
  pointwise
  exact tmat_words 32 16 W i j k l _ _ _ rfl (by omega) (by omega) (hW ..) (hW ..)

set_option maxHeartbeats 8000000 in
/-- The matrix that adds up the columns of one channel, of 128 channels. -/
theorem read289 (V : Valuation τ sig (Elt Ideal)) (k l : Fin 256) :
    (StableHlo.after hostOps0 V main_v289 : Vec Ideal S256x256 .f32) (ix2 k l) = (((if (k : ℕ) % 128 = l % 128 then 1 else 0 : ℝ)) : EReal) := by
  after_reads_simp
  pointwise
  exact chan_words _ _ (by omega) (by omega)

set_option maxHeartbeats 8000000 in
/-- The matrix that adds up the columns of one channel, of 64 channels. -/
theorem read302 (V : Valuation τ sig (Elt Ideal)) (k l : Fin 256) :
    (StableHlo.after hostOps0 V main_v302 : Vec Ideal S256x256 .f32) (ix2 k l) = (((if (k : ℕ) % 64 = l % 64 then 1 else 0 : ℝ)) : EReal) := by
  after_reads_simp
  pointwise
  exact chan_words _ _ (by omega) (by omega)

set_option maxHeartbeats 8000000 in
/-- The matrix that adds up the columns of one channel, of 32 channels. -/
theorem read315 (V : Valuation τ sig (Elt Ideal)) (k l : Fin 256) :
    (StableHlo.after hostOps0 V main_v315 : Vec Ideal S256x256 .f32) (ix2 k l) = (((if (k : ℕ) % 32 = l % 32 then 1 else 0 : ℝ)) : EReal) := by
  after_reads_simp
  pointwise
  exact chan_words _ _ (by omega) (by omega)

set_option maxHeartbeats 8000000 in
/-- The matrix that adds up the columns of one channel, of 16 channels. -/
theorem read328 (V : Valuation τ sig (Elt Ideal)) (k l : Fin 256) :
    (StableHlo.after hostOps0 V main_v328 : Vec Ideal S256x256 .f32) (ix2 k l) = (((if (k : ℕ) % 16 = l % 16 then 1 else 0 : ℝ)) : EReal) := by
  after_reads_simp
  pointwise
  exact chan_words _ _ (by omega) (by omega)

/-- The dense layer's weights, unchanged. -/
theorem read0 (V : Valuation τ sig (Elt Ideal)) (k : Fin 256) (n : Fin 2048) :
    (StableHlo.after hostOps0 V main_v0 : Vec Ideal S256x2048 .bf16) (ix2 k n) = (V main_arg1 : Vec Ideal S256x2048 .f32) (ix2 k n) := by
  after_reads_simp
  pointwise

/-- The dense layer's bias, as a row. -/
theorem read1 (V : Valuation τ sig (Elt Ideal)) (n : Fin 2048) :
    (StableHlo.after hostOps0 V main_v1 : Vec Ideal S1x2048 .f32) (ix2 0 n) = (V main_arg2 : Vec Ideal S2048 .f32) (ix1 n) := by
  after_reads_simp
  pointwise

set_option maxHeartbeats 8000000 in
/-- The first convolution's weights, its eight inner taps as the rows of a matrix. -/
theorem read5 (V : Valuation τ sig (Elt Ideal)) (W : A5) (hW : Ent (V main_arg3 : Vec Ideal S3x3x3x256x256 .f32) W)
    (k : Fin 2048) (l : Fin 256) :
    (StableHlo.after hostOps0 V main_v5 : Vec Ideal S2048x256 .bf16) (ix2 k l)
      = ((W (1 + k / 4 % 2) (1 + k / 2 % 2) (1 + k % 2) (k / 8) l : ℝ) : EReal) := by
  after_reads_simp
  pointwise
  exact hW ..

set_option maxHeartbeats 8000000 in
/-- The last product's weights, repeated for every column. -/
theorem read341 (V : Valuation τ sig (Elt Ideal)) (W : ℕ → ℝ)
    (hW : ∀ i, (V main_arg12 : Vec Ideal S16x1 .f32) (ix2 i 0) = (W i : EReal)) (k : Fin 256) (o : Fin 16) :
    (StableHlo.after hostOps0 V main_v341 : Vec Ideal S256x16 .bf16) (ix2 k o)
      = (((if (k : ℕ) / 16 = o then W (k % 16) else 0 : ℝ)) : EReal) := by
  after_reads_simp
  pointwise
  rw [chan_words _ _ (by omega) (by omega), hW, ← EReal.coe_mul]
  congr 1
  split_ifs <;> simp

/-- The last product's bias, repeated for every column. -/
theorem read343 (V : Valuation τ sig (Elt Ideal)) (o : Fin 16) :
    (StableHlo.after hostOps0 V main_v343 : Vec Ideal S1x16 .f32) (ix2 0 o) = (V main_arg13 : Vec Ideal S1 .f32) (ix1 0) := by
  after_reads_simp
  pointwise

end Cert.KV
end
-- ==== Proof.KIlv.lean ====
module

public import proofs.«01_k».proof.Proof.KSums
public import Idealize.ShloMosaic.Lib.StableHlo.RunRead

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

/-- A function of three numbers and a column takes equal values at equal numbers. -/
theorem arg4 (f : ℕ → ℕ → ℕ → ℕ → ℝ) {a b c a' b' c' : ℕ} (l : ℕ) (ha : a = a') (hb : b = b') (hc : c = c') :
    ((f a b c l : ℝ) : EReal) = ((f a' b' c' l : ℝ) : EReal) := by
  subst ha hb hc; rfl

set_option maxHeartbeats 8000000 in
/-- The four parts of a doubled grid of side 2, interleaved: a row takes its part by the parities of its two coordinates. -/
theorem ilv1 (V : Valuation τ sig (Elt Ideal)) (f : ℕ → ℕ → ℕ → ℕ → ℝ)
    (h0 : ∀ (r : Fin 128) (l : Fin 256), (V main_v346_0 : Vec Ideal S128x256 .f32) (ix2 r l) = ((f 0 0 r l : ℝ) : EReal))
    (h1 : ∀ (r : Fin 128) (l : Fin 256), (V main_v346_1 : Vec Ideal S128x256 .f32) (ix2 r l) = ((f 0 1 r l : ℝ) : EReal))
    (h2 : ∀ (r : Fin 128) (l : Fin 256), (V main_v346_2 : Vec Ideal S128x256 .f32) (ix2 r l) = ((f 1 0 r l : ℝ) : EReal))
    (h3 : ∀ (r : Fin 128) (l : Fin 256), (V main_v346_3 : Vec Ideal S128x256 .f32) (ix2 r l) = ((f 1 1 r l : ℝ) : EReal))
    (r : Fin 512) (l : Fin 256) :
    (StableHlo.after hostOps2 V main_v354 : Vec Ideal S512x256 .f32) (ix2 r l)
      = ((f (r / 128 / (2 * 1) % 2) (r / 128 % (2 * 1) % 2) ((r / 128 / (2 * 1) / 2 * 1 + r / 128 % (2 * 1) / 2) * 128 + r % 128) l : ℝ) : EReal) := by
  after_reads_simp
  pointwise
  split
  · rename_i g0
    after_reads_simp
    pointwise
    exact (h0 ..).trans (arg4 f l (by omega) (by omega) (by first | rfl | (dsimp only; omega)))
  rename_i g0
  split
  · rename_i g1
    after_reads_simp
    pointwise
    exact (h1 ..).trans (arg4 f l (by omega) (by omega) (by first | rfl | (dsimp only; omega)))
  rename_i g1
  split
  · rename_i g2
    after_reads_simp
    pointwise
    exact (h2 ..).trans (arg4 f l (by omega) (by omega) (by first | rfl | (dsimp only; omega)))
  · rename_i g2
    after_reads_simp
    pointwise
    exact (h3 ..).trans (arg4 f l (by omega) (by omega) (by first | rfl | (dsimp only; omega)))

set_option maxHeartbeats 8000000 in
/-- The four parts of a doubled grid of side 4, interleaved: a row takes its part by the parities of its two coordinates. -/
theorem ilv3 (V : Valuation τ sig (Elt Ideal)) (f : ℕ → ℕ → ℕ → ℕ → ℝ)
    (h0 : ∀ (r : Fin 512) (l : Fin 256), (V main_v358_0 : Vec Ideal S512x256 .f32) (ix2 r l) = ((f 0 0 r l : ℝ) : EReal))
    (h1 : ∀ (r : Fin 512) (l : Fin 256), (V main_v358_1 : Vec Ideal S512x256 .f32) (ix2 r l) = ((f 0 1 r l : ℝ) : EReal))
    (h2 : ∀ (r : Fin 512) (l : Fin 256), (V main_v358_2 : Vec Ideal S512x256 .f32) (ix2 r l) = ((f 1 0 r l : ℝ) : EReal))
    (h3 : ∀ (r : Fin 512) (l : Fin 256), (V main_v358_3 : Vec Ideal S512x256 .f32) (ix2 r l) = ((f 1 1 r l : ℝ) : EReal))
    (r : Fin 2048) (l : Fin 256) :
    (StableHlo.after hostOps4 V main_v366 : Vec Ideal S2048x256 .f32) (ix2 r l)
      = ((f (r / 128 / (2 * 2) % 2) (r / 128 % (2 * 2) % 2) ((r / 128 / (2 * 2) / 2 * 2 + r / 128 % (2 * 2) / 2) * 128 + r % 128) l : ℝ) : EReal) := by
  after_reads_simp
  pointwise
  split
  · rename_i g0
    after_reads_simp
    pointwise
    exact (h0 ..).trans (arg4 f l (by omega) (by omega) (by first | rfl | (dsimp only; omega)))
  rename_i g0
  split
  · rename_i g1
    after_reads_simp
    pointwise
    exact (h1 ..).trans (arg4 f l (by omega) (by omega) (by first | rfl | (dsimp only; omega)))
  rename_i g1
  split
  · rename_i g2
    after_reads_simp
    pointwise
    exact (h2 ..).trans (arg4 f l (by omega) (by omega) (by first | rfl | (dsimp only; omega)))
  · rename_i g2
    after_reads_simp
    pointwise
    exact (h3 ..).trans (arg4 f l (by omega) (by omega) (by first | rfl | (dsimp only; omega)))

set_option maxHeartbeats 8000000 in
/-- The four parts of a doubled grid of side 8, interleaved: a row takes its part by the parities of its two coordinates. -/
theorem ilv5 (V : Valuation τ sig (Elt Ideal)) (f : ℕ → ℕ → ℕ → ℕ → ℝ)
    (h0 : ∀ (r : Fin 2048) (l : Fin 256), (V main_v370_0 : Vec Ideal S2048x256 .f32) (ix2 r l) = ((f 0 0 r l : ℝ) : EReal))
    (h1 : ∀ (r : Fin 2048) (l : Fin 256), (V main_v370_1 : Vec Ideal S2048x256 .f32) (ix2 r l) = ((f 0 1 r l : ℝ) : EReal))
    (h2 : ∀ (r : Fin 2048) (l : Fin 256), (V main_v370_2 : Vec Ideal S2048x256 .f32) (ix2 r l) = ((f 1 0 r l : ℝ) : EReal))
    (h3 : ∀ (r : Fin 2048) (l : Fin 256), (V main_v370_3 : Vec Ideal S2048x256 .f32) (ix2 r l) = ((f 1 1 r l : ℝ) : EReal))
    (r : Fin 8192) (l : Fin 256) :
    (StableHlo.after hostOps6 V main_v378 : Vec Ideal S8192x256 .f32) (ix2 r l)
      = ((f (r / 128 / (2 * 4) % 2) (r / 128 % (2 * 4) % 2) ((r / 128 / (2 * 4) / 2 * 4 + r / 128 % (2 * 4) / 2) * 128 + r % 128) l : ℝ) : EReal) := by
  after_reads_simp
  pointwise
  split
  · rename_i g0
    after_reads_simp
    pointwise
    exact (h0 ..).trans (arg4 f l (by omega) (by omega) (by first | rfl | (dsimp only; omega)))
  rename_i g0
  split
  · rename_i g1
    after_reads_simp
    pointwise
    exact (h1 ..).trans (arg4 f l (by omega) (by omega) (by first | rfl | (dsimp only; omega)))
  rename_i g1
  split
  · rename_i g2
    after_reads_simp
    pointwise
    exact (h2 ..).trans (arg4 f l (by omega) (by omega) (by first | rfl | (dsimp only; omega)))
  · rename_i g2
    after_reads_simp
    pointwise
    exact (h3 ..).trans (arg4 f l (by omega) (by omega) (by first | rfl | (dsimp only; omega)))

set_option maxHeartbeats 8000000 in
/-- The four parts of a doubled grid of side 16, interleaved: a row takes its part by the parities of its two coordinates. -/
theorem ilv7 (V : Valuation τ sig (Elt Ideal)) (f : ℕ → ℕ → ℕ → ℕ → ℝ)
    (h0 : ∀ (r : Fin 8192) (l : Fin 256), (V main_v382_0 : Vec Ideal S8192x256 .bf16) (ix2 r l) = ((f 0 0 r l : ℝ) : EReal))
    (h1 : ∀ (r : Fin 8192) (l : Fin 256), (V main_v382_1 : Vec Ideal S8192x256 .bf16) (ix2 r l) = ((f 0 1 r l : ℝ) : EReal))
    (h2 : ∀ (r : Fin 8192) (l : Fin 256), (V main_v382_2 : Vec Ideal S8192x256 .bf16) (ix2 r l) = ((f 1 0 r l : ℝ) : EReal))
    (h3 : ∀ (r : Fin 8192) (l : Fin 256), (V main_v382_3 : Vec Ideal S8192x256 .bf16) (ix2 r l) = ((f 1 1 r l : ℝ) : EReal))
    (r : Fin 32768) (l : Fin 256) :
    (StableHlo.after hostOps8 V main_v390 : Vec Ideal S32768x256 .bf16) (ix2 r l)
      = ((f (r / 128 / (2 * 8) % 2) (r / 128 % (2 * 8) % 2) ((r / 128 / (2 * 8) / 2 * 8 + r / 128 % (2 * 8) / 2) * 128 + r % 128) l : ℝ) : EReal) := by
  after_reads_simp
  pointwise
  split
  · rename_i g0
    after_reads_simp
    pointwise
    exact (h0 ..).trans (arg4 f l (by omega) (by omega) (by first | rfl | (dsimp only; omega)))
  rename_i g0
  split
  · rename_i g1
    after_reads_simp
    pointwise
    exact (h1 ..).trans (arg4 f l (by omega) (by omega) (by first | rfl | (dsimp only; omega)))
  rename_i g1
  split
  · rename_i g2
    after_reads_simp
    pointwise
    exact (h2 ..).trans (arg4 f l (by omega) (by omega) (by first | rfl | (dsimp only; omega)))
  · rename_i g2
    after_reads_simp
    pointwise
    exact (h3 ..).trans (arg4 f l (by omega) (by omega) (by first | rfl | (dsimp only; omega)))

/-- The result, its rows taken apart: sample, depth and height of an entry are the row's. -/
theorem read395 (V : Valuation τ sig (Elt Ideal)) (b : Fin 128) (d h w : Fin 16) :
    (StableHlo.after hostOps10 V main_v395 : Vec Ideal S128x1x16x16x16 .f32) (ix5 b 0 d h w)
      = (V main_v392 : Vec Ideal S32768x16 .f32) (ix2 ⟨(d * 16 + h) * 128 + b, by omega⟩ w) := by
  after_reads_simp
  pointwise
  congr 2
  apply Fin.ext
  dsimp only
  omega

/-- The cast of `main_v35`: over the reals, the same entries. -/
theorem cast1 (V : Valuation τ sig (Elt Ideal)) (j : S2x2x256x256.Idx) :
    (StableHlo.after hostOps1 V main_v345 : Vec Ideal S2x2x256x256 .bf16) j = (V main_v35 : Vec Ideal S2x2x256x256 .f32) j := by
  after_reads_simp
  pointwise

/-- The cast of `main_v67`: over the reals, the same entries. -/
theorem cast3 (V : Valuation τ sig (Elt Ideal)) (j : S2x2x256x256.Idx) :
    (StableHlo.after hostOps3 V main_v357 : Vec Ideal S2x2x256x256 .bf16) j = (V main_v67 : Vec Ideal S2x2x256x256 .f32) j := by
  after_reads_simp
  pointwise

/-- The cast of `main_v99`: over the reals, the same entries. -/
theorem cast5 (V : Valuation τ sig (Elt Ideal)) (j : S2x2x256x256.Idx) :
    (StableHlo.after hostOps5 V main_v369 : Vec Ideal S2x2x256x256 .bf16) j = (V main_v99 : Vec Ideal S2x2x256x256 .f32) j := by
  after_reads_simp
  pointwise

/-- The cast of `main_v131`: over the reals, the same entries. -/
theorem cast7 (V : Valuation τ sig (Elt Ideal)) (j : S2x2x256x256.Idx) :
    (StableHlo.after hostOps7 V main_v381 : Vec Ideal S2x2x256x256 .bf16) j = (V main_v131 : Vec Ideal S2x2x256x256 .f32) j := by
  after_reads_simp
  pointwise

/-- The cast of `main_v167`: over the reals, the same entries. -/
theorem cast2 (V : Valuation τ sig (Elt Ideal)) (j : S3x3x256x256.Idx) :
    (StableHlo.after hostOps2 V main_v355 : Vec Ideal S3x3x256x256 .bf16) j = (V main_v167 : Vec Ideal S3x3x256x256 .f32) j := by
  after_reads_simp
  pointwise

/-- The cast of `main_v203`: over the reals, the same entries. -/
theorem cast4 (V : Valuation τ sig (Elt Ideal)) (j : S3x3x256x256.Idx) :
    (StableHlo.after hostOps4 V main_v367 : Vec Ideal S3x3x256x256 .bf16) j = (V main_v203 : Vec Ideal S3x3x256x256 .f32) j := by
  after_reads_simp
  pointwise

/-- The cast of `main_v239`: over the reals, the same entries. -/
theorem cast6 (V : Valuation τ sig (Elt Ideal)) (j : S3x3x256x256.Idx) :
    (StableHlo.after hostOps6 V main_v379 : Vec Ideal S3x3x256x256 .bf16) j = (V main_v239 : Vec Ideal S3x3x256x256 .f32) j := by
  after_reads_simp
  pointwise

end Cert.KV
end
-- ==== Proof.KPre.lean ====
module

public import proofs.«01_k».proof.Proof.Gen.KernelIdeal.Frame
public import proofs.«01_k».proof.Proof.Net
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals Cert.Net

/-- A grid of side one has one voxel. -/
theorem sum4_one (F : ℕ → ℕ → ℕ → ℕ → ℝ) : sum4 1 F = ∑ b ∈ Finset.range 128, F b 0 0 0 := by
  unfold sum4
  simp only [Finset.sum_range_one]

set_option maxHeartbeats 4000000 in
/-- The block the first call writes: the normalised, rectified seed of the generator. -/
theorem pre0 {x0 : Vec Ideal S128x256 .f32} {x1 x2 x3} {Z FW : ℕ → ℕ → ℝ} {FB : ℕ → ℝ} {WR : ℕ → ℕ → ℝ}
    (h0 : ∀ (r : Fin 128) (k : Fin 256), x0 (ix2 r k) = (Z r k : EReal))
    (h1 : ∀ (k : Fin 256) (n : Fin 2048), x1 (ix2 k n) = (FW k n : EReal))
    (h2 : ∀ n : Fin 2048, x2 (ix2 0 n) = (FB n : EReal))
    (h3 : ∀ (n : Fin 2048) (l : Fin 256), x3 (ix2 n l) = (WR n l : EReal)) (r : Fin 128) (l : Fin 256) :
    out0_4 x0 x1 x2 x3 (ix2 r l) = ((rl 1 256 (bnl 1 (seed Z FW FB WR)) r l : ℝ) : EReal) := by
  unfold out0_4
  rw [View.canon_unit_zero (by decide +kernel), View.ld_unit_zero (by decide +kernel), View.ld_unit_zero (by decide +kernel),
    View.ld_unit_zero (by decide +kernel), View.ld_unit_zero (by decide +kernel)]
  have hd : ∀ (r : Fin 128) (n : Fin 2048), (∑ k, x0 (ix2 r k) * x1 (ix2 k n) + x2 (ix2 0 n) : EReal)
      = ((∑ k ∈ Finset.range 256, Z r k * FW k n + FB n : ℝ) : EReal) := fun r n => by
    rw [sum_coe (fun k => Z r k * FW k n) fun k => by rw [h0, h1, ← EReal.coe_mul], h2, ← EReal.coe_add]
  have hx : ∀ (r : Fin 128) (l : Fin 256), (∑ n : Fin 2048,
      (((lrelu (∑ k ∈ Finset.range 256, Z r k * FW k n + FB n) : ℝ) : EReal) * x3 (ix2 n l)))
      = ((seed Z FW FB WR r l 0 0 0 : ℝ) : EReal) := fun r l => by
    unfold seed
    exact sum_coe (fun n => lrelu (∑ k ∈ Finset.range 256, Z r k * FW k n + FB n) * WR n l) fun n => by
      rw [h3, ← EReal.coe_mul]
  pointwise [k0_pay1]
  simp only [hd, lit_slope, lrelu_coe, hx]
  rw [sum_coe (fun r => seed Z FW FB WR r l 0 0 0) fun _ => rfl,
    sum_coe (fun r => seed Z FW FB WR r l 0 0 0 * seed Z FW FB WR r l 0 0 0) fun _ => (EReal.coe_mul _ _).symm, lit_cnt1, lit_eps,
    bnK (S := 1) (by norm_num) (seed Z FW FB WR) l _ (sum4_one _).symm (sum4_one _).symm, lrelu_coe]
  refine congrArg _ ?_
  show _ = bnl 1 (seed Z FW FB WR) (r % 128) (l % 256) (r / 128 / 1) (r / 128 % 1) (l / 256)
  rw [Nat.mod_eq_of_lt r.2, Nat.mod_eq_of_lt l.2]
  rfl

/-- Every window of the call is the whole array. -/
theorem index0 : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The array the call leaves, from the arrays it was given. -/
theorem region0 (V) (c : Dev nD) : (dat0 (F := Ideal) V c).arrAt 4 cfg0.N
    = out0_4 (V c main_arg0) (V c main_v0) (V c main_v1) (V c main_v5) := by
  have e0 : iblk0 (F := Ideal) V c 0 t0_0 = V c main_arg0 := by blk_ext! [iblk0, index0 t0_0]
  have e1 : iblk0 (F := Ideal) V c 1 t0_0 = V c main_v0 := by blk_ext! [iblk0, index0 t0_0]
  have e2 : iblk0 (F := Ideal) V c 2 t0_0 = V c main_v1 := by blk_ext! [iblk0, index0 t0_0]
  have e3 : iblk0 (F := Ideal) V c 3 t0_0 = V c main_v5 := by blk_ext! [iblk0, index0 t0_0]
  refine (dat0 V c).arrAt_eq_of_after_last 4 t0_0 (by decide +kernel) _ fun j => ?_
  blk_simp
  rw [after0_4, e0, e1, e2, e3]

end Cert.KV
end
-- ==== Proof.KTIn.lean ====
module

public import proofs.«01_k».proof.Proof.Gen.KernelIdeal.Frame
public import proofs.«01_k».proof.Proof.Reals
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

open Finset

/-- What a transposed-convolution region is given: its activation in rows and lanes and the matrices of its weights. -/
structure TIn {R : ℕ} (S C Co : ℕ) (x0 : (⟨2, ![R, 256]⟩ : Shape).Idx → EReal) (x1 : (⟨4, ![2, 2, 256, 256]⟩ : Shape).Idx → EReal)
    (X W : A5) : Prop where
  rows : ∀ (r : Fin R) (k : Fin 256), x0 (ix2 r k) = ((rl S C X r k : ℝ) : EReal)
  mats : ∀ (i j : Fin 2) (k l : Fin 256), x1 (ix4 i j k l) = ((tmat C Co W i j k l : ℝ) : EReal)

/-- One row of one part. -/
theorem TIn.part {R S C Co : ℕ} {x0 : (⟨2, ![R, 256]⟩ : Shape).Idx → EReal} {x1 : (⟨4, ![2, 2, 256, 256]⟩ : Shape).Idx → EReal} {X W : A5}
    (H : TIn S C Co x0 x1 X W) (hL : S * C = 256) (i j : Fin 2) (r : Fin R) (l : Fin 256) :
    ∑ k : Fin 256, x0 (ix2 r k) * x1 (ix4 i j k l) = ((tpart S C Co X W i j r l : ℝ) : EReal) := by
  unfold tpart
  rw [hL]
  refine sum_coe _ fun k => ?_
  rw [H.rows, H.mats, ← EReal.coe_mul]

/-- A lane's total of `F` over the four parts. -/
def ttot (S C Co : ℕ) (F : ℝ → ℝ) (X W : A5) (l : ℕ) : ℝ :=
  ∑ i ∈ range 2, ∑ j ∈ range 2, ∑ r ∈ range (S * S * 128), F (tpart S C Co X W i j r l)

/-- The lanes' totals carry the totals of the transposed convolution's channels. -/
theorem ttot_carries {S C Co L : ℕ} (F : ℝ → ℝ) (X W : A5) (hL : L = 2 * S * Co) (hCo : 0 < Co) :
    Carries L Co (ttot S C Co F X W) fun o => sum4 (2 * S) fun b d h w => F (tc C X W b o d h w) := by
  intro l
  rw [hL]
  exact tstat_eq F X W hCo

/-- A lane's total, part by part. -/
theorem ttot_coe {S C Co : ℕ} (F : ℝ → ℝ) (X W : A5) (l : ℕ) :
    (((∑ r ∈ range (S * S * 128), F (tpart S C Co X W 0 0 r l) : ℝ) : EReal)
      + ((∑ r ∈ range (S * S * 128), F (tpart S C Co X W 0 1 r l) : ℝ) : EReal)
      + ((∑ r ∈ range (S * S * 128), F (tpart S C Co X W 1 0 r l) : ℝ) : EReal)
      + ((∑ r ∈ range (S * S * 128), F (tpart S C Co X W 1 1 r l) : ℝ) : EReal)) = ((ttot S C Co F X W l : ℝ) : EReal) := by
  rw [← EReal.coe_add, ← EReal.coe_add, ← EReal.coe_add]
  unfold ttot
  simp only [sum_range_succ, sum_range_zero, zero_add]
  rw [add_assoc _ _ (∑ r ∈ range (S * S * 128), F (tpart S C Co X W 1 1 r l))]

/-- A lane's total over four parts' values, added one after another. -/
def tot2 {n : ℕ} (f g : Fin n → EReal) : EReal := ∑ r, f r + ∑ r, g r
/-- Two more parts' values added to a total. -/
def tot3 {n : ℕ} (a : EReal) (f g : Fin n → EReal) : EReal := a + ∑ r, f r + ∑ r, g r
/-- The totals of the squares of two parts' values. -/
def sq2 {n : ℕ} (f g : Fin n → EReal) : EReal := ∑ r, f r * f r + ∑ r, g r * g r
/-- The squares of two more parts' values added to a total. -/
def sq3 {n : ℕ} (a : EReal) (f g : Fin n → EReal) : EReal := a + ∑ r, f r * f r + ∑ r, g r * g r

/-- A lane's total over four parts' values. -/
theorem ttot_lin {R S C Co : ℕ} {X W : A5} (hR : S * S * 128 = R) {l : ℕ} {f0 f1 f2 f3 : Fin R → EReal}
    (h0 : ∀ r, f0 r = ((tpart S C Co X W 0 0 r l : ℝ) : EReal)) (h1 : ∀ r, f1 r = ((tpart S C Co X W 0 1 r l : ℝ) : EReal))
    (h2 : ∀ r, f2 r = ((tpart S C Co X W 1 0 r l : ℝ) : EReal)) (h3 : ∀ r, f3 r = ((tpart S C Co X W 1 1 r l : ℝ) : EReal)) :
    tot3 (tot2 f0 f1) f2 f3 = ((ttot S C Co (fun x => x) X W l : ℝ) : EReal) := by
  unfold tot3 tot2
  rw [sum_coe (fun r => tpart S C Co X W 0 0 r l) h0, sum_coe (fun r => tpart S C Co X W 0 1 r l) h1,
    sum_coe (fun r => tpart S C Co X W 1 0 r l) h2, sum_coe (fun r => tpart S C Co X W 1 1 r l) h3, ← hR]
  exact ttot_coe (fun x => x) X W l

/-- A lane's total of the squares of four parts' values. -/
theorem ttot_sq {R S C Co : ℕ} {X W : A5} (hR : S * S * 128 = R) {l : ℕ} {f0 f1 f2 f3 : Fin R → EReal}
    (h0 : ∀ r, f0 r = ((tpart S C Co X W 0 0 r l : ℝ) : EReal)) (h1 : ∀ r, f1 r = ((tpart S C Co X W 0 1 r l : ℝ) : EReal))
    (h2 : ∀ r, f2 r = ((tpart S C Co X W 1 0 r l : ℝ) : EReal)) (h3 : ∀ r, f3 r = ((tpart S C Co X W 1 1 r l : ℝ) : EReal)) :
    sq3 (sq2 f0 f1) f2 f3 = ((ttot S C Co (fun x => x * x) X W l : ℝ) : EReal) := by
  have sq : ∀ {f : Fin R → EReal} (g : ℕ → ℝ), (∀ r : Fin R, f r = (g r : EReal)) →
      ∑ r, f r * f r = ((∑ r ∈ range R, g r * g r : ℝ) : EReal) :=
    fun g h => sum_coe (fun r => g r * g r) fun r => by rw [h r, ← EReal.coe_mul]
  unfold sq3 sq2
  rw [sq (fun r => tpart S C Co X W 0 0 r l) h0, sq (fun r => tpart S C Co X W 0 1 r l) h1,
    sq (fun r => tpart S C Co X W 1 0 r l) h2, sq (fun r => tpart S C Co X W 1 1 r l) h3, ← hR]
  exact ttot_coe (fun x => x * x) X W l

end Cert.KV
end
-- ==== Proof.KT1.lean ====
module

public import proofs.«01_k».proof.Proof.Gen.KernelIdeal.Frame
public import proofs.«01_k».proof.Proof.KTIn
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

/-- The four products of a transposed convolution: its four parts. -/
theorem prods1 {x0 : Vec Ideal S128x256 .f32} {x1} {X W : A5} (H : TIn 1 256 128 x0 x1 X W) (r : Fin 128) (l : Fin 256) :
    k1_pay4 (View.ld x0 r1_0) (View.ld x1 r1_1) (ix2 r l) = ((tpart 1 256 128 X W 0 0 r l : ℝ) : EReal)
    ∧ k1_pay5 (View.ld x0 r1_0) (View.ld x1 r1_2) (ix2 r l) = ((tpart 1 256 128 X W 0 1 r l : ℝ) : EReal)
    ∧ k1_pay8 (View.ld x0 r1_0) (View.ld x1 r1_3) (ix2 r l) = ((tpart 1 256 128 X W 1 0 r l : ℝ) : EReal)
    ∧ k1_pay1 (k1_pay3 (View.ld x0 r1_0)) (View.ld x1 r1_4) (ix2 r l) = ((tpart 1 256 128 X W 1 1 r l : ℝ) : EReal) := by
  refine ⟨?_, ?_, ?_, ?_⟩
  · pointwise [k1_pay4, k1_pay5, k1_pay8, k1_pay1, k1_pay3]
    exact H.part rfl 0 0 r l
  · pointwise [k1_pay4, k1_pay5, k1_pay8, k1_pay1, k1_pay3]
    exact H.part rfl 0 1 r l
  · pointwise [k1_pay4, k1_pay5, k1_pay8, k1_pay1, k1_pay3]
    exact H.part rfl 1 0 r l
  · pointwise [k1_pay4, k1_pay5, k1_pay8, k1_pay1, k1_pay3]
    exact H.part rfl 1 1 r l

/-- The four parts it writes. -/
theorem parts1 {x0 : Vec Ideal S128x256 .f32} {x1} {X W : A5} (H : TIn 1 256 128 x0 x1 X W) (r : Fin 128) (l : Fin 256) :
    out1_2 x0 x1 (ix2 r l) = ((tpart 1 256 128 X W 0 0 r l : ℝ) : EReal)
    ∧ out1_3 x0 x1 (ix2 r l) = ((tpart 1 256 128 X W 0 1 r l : ℝ) : EReal)
    ∧ out1_4 x0 x1 (ix2 r l) = ((tpart 1 256 128 X W 1 0 r l : ℝ) : EReal)
    ∧ out1_5 x0 x1 (ix2 r l) = ((tpart 1 256 128 X W 1 1 r l : ℝ) : EReal) := by
  obtain ⟨h0, h1, h2, h3⟩ := prods1 H r l
  refine ⟨?_, ?_, ?_, ?_⟩
  · unfold out1_2; rw [View.canon_unit_zero (by decide +kernel)]; exact h0
  · unfold out1_3; rw [View.canon_unit_zero (by decide +kernel)]; exact h1
  · unfold out1_4; rw [View.canon_unit_zero (by decide +kernel)]; exact h2
  · unfold out1_5; rw [View.canon_unit_zero (by decide +kernel)]; exact h3

/-- Its totals, as sums of its four products over the rows. -/
theorem sums1 (v2 v21 v25 v29 v38) (v0 v5 v16) (l : Fin 256) :
    k1_pay2 (F := Ideal) v2 v21 v25 v29 v38 (ix2 0 l) = tot3 (v21 (ix2 0 l)) (fun r => v29 (ix2 r l)) (fun r => k1_pay1 v2 v38 (ix2 r l))
    ∧ k1_pay2 (F := Ideal) v2 v21 v25 v29 v38 (ix2 1 l) = sq3 (v25 (ix2 0 l)) (fun r => v29 (ix2 r l)) (fun r => k1_pay1 v2 v38 (ix2 r l))
    ∧ k1_pay6 (F := Ideal) v0 v5 v16 (ix2 0 l)
      = tot2 (fun r => k1_pay4 v0 v5 (ix2 r l)) (fun r => k1_pay5 v0 v16 (ix2 r l))
    ∧ k1_pay7 (F := Ideal) v0 v5 v16 (ix2 0 l)
      = sq2 (fun r => k1_pay4 v0 v5 (ix2 r l)) (fun r => k1_pay5 v0 v16 (ix2 r l)) := by
  unfold tot3 sq3 tot2 sq2 k1_pay2 k1_pay6 k1_pay7
  generalize k1_pay1 v2 v38 = Q
  generalize k1_pay4 v0 v5 = A
  generalize k1_pay5 v0 v16 = B
  refine ⟨?_, ?_, ?_, ?_⟩ <;> pointwise

/-- The totals it writes. -/
theorem stat1 {x0 : Vec Ideal S128x256 .f32} {x1} {X W : A5} (H : TIn 1 256 128 x0 x1 X W) (l : Fin 256) :
    out1_6 x0 x1 (ix2 0 l) = ((ttot 1 256 128 (fun x => x) X W l : ℝ) : EReal)
    ∧ out1_6 x0 x1 (ix2 1 l) = ((ttot 1 256 128 (fun x => x * x) X W l : ℝ) : EReal) := by
  have h := fun r => prods1 H r l
  have e := sums1 (k1_pay3 (View.ld x0 r1_0)) (k1_pay6 (View.ld x0 r1_0) (View.ld x1 r1_1) (View.ld x1 r1_2))
    (k1_pay7 (View.ld x0 r1_0) (View.ld x1 r1_1) (View.ld x1 r1_2)) (k1_pay8 (View.ld x0 r1_0) (View.ld x1 r1_3)) (View.ld x1 r1_4) (View.ld x0 r1_0) (View.ld x1 r1_1) (View.ld x1 r1_2) l
  have e1 := e.1
  rw [e.2.2.1] at e1
  have e2 := e.2.1
  rw [e.2.2.2] at e2
  unfold out1_6
  rw [View.canon_unit_zero (by decide +kernel)]
  exact ⟨e1.trans (ttot_lin (S := 1) (R := 128) (C := 256) (X := X) (W := W) (l := l) rfl (fun r => (h r).1) (fun r => (h r).2.1)
      (fun r => (h r).2.2.1) fun r => (h r).2.2.2),
    e2.trans (ttot_sq (S := 1) (R := 128) (C := 256) (X := X) (W := W) (l := l) rfl (fun r => (h r).1) (fun r => (h r).2.1)
      (fun r => (h r).2.2.1) fun r => (h r).2.2.2)⟩

/-- Every window of the call is the whole array. -/
theorem index1 : ∀ t : Fin cfg1.N, win1_0.index t = ![0, 0] ∧ win1_1.index t = ![0, 0, 0, 0] ∧ win1_2.index t = ![0, 0]
    ∧ win1_3.index t = ![0, 0] ∧ win1_4.index t = ![0, 0] ∧ win1_5.index t = ![0, 0] ∧ win1_6.index t = ![0, 0] :=
  (by decide +kernel : ∀ t : Fin grid1.N, _)

/-- The blocks the call reads are its two arrays. -/
theorem blocks1 (V) (c : Dev nD) : iblk1 (F := Ideal) V c 0 t1_0 = V c main_v344 ∧ iblk1 (F := Ideal) V c 1 t1_0 = V c main_v345 := by
  constructor <;> blk_ext! [iblk1, index1 t1_0]

/-- The arrays the region leaves. -/
theorem region1 (V) (c : Dev nD) :
    (dat1 (F := Ideal) V c).arrAt 2 cfg1.N = out1_2 (V c main_v344) (V c main_v345)
    ∧ (dat1 (F := Ideal) V c).arrAt 3 cfg1.N = out1_3 (V c main_v344) (V c main_v345)
    ∧ (dat1 (F := Ideal) V c).arrAt 4 cfg1.N = out1_4 (V c main_v344) (V c main_v345)
    ∧ (dat1 (F := Ideal) V c).arrAt 5 cfg1.N = out1_5 (V c main_v344) (V c main_v345)
    ∧ (dat1 (F := Ideal) V c).arrAt 6 cfg1.N = out1_6 (V c main_v344) (V c main_v345) := by
  obtain ⟨e0, e1⟩ := blocks1 V c
  refine ⟨(dat1 V c).arrAt_eq_of_after_last 2 t1_0 (by decide +kernel) _ fun j => ?_,
    (dat1 V c).arrAt_eq_of_after_last 3 t1_0 (by decide +kernel) _ fun j => ?_,
    (dat1 V c).arrAt_eq_of_after_last 4 t1_0 (by decide +kernel) _ fun j => ?_,
    (dat1 V c).arrAt_eq_of_after_last 5 t1_0 (by decide +kernel) _ fun j => ?_,
    (dat1 V c).arrAt_eq_of_after_last 6 t1_0 (by decide +kernel) _ fun j => ?_⟩
  · blk_simp; rw [after1_2, e0, e1]
  · blk_simp; rw [after1_3, e0, e1]
  · blk_simp; rw [after1_4, e0, e1]
  · blk_simp; rw [after1_5, e0, e1]
  · blk_simp; rw [after1_6, e0, e1]

end Cert.KV
end
-- ==== Proof.KT3.lean ====
module

public import proofs.«01_k».proof.Proof.Gen.KernelIdeal.Frame
public import proofs.«01_k».proof.Proof.KTIn
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

/-- The four products of a transposed convolution: its four parts. -/
theorem prods3 {x0 : Vec Ideal S512x256 .f32} {x1} {X W : A5} (H : TIn 2 128 64 x0 x1 X W) (r : Fin 512) (l : Fin 256) :
    k3_pay4 (View.ld x0 r3_0) (View.ld x1 r3_1) (ix2 r l) = ((tpart 2 128 64 X W 0 0 r l : ℝ) : EReal)
    ∧ k3_pay5 (View.ld x0 r3_0) (View.ld x1 r3_2) (ix2 r l) = ((tpart 2 128 64 X W 0 1 r l : ℝ) : EReal)
    ∧ k3_pay8 (View.ld x0 r3_0) (View.ld x1 r3_3) (ix2 r l) = ((tpart 2 128 64 X W 1 0 r l : ℝ) : EReal)
    ∧ k3_pay1 (k3_pay3 (View.ld x0 r3_0)) (View.ld x1 r3_4) (ix2 r l) = ((tpart 2 128 64 X W 1 1 r l : ℝ) : EReal) := by
  refine ⟨?_, ?_, ?_, ?_⟩
  · pointwise [k3_pay4, k3_pay5, k3_pay8, k3_pay1, k3_pay3]
    exact H.part rfl 0 0 r l
  · pointwise [k3_pay4, k3_pay5, k3_pay8, k3_pay1, k3_pay3]
    exact H.part rfl 0 1 r l
  · pointwise [k3_pay4, k3_pay5, k3_pay8, k3_pay1, k3_pay3]
    exact H.part rfl 1 0 r l
  · pointwise [k3_pay4, k3_pay5, k3_pay8, k3_pay1, k3_pay3]
    exact H.part rfl 1 1 r l

/-- The four parts it writes. -/
theorem parts3 {x0 : Vec Ideal S512x256 .f32} {x1} {X W : A5} (H : TIn 2 128 64 x0 x1 X W) (r : Fin 512) (l : Fin 256) :
    out3_2 x0 x1 (ix2 r l) = ((tpart 2 128 64 X W 0 0 r l : ℝ) : EReal)
    ∧ out3_3 x0 x1 (ix2 r l) = ((tpart 2 128 64 X W 0 1 r l : ℝ) : EReal)
    ∧ out3_4 x0 x1 (ix2 r l) = ((tpart 2 128 64 X W 1 0 r l : ℝ) : EReal)
    ∧ out3_5 x0 x1 (ix2 r l) = ((tpart 2 128 64 X W 1 1 r l : ℝ) : EReal) := by
  obtain ⟨h0, h1, h2, h3⟩ := prods3 H r l
  refine ⟨?_, ?_, ?_, ?_⟩
  · unfold out3_2; rw [View.canon_unit_zero (by decide +kernel)]; exact h0
  · unfold out3_3; rw [View.canon_unit_zero (by decide +kernel)]; exact h1
  · unfold out3_4; rw [View.canon_unit_zero (by decide +kernel)]; exact h2
  · unfold out3_5; rw [View.canon_unit_zero (by decide +kernel)]; exact h3

/-- Its totals, as sums of its four products over the rows. -/
theorem sums3 (v2 v21 v25 v29 v38) (v0 v5 v16) (l : Fin 256) :
    k3_pay2 (F := Ideal) v2 v21 v25 v29 v38 (ix2 0 l) = tot3 (v21 (ix2 0 l)) (fun r => v29 (ix2 r l)) (fun r => k3_pay1 v2 v38 (ix2 r l))
    ∧ k3_pay2 (F := Ideal) v2 v21 v25 v29 v38 (ix2 1 l) = sq3 (v25 (ix2 0 l)) (fun r => v29 (ix2 r l)) (fun r => k3_pay1 v2 v38 (ix2 r l))
    ∧ k3_pay6 (F := Ideal) v0 v5 v16 (ix2 0 l)
      = tot2 (fun r => k3_pay4 v0 v5 (ix2 r l)) (fun r => k3_pay5 v0 v16 (ix2 r l))
    ∧ k3_pay7 (F := Ideal) v0 v5 v16 (ix2 0 l)
      = sq2 (fun r => k3_pay4 v0 v5 (ix2 r l)) (fun r => k3_pay5 v0 v16 (ix2 r l)) := by
  unfold tot3 sq3 tot2 sq2 k3_pay2 k3_pay6 k3_pay7
  generalize k3_pay1 v2 v38 = Q
  generalize k3_pay4 v0 v5 = A
  generalize k3_pay5 v0 v16 = B
  refine ⟨?_, ?_, ?_, ?_⟩ <;> pointwise

/-- The totals it writes. -/
theorem stat3 {x0 : Vec Ideal S512x256 .f32} {x1} {X W : A5} (H : TIn 2 128 64 x0 x1 X W) (l : Fin 256) :
    out3_6 x0 x1 (ix2 0 l) = ((ttot 2 128 64 (fun x => x) X W l : ℝ) : EReal)
    ∧ out3_6 x0 x1 (ix2 1 l) = ((ttot 2 128 64 (fun x => x * x) X W l : ℝ) : EReal) := by
  have h := fun r => prods3 H r l
  have e := sums3 (k3_pay3 (View.ld x0 r3_0)) (k3_pay6 (View.ld x0 r3_0) (View.ld x1 r3_1) (View.ld x1 r3_2))
    (k3_pay7 (View.ld x0 r3_0) (View.ld x1 r3_1) (View.ld x1 r3_2)) (k3_pay8 (View.ld x0 r3_0) (View.ld x1 r3_3)) (View.ld x1 r3_4) (View.ld x0 r3_0) (View.ld x1 r3_1) (View.ld x1 r3_2) l
  have e1 := e.1
  rw [e.2.2.1] at e1
  have e2 := e.2.1
  rw [e.2.2.2] at e2
  unfold out3_6
  rw [View.canon_unit_zero (by decide +kernel)]
  exact ⟨e1.trans (ttot_lin (S := 2) (R := 512) (C := 128) (X := X) (W := W) (l := l) rfl (fun r => (h r).1) (fun r => (h r).2.1)
      (fun r => (h r).2.2.1) fun r => (h r).2.2.2),
    e2.trans (ttot_sq (S := 2) (R := 512) (C := 128) (X := X) (W := W) (l := l) rfl (fun r => (h r).1) (fun r => (h r).2.1)
      (fun r => (h r).2.2.1) fun r => (h r).2.2.2)⟩

/-- Every window of the call is the whole array. -/
theorem index3 : ∀ t : Fin cfg3.N, win3_0.index t = ![0, 0] ∧ win3_1.index t = ![0, 0, 0, 0] ∧ win3_2.index t = ![0, 0]
    ∧ win3_3.index t = ![0, 0] ∧ win3_4.index t = ![0, 0] ∧ win3_5.index t = ![0, 0] ∧ win3_6.index t = ![0, 0] :=
  (by decide +kernel : ∀ t : Fin grid3.N, _)

/-- The blocks the call reads are its two arrays. -/
theorem blocks3 (V) (c : Dev nD) : iblk3 (F := Ideal) V c 0 t3_0 = V c main_v356 ∧ iblk3 (F := Ideal) V c 1 t3_0 = V c main_v357 := by
  constructor <;> blk_ext! [iblk3, index3 t3_0]

/-- The arrays the region leaves. -/
theorem region3 (V) (c : Dev nD) :
    (dat3 (F := Ideal) V c).arrAt 2 cfg3.N = out3_2 (V c main_v356) (V c main_v357)
    ∧ (dat3 (F := Ideal) V c).arrAt 3 cfg3.N = out3_3 (V c main_v356) (V c main_v357)
    ∧ (dat3 (F := Ideal) V c).arrAt 4 cfg3.N = out3_4 (V c main_v356) (V c main_v357)
    ∧ (dat3 (F := Ideal) V c).arrAt 5 cfg3.N = out3_5 (V c main_v356) (V c main_v357)
    ∧ (dat3 (F := Ideal) V c).arrAt 6 cfg3.N = out3_6 (V c main_v356) (V c main_v357) := by
  obtain ⟨e0, e1⟩ := blocks3 V c
  refine ⟨(dat3 V c).arrAt_eq_of_after_last 2 t3_0 (by decide +kernel) _ fun j => ?_,
    (dat3 V c).arrAt_eq_of_after_last 3 t3_0 (by decide +kernel) _ fun j => ?_,
    (dat3 V c).arrAt_eq_of_after_last 4 t3_0 (by decide +kernel) _ fun j => ?_,
    (dat3 V c).arrAt_eq_of_after_last 5 t3_0 (by decide +kernel) _ fun j => ?_,
    (dat3 V c).arrAt_eq_of_after_last 6 t3_0 (by decide +kernel) _ fun j => ?_⟩
  · blk_simp; rw [after3_2, e0, e1]
  · blk_simp; rw [after3_3, e0, e1]
  · blk_simp; rw [after3_4, e0, e1]
  · blk_simp; rw [after3_5, e0, e1]
  · blk_simp; rw [after3_6, e0, e1]

end Cert.KV
end
-- ==== Proof.KT5.lean ====
module

public import proofs.«01_k».proof.Proof.Gen.KernelIdeal.Frame
public import proofs.«01_k».proof.Proof.KTIn
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

/-- The four products of a transposed convolution: its four parts. -/
theorem prods5 {x0 : Vec Ideal S2048x256 .f32} {x1} {X W : A5} (H : TIn 4 64 32 x0 x1 X W) (r : Fin 2048) (l : Fin 256) :
    k5_pay4 (View.ld x0 r5_0) (View.ld x1 r5_1) (ix2 r l) = ((tpart 4 64 32 X W 0 0 r l : ℝ) : EReal)
    ∧ k5_pay5 (View.ld x0 r5_0) (View.ld x1 r5_2) (ix2 r l) = ((tpart 4 64 32 X W 0 1 r l : ℝ) : EReal)
    ∧ k5_pay8 (View.ld x0 r5_0) (View.ld x1 r5_3) (ix2 r l) = ((tpart 4 64 32 X W 1 0 r l : ℝ) : EReal)
    ∧ k5_pay1 (k5_pay3 (View.ld x0 r5_0)) (View.ld x1 r5_4) (ix2 r l) = ((tpart 4 64 32 X W 1 1 r l : ℝ) : EReal) := by
  refine ⟨?_, ?_, ?_, ?_⟩
  · pointwise [k5_pay4, k5_pay5, k5_pay8, k5_pay1, k5_pay3]
    exact H.part rfl 0 0 r l
  · pointwise [k5_pay4, k5_pay5, k5_pay8, k5_pay1, k5_pay3]
    exact H.part rfl 0 1 r l
  · pointwise [k5_pay4, k5_pay5, k5_pay8, k5_pay1, k5_pay3]
    exact H.part rfl 1 0 r l
  · pointwise [k5_pay4, k5_pay5, k5_pay8, k5_pay1, k5_pay3]
    exact H.part rfl 1 1 r l

/-- The four parts it writes. -/
theorem parts5 {x0 : Vec Ideal S2048x256 .f32} {x1} {X W : A5} (H : TIn 4 64 32 x0 x1 X W) (r : Fin 2048) (l : Fin 256) :
    out5_2 x0 x1 (ix2 r l) = ((tpart 4 64 32 X W 0 0 r l : ℝ) : EReal)
    ∧ out5_3 x0 x1 (ix2 r l) = ((tpart 4 64 32 X W 0 1 r l : ℝ) : EReal)
    ∧ out5_4 x0 x1 (ix2 r l) = ((tpart 4 64 32 X W 1 0 r l : ℝ) : EReal)
    ∧ out5_5 x0 x1 (ix2 r l) = ((tpart 4 64 32 X W 1 1 r l : ℝ) : EReal) := by
  obtain ⟨h0, h1, h2, h3⟩ := prods5 H r l
  refine ⟨?_, ?_, ?_, ?_⟩
  · unfold out5_2; rw [View.canon_unit_zero (by decide +kernel)]; exact h0
  · unfold out5_3; rw [View.canon_unit_zero (by decide +kernel)]; exact h1
  · unfold out5_4; rw [View.canon_unit_zero (by decide +kernel)]; exact h2
  · unfold out5_5; rw [View.canon_unit_zero (by decide +kernel)]; exact h3

/-- Its totals, as sums of its four products over the rows. -/
theorem sums5 (v2 v21 v25 v29 v38) (v0 v5 v16) (l : Fin 256) :
    k5_pay2 (F := Ideal) v2 v21 v25 v29 v38 (ix2 0 l) = tot3 (v21 (ix2 0 l)) (fun r => v29 (ix2 r l)) (fun r => k5_pay1 v2 v38 (ix2 r l))
    ∧ k5_pay2 (F := Ideal) v2 v21 v25 v29 v38 (ix2 1 l) = sq3 (v25 (ix2 0 l)) (fun r => v29 (ix2 r l)) (fun r => k5_pay1 v2 v38 (ix2 r l))
    ∧ k5_pay6 (F := Ideal) v0 v5 v16 (ix2 0 l)
      = tot2 (fun r => k5_pay4 v0 v5 (ix2 r l)) (fun r => k5_pay5 v0 v16 (ix2 r l))
    ∧ k5_pay7 (F := Ideal) v0 v5 v16 (ix2 0 l)
      = sq2 (fun r => k5_pay4 v0 v5 (ix2 r l)) (fun r => k5_pay5 v0 v16 (ix2 r l)) := by
  unfold tot3 sq3 tot2 sq2 k5_pay2 k5_pay6 k5_pay7
  generalize k5_pay1 v2 v38 = Q
  generalize k5_pay4 v0 v5 = A
  generalize k5_pay5 v0 v16 = B
  refine ⟨?_, ?_, ?_, ?_⟩ <;> pointwise

/-- The totals it writes. -/
theorem stat5 {x0 : Vec Ideal S2048x256 .f32} {x1} {X W : A5} (H : TIn 4 64 32 x0 x1 X W) (l : Fin 256) :
    out5_6 x0 x1 (ix2 0 l) = ((ttot 4 64 32 (fun x => x) X W l : ℝ) : EReal)
    ∧ out5_6 x0 x1 (ix2 1 l) = ((ttot 4 64 32 (fun x => x * x) X W l : ℝ) : EReal) := by
  have h := fun r => prods5 H r l
  have e := sums5 (k5_pay3 (View.ld x0 r5_0)) (k5_pay6 (View.ld x0 r5_0) (View.ld x1 r5_1) (View.ld x1 r5_2))
    (k5_pay7 (View.ld x0 r5_0) (View.ld x1 r5_1) (View.ld x1 r5_2)) (k5_pay8 (View.ld x0 r5_0) (View.ld x1 r5_3)) (View.ld x1 r5_4) (View.ld x0 r5_0) (View.ld x1 r5_1) (View.ld x1 r5_2) l
  have e1 := e.1
  rw [e.2.2.1] at e1
  have e2 := e.2.1
  rw [e.2.2.2] at e2
  unfold out5_6
  rw [View.canon_unit_zero (by decide +kernel)]
  exact ⟨e1.trans (ttot_lin (S := 4) (R := 2048) (C := 64) (X := X) (W := W) (l := l) rfl (fun r => (h r).1) (fun r => (h r).2.1)
      (fun r => (h r).2.2.1) fun r => (h r).2.2.2),
    e2.trans (ttot_sq (S := 4) (R := 2048) (C := 64) (X := X) (W := W) (l := l) rfl (fun r => (h r).1) (fun r => (h r).2.1)
      (fun r => (h r).2.2.1) fun r => (h r).2.2.2)⟩

/-- Every window of the call is the whole array. -/
theorem index5 : ∀ t : Fin cfg5.N, win5_0.index t = ![0, 0] ∧ win5_1.index t = ![0, 0, 0, 0] ∧ win5_2.index t = ![0, 0]
    ∧ win5_3.index t = ![0, 0] ∧ win5_4.index t = ![0, 0] ∧ win5_5.index t = ![0, 0] ∧ win5_6.index t = ![0, 0] :=
  (by decide +kernel : ∀ t : Fin grid5.N, _)

/-- The blocks the call reads are its two arrays. -/
theorem blocks5 (V) (c : Dev nD) : iblk5 (F := Ideal) V c 0 t5_0 = V c main_v368 ∧ iblk5 (F := Ideal) V c 1 t5_0 = V c main_v369 := by
  constructor <;> blk_ext! [iblk5, index5 t5_0]

/-- The arrays the region leaves. -/
theorem region5 (V) (c : Dev nD) :
    (dat5 (F := Ideal) V c).arrAt 2 cfg5.N = out5_2 (V c main_v368) (V c main_v369)
    ∧ (dat5 (F := Ideal) V c).arrAt 3 cfg5.N = out5_3 (V c main_v368) (V c main_v369)
    ∧ (dat5 (F := Ideal) V c).arrAt 4 cfg5.N = out5_4 (V c main_v368) (V c main_v369)
    ∧ (dat5 (F := Ideal) V c).arrAt 5 cfg5.N = out5_5 (V c main_v368) (V c main_v369)
    ∧ (dat5 (F := Ideal) V c).arrAt 6 cfg5.N = out5_6 (V c main_v368) (V c main_v369) := by
  obtain ⟨e0, e1⟩ := blocks5 V c
  refine ⟨(dat5 V c).arrAt_eq_of_after_last 2 t5_0 (by decide +kernel) _ fun j => ?_,
    (dat5 V c).arrAt_eq_of_after_last 3 t5_0 (by decide +kernel) _ fun j => ?_,
    (dat5 V c).arrAt_eq_of_after_last 4 t5_0 (by decide +kernel) _ fun j => ?_,
    (dat5 V c).arrAt_eq_of_after_last 5 t5_0 (by decide +kernel) _ fun j => ?_,
    (dat5 V c).arrAt_eq_of_after_last 6 t5_0 (by decide +kernel) _ fun j => ?_⟩
  · blk_simp; rw [after5_2, e0, e1]
  · blk_simp; rw [after5_3, e0, e1]
  · blk_simp; rw [after5_4, e0, e1]
  · blk_simp; rw [after5_5, e0, e1]
  · blk_simp; rw [after5_6, e0, e1]

end Cert.KV
end
-- ==== Proof.KT7.lean ====
module

public import proofs.«01_k».proof.Proof.Gen.KernelIdeal.Frame
public import proofs.«01_k».proof.Proof.KTIn
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

/-- The four products of a transposed convolution: its four parts. -/
theorem prods7 {x0 : Vec Ideal S8192x256 .f32} {x1} {X W : A5} (H : TIn 8 32 16 x0 x1 X W) (r : Fin 8192) (l : Fin 256) :
    k7_pay7 (View.ld x0 r7_0) (View.ld x1 r7_1) (ix2 r l) = ((tpart 8 32 16 X W 0 0 r l : ℝ) : EReal)
    ∧ k7_pay9 (View.ld x0 r7_0) (View.ld x1 r7_2) (ix2 r l) = ((tpart 8 32 16 X W 0 1 r l : ℝ) : EReal)
    ∧ k7_pay1 (k7_pay6 (View.ld x0 r7_0)) (k7_pay13 (View.ld x1 r7_3)) (constant S8192x256 .f32 0x00000000#32) (ix2 r l) = ((tpart 8 32 16 X W 1 0 r l : ℝ) : EReal)
    ∧ k7_pay3 (k7_pay6 (View.ld x0 r7_0)) (View.ld x1 r7_4) (ix2 r l) = ((tpart 8 32 16 X W 1 1 r l : ℝ) : EReal) := by
  refine ⟨?_, ?_, ?_, ?_⟩
  · pointwise [k7_pay7, k7_pay9, k7_pay1, k7_pay3, k7_pay6, k7_pay13]
    exact H.part rfl 0 0 r l
  · pointwise [k7_pay7, k7_pay9, k7_pay1, k7_pay3, k7_pay6, k7_pay13]
    exact H.part rfl 0 1 r l
  · pointwise [k7_pay7, k7_pay9, k7_pay1, k7_pay3, k7_pay6, k7_pay13]
    exact H.part rfl 1 0 r l
  · pointwise [k7_pay7, k7_pay9, k7_pay1, k7_pay3, k7_pay6, k7_pay13]
    exact H.part rfl 1 1 r l

/-- The four parts it writes. -/
theorem parts7 {x0 : Vec Ideal S8192x256 .f32} {x1} {X W : A5} (H : TIn 8 32 16 x0 x1 X W) (r : Fin 8192) (l : Fin 256) :
    out7_2 x0 x1 (ix2 r l) = ((tpart 8 32 16 X W 0 0 r l : ℝ) : EReal)
    ∧ out7_3 x0 x1 (ix2 r l) = ((tpart 8 32 16 X W 0 1 r l : ℝ) : EReal)
    ∧ out7_4 x0 x1 (ix2 r l) = ((tpart 8 32 16 X W 1 0 r l : ℝ) : EReal)
    ∧ out7_5 x0 x1 (ix2 r l) = ((tpart 8 32 16 X W 1 1 r l : ℝ) : EReal) := by
  obtain ⟨h0, h1, h2, h3⟩ := prods7 H r l
  refine ⟨?_, ?_, ?_, ?_⟩
  · unfold out7_2; rw [View.canon_unit_zero (by decide +kernel)]; exact h0
  · unfold out7_3; rw [View.canon_unit_zero (by decide +kernel)]; exact h1
  · unfold out7_4; rw [View.canon_unit_zero (by decide +kernel)]; exact h2
  · unfold out7_5; rw [View.canon_unit_zero (by decide +kernel)]; exact h3

/-- Its totals, as sums of its four products over the rows. -/
theorem sums7 (v2 v21 v25 v30 w v38) (v0 v5 v16) (l : Fin 256) :
    k7_pay5 (F := Ideal) v2 v21 v25 v30 w v38 (ix2 0 l) = tot3 (v21 (ix2 0 l)) (fun r => k7_pay1 v2 v30 w (ix2 r l)) (fun r => k7_pay3 v2 v38 (ix2 r l))
    ∧ k7_pay5 (F := Ideal) v2 v21 v25 v30 w v38 (ix2 1 l) = sq3 (v25 (ix2 0 l)) (fun r => k7_pay1 v2 v30 w (ix2 r l)) (fun r => k7_pay3 v2 v38 (ix2 r l))
    ∧ k7_pay10 (F := Ideal) v0 v5 v16 (ix2 0 l)
      = tot2 (fun r => k7_pay7 v0 v5 (ix2 r l)) (fun r => k7_pay9 v0 v16 (ix2 r l))
    ∧ k7_pay11 (F := Ideal) v0 v5 v16 (ix2 0 l)
      = sq2 (fun r => k7_pay7 v0 v5 (ix2 r l)) (fun r => k7_pay9 v0 v16 (ix2 r l)) := by
  unfold tot3 sq3 tot2 sq2 k7_pay5 k7_pay10 k7_pay11
  generalize k7_pay3 v2 v38 = Q
  generalize k7_pay7 v0 v5 = A
  generalize k7_pay9 v0 v16 = B
  generalize k7_pay1 v2 v30 w = P
  refine ⟨?_, ?_, ?_, ?_⟩ <;> pointwise

/-- The totals it writes. -/
theorem stat7 {x0 : Vec Ideal S8192x256 .f32} {x1} {X W : A5} (H : TIn 8 32 16 x0 x1 X W) (l : Fin 256) :
    out7_6 x0 x1 (ix2 0 l) = ((ttot 8 32 16 (fun x => x) X W l : ℝ) : EReal)
    ∧ out7_6 x0 x1 (ix2 1 l) = ((ttot 8 32 16 (fun x => x * x) X W l : ℝ) : EReal) := by
  have h := fun r => prods7 H r l
  have e := sums7 (k7_pay6 (View.ld x0 r7_0)) (k7_pay10 (View.ld x0 r7_0) (View.ld x1 r7_1) (View.ld x1 r7_2))
    (k7_pay11 (View.ld x0 r7_0) (View.ld x1 r7_1) (View.ld x1 r7_2)) (k7_pay13 (View.ld x1 r7_3))
    (constant S8192x256 .f32 0x00000000#32) (View.ld x1 r7_4) (View.ld x0 r7_0) (View.ld x1 r7_1) (View.ld x1 r7_2) l
  have e1 := e.1
  rw [e.2.2.1] at e1
  have e2 := e.2.1
  rw [e.2.2.2] at e2
  unfold out7_6
  rw [View.canon_unit_zero (by decide +kernel)]
  exact ⟨e1.trans (ttot_lin (S := 8) (R := 8192) (C := 32) (X := X) (W := W) (l := l) rfl (fun r => (h r).1) (fun r => (h r).2.1)
      (fun r => (h r).2.2.1) fun r => (h r).2.2.2),
    e2.trans (ttot_sq (S := 8) (R := 8192) (C := 32) (X := X) (W := W) (l := l) rfl (fun r => (h r).1) (fun r => (h r).2.1)
      (fun r => (h r).2.2.1) fun r => (h r).2.2.2)⟩

/-- Every window of the call is the whole array. -/
theorem index7 : ∀ t : Fin cfg7.N, win7_0.index t = ![0, 0] ∧ win7_1.index t = ![0, 0, 0, 0] ∧ win7_2.index t = ![0, 0]
    ∧ win7_3.index t = ![0, 0] ∧ win7_4.index t = ![0, 0] ∧ win7_5.index t = ![0, 0] ∧ win7_6.index t = ![0, 0] :=
  (by decide +kernel : ∀ t : Fin grid7.N, _)

/-- The blocks the call reads are its two arrays. -/
theorem blocks7 (V) (c : Dev nD) : iblk7 (F := Ideal) V c 0 t7_0 = V c main_v380 ∧ iblk7 (F := Ideal) V c 1 t7_0 = V c main_v381 := by
  constructor <;> blk_ext! [iblk7, index7 t7_0]

/-- The arrays the region leaves. -/
theorem region7 (V) (c : Dev nD) :
    (dat7 (F := Ideal) V c).arrAt 2 cfg7.N = out7_2 (V c main_v380) (V c main_v381)
    ∧ (dat7 (F := Ideal) V c).arrAt 3 cfg7.N = out7_3 (V c main_v380) (V c main_v381)
    ∧ (dat7 (F := Ideal) V c).arrAt 4 cfg7.N = out7_4 (V c main_v380) (V c main_v381)
    ∧ (dat7 (F := Ideal) V c).arrAt 5 cfg7.N = out7_5 (V c main_v380) (V c main_v381)
    ∧ (dat7 (F := Ideal) V c).arrAt 6 cfg7.N = out7_6 (V c main_v380) (V c main_v381) := by
  obtain ⟨e0, e1⟩ := blocks7 V c
  refine ⟨(dat7 V c).arrAt_eq_of_after_last 2 t7_0 (by decide +kernel) _ fun j => ?_,
    (dat7 V c).arrAt_eq_of_after_last 3 t7_0 (by decide +kernel) _ fun j => ?_,
    (dat7 V c).arrAt_eq_of_after_last 4 t7_0 (by decide +kernel) _ fun j => ?_,
    (dat7 V c).arrAt_eq_of_after_last 5 t7_0 (by decide +kernel) _ fun j => ?_,
    (dat7 V c).arrAt_eq_of_after_last 6 t7_0 (by decide +kernel) _ fun j => ?_⟩
  · blk_simp; rw [after7_2, e0, e1]
  · blk_simp; rw [after7_3, e0, e1]
  · blk_simp; rw [after7_4, e0, e1]
  · blk_simp; rw [after7_5, e0, e1]
  · blk_simp; rw [after7_6, e0, e1]

end Cert.KV
end
-- ==== Proof.KConvIn.lean ====
module

public import proofs.«01_k».proof.Proof.Gen.KernelIdeal.Frame
public import proofs.«01_k».proof.Proof.Reals
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals
/-- What a convolution region is given: its activation in rows and lanes, the per-lane totals of that activation,
    the band matrices of its weights, and the 0-1 matrix of equal channels. -/
structure ConvIn {R : ℕ} (S C : ℕ) (x0 : (⟨2, ![R, 256]⟩ : Shape).Idx → EReal) (x1 : Vec Ideal S2x256 .f32)
    (x2 : Vec Ideal S3x3x256x256 .bf16) (x3 : Vec Ideal S256x256 .f32) (X W : A5) : Prop where
  rows : ∀ (r : Fin R) (k : Fin 256), x0 (ix2 r k) = ((rl S C X r k : ℝ) : EReal)
  stat : ∃ s q : ℕ → ℝ, (∀ k : Fin 256, x1 (ix2 0 k) = (s k : EReal)) ∧ (∀ k : Fin 256, x1 (ix2 1 k) = (q k : EReal))
    ∧ Carries 256 C s (fun o => sum4 S fun b d h w => X b o d h w)
    ∧ Carries 256 C q (fun o => sum4 S fun b d h w => X b o d h w * X b o d h w)
  mats : ∀ (a e : Fin 3) (k l : Fin 256), x2 (ix4 a e k l) = ((band C W a e k l : ℝ) : EReal)
  chan : ∀ k l : Fin 256, x3 (ix2 k l) = (((if (k : ℕ) % C = l % C then 1 else 0 : ℝ)) : EReal)

end Cert.KV
end
-- ==== Proof.KConv2.lean ====
module

public import proofs.«01_k».proof.Proof.Gen.KernelIdeal.Frame
public import proofs.«01_k».proof.Proof.KConvIn
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals
set_option maxHeartbeats 4000000 in
/-- The normalised, rectified input of the convolution, by rows and lanes. -/
theorem y2 {x0 x1 x2 x3} {X W : A5} (H : ConvIn 2 128 x0 x1 x2 x3 X W) (r : Fin 512) (k : Fin 256) :
    k2_pay31 x0 x1 x2 x3 (ix2 r k) = ((rl 2 128 (bnl 2 X) r k : ℝ) : EReal) := by
  obtain ⟨s, q, hs, hq, cs, cq⟩ := H.stat
  unfold k2_pay31
  pointwise [k2_pay1]
  rw [carries_coe cs _ _ hs fun x => H.chan x k, carries_coe cq _ _ hq fun x => H.chan x k, H.rows, lit_cnt2, lit_eps, lit_slope,
    bnK (by norm_num) X (k % 128) _ rfl rfl, lrelu_coe]
  rfl

/-- The depth coordinate that the body computes for a row. -/
theorem d2 (x0 x1 x2 x3) (r : Fin 512) :
    k2_pay32 (F := Ideal) x0 x1 x2 x3 (ix2 r 0) = BitVec.ofNat 32 (r / 128 / 2) := by
  unfold k2_pay32 k2_pay30
  pointwise [k2_pay4, k2_pay2, k2_pay3]
  rw [fdiv_word (by omega) (by norm_num) (by norm_num), Nat.div_div_eq_div_mul]

/-- The height coordinate that the body computes for a row. -/
theorem h2 (x0 x1 x2 x3) (r : Fin 512) :
    k2_pay36 (F := Ideal) x0 x1 x2 x3 (ix2 r 0) = BitVec.ofNat 32 (r / 128 % 2) := by
  unfold k2_pay36 k2_pay35 k2_pay34 k2_pay33 k2_pay30
  pointwise [k2_pay8, k2_pay7, k2_pay6, k2_pay5]
  rw [guard_word (by norm_num) (by norm_num), fdiv_word (by omega) (by norm_num) (by norm_num),
    fmod_word (by omega) (by norm_num) (by norm_num)]

set_option maxHeartbeats 4000000 in
/-- From the summed taps: the normalised, rectified output. -/
theorem tail2 (v308 : FVec Ideal S512x256 .f32) (v311) (v325 v327) (v335) (km : Vec Ideal S256x256 .f32) (Z : A5)
    (hacc : ∀ (r : Fin 512) (l : Fin 256), v308 (ix2 r l) +
      ∑ x : Fin 256, Scalar.select (IntOp.andi (v325 (ix2 r 0)) (IntOp.cmpi .slt (v327 (ix2 r 0)) 2#32))
        (v311 (ix2 r x) * v335 (ix4 0 0 x l)) 0 = ((rl 2 128 Z r l : ℝ) : EReal))
    (hkm : ∀ k l : Fin 256, km (ix2 k l) = (((if (k : ℕ) % 128 = l % 128 then 1 else 0 : ℝ)) : EReal)) (r : Fin 512) (l : Fin 256) :
   k2_pay29 v308 v311 v325 v327 v335 km (ix2 r l) = ((rl 2 128 (bnl 2 Z) r l : ℝ) : EReal) := by
  pointwise [k2_pay29]
  simp only [hacc]
  rw [colsum_coe (S := 2) (R := 512) Z (fun x => km (ix2 x l)) (by norm_num) rfl rfl fun x => hkm x l,
    colsq_coe (S := 2) (R := 512) Z (fun x => km (ix2 x l)) (by norm_num) rfl rfl fun x => hkm x l, lit_cnt2, lit_eps, lit_slope,
    bnK (by norm_num) Z (l % 128) _ rfl rfl, lrelu_coe]
  rfl
set_option maxHeartbeats 4000000 in
/-- The nine accumulated taps are the whole sum over taps. -/
theorem acc2 (y : FVec Ideal S512x256 .bf16) (d h : IVec S512x1 32) (acc)
    (x2 : Vec Ideal S3x3x256x256 .bf16) {Y : ℕ → ℕ → ℝ} {M : ℕ → ℕ → ℕ → ℕ → ℝ}
    (hy : ∀ (r : Fin 512) (k : Fin 256), y (ix2 r k) = (Y r k : EReal))
    (hd : ∀ r : Fin 512, d (ix2 r 0) = BitVec.ofNat 32 (r / 128 / 2))
    (hh : ∀ r : Fin 512, h (ix2 r 0) = BitVec.ofNat 32 (r / 128 % 2))
    (hM : ∀ (a e : Fin 3) (k l : Fin 256), x2 (ix4 a e k l) = (M a e k l : EReal))
    (hacc : ∀ (r : Fin 512) (l : Fin 256), acc (ix2 r l) = ((tap 2 256 Y (M 0 0) 0 0 r l : ℝ) : EReal)) (r : Fin 512) (l : Fin 256) :
    (k2_pay25 d h (k2_pay21 y d h (k2_pay18 y (k2_pay16 h (k2_pay12 d h acc
      (k2_pay10 y) k2_pay11 (View.ld x2 r2_4)) (k2_pay13 y) (k2_pay14 d) (k2_pay15 h) 0#32 (View.ld x2 r2_5)) (k2_pay17 y d h)
      (View.ld x2 r2_6) (View.ld x2 r2_7)) (k2_pay19 y d h) (k2_pay20 (View.ld x2 r2_8)) (View.ld x2 r2_9))
      (k2_pay22 y) (k2_pay23 d) k2_pay24 (View.ld x2 r2_10)) (ix2 r l)
    + ∑ x : Fin 256, Scalar.select (IntOp.andi (k2_pay27 d h (ix2 r 0)) (IntOp.cmpi .slt (k2_pay28 h (ix2 r 0)) 2#32))
        (k2_pay26 y (ix2 r x) * View.ld x2 r2_11 (ix4 0 0 x l)) 0 = ((taps 2 256 Y M r l : ℝ) : EReal) := by
  pointwise [k2_pay25, k2_pay21, k2_pay18, k2_pay16, k2_pay12, k2_pay10, k2_pay11, k2_pay13, k2_pay14, k2_pay15, k2_pay17,
    k2_pay19, k2_pay20, k2_pay22, k2_pay23, k2_pay24, k2_pay26, k2_pay27, k2_pay28]
  rw [taps_sum]
  repeat' refine congrArg₂ (· + ·) ?_ ?_
  · exact hacc r l
  all_goals first
    | refine tap_val (mask_sel' (hd r) (hh r) rfl rfl (by omega) (by omega) (by omega) (by omega) (by omega) (by omega)) fun hc k => ?_
      first | rw [dif_neg (by omega), hy, hM, ← EReal.coe_mul] | rw [dif_pos (by omega), hy, hM, ← EReal.coe_mul]
      refine congrArg (fun n : ℕ => ((Y n k * _ : ℝ) : EReal)) ?_
      show _ = _
      dsimp only
      omega
    | refine tap_mid (by omega) (by omega) fun k => ?_
      rw [hy, hM, ← EReal.coe_mul]; rfl

set_option maxHeartbeats 4000000 in
/-- The first tap, masked at the border. -/
theorem first2 (y : FVec Ideal S512x256 .bf16) (d h : IVec S512x1 32) (c : BitVec 32) (v81 : IVec S512x1 32) (v83 v85 : IVec S512x1 1) (v86)
    (h0 : k2_pay8 c v81 v83 v85 v86 = h) (w : Vec Ideal S1x1x256x256 .bf16) {Y : ℕ → ℕ → ℝ} {M : ℕ → ℕ → ℝ}
    (hy : ∀ (r : Fin 512) (k : Fin 256), y (ix2 r k) = (Y r k : EReal))
    (hd : ∀ r : Fin 512, d (ix2 r 0) = BitVec.ofNat 32 (r / 128 / 2))
    (hh : ∀ r : Fin 512, h (ix2 r 0) = BitVec.ofNat 32 (r / 128 % 2))
    (hw : ∀ (k l : Fin 256), w (ix4 0 0 k l) = (M k l : EReal)) (r : Fin 512) (l : Fin 256) :
    k2_pay9 y d c v81 v83 v85 v86 w (ix2 r l) = ((tap 2 256 Y M 0 0 r l : ℝ) : EReal) := by
  simp only [k2_pay9, h0]
  rw [show ∀ (a b : FVec Ideal S512x256 .f32) i, addf a b i = a i + b i from fun _ _ _ => rfl]
  pointwise
  refine tap_val (mask_sel' (hd r) (hh r) rfl rfl (by omega) (by omega) (by omega) (by omega) (by omega) (by omega)) fun hc k => ?_
  rw [dif_neg (by omega), hy, hw, ← EReal.coe_mul]
  congr 3

set_option maxHeartbeats 4000000 in
/-- The block that the body writes is the normalised, rectified convolution of the normalised input. -/
theorem conv2 {x0 x1 x2 x3} {X W : A5} (H : ConvIn 2 128 x0 x1 x2 x3 X W) (r : Fin 512) (l : Fin 256) :
    out2_4 x0 x1 x2 x3 (ix2 r l) = ((rl 2 128 (bnl 2 (cv 128 2 (bnl 2 X) W)) r l : ℝ) : EReal) := by
  unfold out2_4
  rw [View.canon_unit_zero (by decide +kernel)]
  refine tail2 _ _ _ _ _ _ _ (fun r l => ?_) (fun k l => ?_) r l
  · rw [acc2 _ _ _ _ x2 (y2 H) (d2 x0 x1 x2 x3) (h2 x0 x1 x2 x3) H.mats
      (first2 _ _ _ _ _ _ _ _ rfl _ (y2 H) (d2 x0 x1 x2 x3) (h2 x0 x1 x2 x3) fun k l => ?_) r l,
      show taps 2 256 (rl 2 128 (bnl 2 X)) (band 128 W) r l = _ from taps_eq (S := 2) (C := 128) _ _ (by norm_num) (by omega)]
    pointwise; exact H.mats 0 0 k l
  · rw [View.ld_unit_zero (by decide +kernel)]; exact H.chan k l

/-- Every window of the call is the whole array. -/
theorem index2 : ∀ t : Fin cfg2.N, win2_0.index t = ![0, 0] ∧ win2_1.index t = ![0, 0] ∧ win2_2.index t = ![0, 0, 0, 0]
    ∧ win2_3.index t = ![0, 0] ∧ win2_4.index t = ![0, 0] :=
  (by decide +kernel : ∀ t : Fin grid2.N, _)

/-- The array the call leaves, from the arrays it was given. -/
theorem region2 (V) (c : Dev nD) : (dat2 (F := Ideal) V c).arrAt 4 cfg2.N
    = out2_4 (V c main_v354) (V c main_v346_4) (V c main_v355) (V c main_v289) := by
  have e0 : iblk2 (F := Ideal) V c 0 t2_0 = V c main_v354 := by blk_ext! [iblk2, index2 t2_0]
  have e1 : iblk2 (F := Ideal) V c 1 t2_0 = V c main_v346_4 := by blk_ext! [iblk2, index2 t2_0]
  have e2 : iblk2 (F := Ideal) V c 2 t2_0 = V c main_v355 := by blk_ext! [iblk2, index2 t2_0]
  have e3 : iblk2 (F := Ideal) V c 3 t2_0 = V c main_v289 := by blk_ext! [iblk2, index2 t2_0]
  refine (dat2 V c).arrAt_eq_of_after_last 4 t2_0 (by decide +kernel) _ fun j => ?_
  blk_simp
  rw [after2_4, e0, e1, e2, e3]

end Cert.KV
end
-- ==== Proof.KConv4.lean ====
module

public import proofs.«01_k».proof.Proof.Gen.KernelIdeal.Frame
public import proofs.«01_k».proof.Proof.KConvIn
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals
set_option maxHeartbeats 4000000 in
/-- The normalised, rectified input of the convolution, by rows and lanes. -/
theorem y4 {x0 x1 x2 x3} {X W : A5} (H : ConvIn 4 64 x0 x1 x2 x3 X W) (r : Fin 2048) (k : Fin 256) :
    k4_pay31 x0 x1 x2 x3 (ix2 r k) = ((rl 4 64 (bnl 4 X) r k : ℝ) : EReal) := by
  obtain ⟨s, q, hs, hq, cs, cq⟩ := H.stat
  unfold k4_pay31
  pointwise [k4_pay1]
  rw [carries_coe cs _ _ hs fun x => H.chan x k, carries_coe cq _ _ hq fun x => H.chan x k, H.rows, lit_cnt4, lit_eps, lit_slope,
    bnK (by norm_num) X (k % 64) _ rfl rfl, lrelu_coe]
  rfl

/-- The depth coordinate that the body computes for a row. -/
theorem d4 (x0 x1 x2 x3) (r : Fin 2048) :
    k4_pay32 (F := Ideal) x0 x1 x2 x3 (ix2 r 0) = BitVec.ofNat 32 (r / 128 / 4) := by
  unfold k4_pay32 k4_pay30
  pointwise [k4_pay4, k4_pay2, k4_pay3]
  rw [fdiv_word (by omega) (by norm_num) (by norm_num), Nat.div_div_eq_div_mul]

/-- The height coordinate that the body computes for a row. -/
theorem h4 (x0 x1 x2 x3) (r : Fin 2048) :
    k4_pay36 (F := Ideal) x0 x1 x2 x3 (ix2 r 0) = BitVec.ofNat 32 (r / 128 % 4) := by
  unfold k4_pay36 k4_pay35 k4_pay34 k4_pay33 k4_pay30
  pointwise [k4_pay8, k4_pay7, k4_pay6, k4_pay5]
  rw [guard_word (by norm_num) (by norm_num), fdiv_word (by omega) (by norm_num) (by norm_num),
    fmod_word (by omega) (by norm_num) (by norm_num)]

set_option maxHeartbeats 4000000 in
/-- From the summed taps: the normalised, rectified output. -/
theorem tail4 (v308 : FVec Ideal S2048x256 .f32) (v311) (v325 v327) (v335) (km : Vec Ideal S256x256 .f32) (Z : A5)
    (hacc : ∀ (r : Fin 2048) (l : Fin 256), v308 (ix2 r l) +
      ∑ x : Fin 256, Scalar.select (IntOp.andi (v325 (ix2 r 0)) (IntOp.cmpi .slt (v327 (ix2 r 0)) 4#32))
        (v311 (ix2 r x) * v335 (ix4 0 0 x l)) 0 = ((rl 4 64 Z r l : ℝ) : EReal))
    (hkm : ∀ k l : Fin 256, km (ix2 k l) = (((if (k : ℕ) % 64 = l % 64 then 1 else 0 : ℝ)) : EReal)) (r : Fin 2048) (l : Fin 256) :
   k4_pay29 v308 v311 v325 v327 v335 km (ix2 r l) = ((rl 4 64 (bnl 4 Z) r l : ℝ) : EReal) := by
  pointwise [k4_pay29]
  simp only [hacc]
  rw [colsum_coe (S := 4) (R := 2048) Z (fun x => km (ix2 x l)) (by norm_num) rfl rfl fun x => hkm x l,
    colsq_coe (S := 4) (R := 2048) Z (fun x => km (ix2 x l)) (by norm_num) rfl rfl fun x => hkm x l, lit_cnt4, lit_eps, lit_slope,
    bnK (by norm_num) Z (l % 64) _ rfl rfl, lrelu_coe]
  rfl
set_option maxHeartbeats 4000000 in
/-- The nine accumulated taps are the whole sum over taps. -/
theorem acc4 (y : FVec Ideal S2048x256 .bf16) (d h : IVec S2048x1 32) (acc)
    (x2 : Vec Ideal S3x3x256x256 .bf16) {Y : ℕ → ℕ → ℝ} {M : ℕ → ℕ → ℕ → ℕ → ℝ}
    (hy : ∀ (r : Fin 2048) (k : Fin 256), y (ix2 r k) = (Y r k : EReal))
    (hd : ∀ r : Fin 2048, d (ix2 r 0) = BitVec.ofNat 32 (r / 128 / 4))
    (hh : ∀ r : Fin 2048, h (ix2 r 0) = BitVec.ofNat 32 (r / 128 % 4))
    (hM : ∀ (a e : Fin 3) (k l : Fin 256), x2 (ix4 a e k l) = (M a e k l : EReal))
    (hacc : ∀ (r : Fin 2048) (l : Fin 256), acc (ix2 r l) = ((tap 4 256 Y (M 0 0) 0 0 r l : ℝ) : EReal)) (r : Fin 2048) (l : Fin 256) :
    (k4_pay25 d h (k4_pay21 y d h (k4_pay18 y (k4_pay16 h (k4_pay12 d h acc
      (k4_pay10 y) k4_pay11 (View.ld x2 r4_4)) (k4_pay13 y) (k4_pay14 d) (k4_pay15 h) 0#32 (View.ld x2 r4_5)) (k4_pay17 y d h)
      (View.ld x2 r4_6) (View.ld x2 r4_7)) (k4_pay19 y d h) (k4_pay20 (View.ld x2 r4_8)) (View.ld x2 r4_9))
      (k4_pay22 y) (k4_pay23 d) k4_pay24 (View.ld x2 r4_10)) (ix2 r l)
    + ∑ x : Fin 256, Scalar.select (IntOp.andi (k4_pay27 d h (ix2 r 0)) (IntOp.cmpi .slt (k4_pay28 h (ix2 r 0)) 4#32))
        (k4_pay26 y (ix2 r x) * View.ld x2 r4_11 (ix4 0 0 x l)) 0 = ((taps 4 256 Y M r l : ℝ) : EReal) := by
  pointwise [k4_pay25, k4_pay21, k4_pay18, k4_pay16, k4_pay12, k4_pay10, k4_pay11, k4_pay13, k4_pay14, k4_pay15, k4_pay17,
    k4_pay19, k4_pay20, k4_pay22, k4_pay23, k4_pay24, k4_pay26, k4_pay27, k4_pay28]
  rw [taps_sum]
  repeat' refine congrArg₂ (· + ·) ?_ ?_
  · exact hacc r l
  all_goals first
    | refine tap_val (mask_sel' (hd r) (hh r) rfl rfl (by omega) (by omega) (by omega) (by omega) (by omega) (by omega)) fun hc k => ?_
      first | rw [dif_neg (by omega), hy, hM, ← EReal.coe_mul] | rw [dif_pos (by omega), hy, hM, ← EReal.coe_mul]
      refine congrArg (fun n : ℕ => ((Y n k * _ : ℝ) : EReal)) ?_
      show _ = _
      dsimp only
      omega
    | refine tap_mid (by omega) (by omega) fun k => ?_
      rw [hy, hM, ← EReal.coe_mul]; rfl

set_option maxHeartbeats 4000000 in
/-- The first tap, masked at the border. -/
theorem first4 (y : FVec Ideal S2048x256 .bf16) (d h : IVec S2048x1 32) (c : BitVec 32) (v81 : IVec S2048x1 32) (v83 v85 : IVec S2048x1 1) (v86)
    (h0 : k4_pay8 c v81 v83 v85 v86 = h) (w : Vec Ideal S1x1x256x256 .bf16) {Y : ℕ → ℕ → ℝ} {M : ℕ → ℕ → ℝ}
    (hy : ∀ (r : Fin 2048) (k : Fin 256), y (ix2 r k) = (Y r k : EReal))
    (hd : ∀ r : Fin 2048, d (ix2 r 0) = BitVec.ofNat 32 (r / 128 / 4))
    (hh : ∀ r : Fin 2048, h (ix2 r 0) = BitVec.ofNat 32 (r / 128 % 4))
    (hw : ∀ (k l : Fin 256), w (ix4 0 0 k l) = (M k l : EReal)) (r : Fin 2048) (l : Fin 256) :
    k4_pay9 y d c v81 v83 v85 v86 w (ix2 r l) = ((tap 4 256 Y M 0 0 r l : ℝ) : EReal) := by
  simp only [k4_pay9, h0]
  rw [show ∀ (a b : FVec Ideal S2048x256 .f32) i, addf a b i = a i + b i from fun _ _ _ => rfl]
  pointwise
  refine tap_val (mask_sel' (hd r) (hh r) rfl rfl (by omega) (by omega) (by omega) (by omega) (by omega) (by omega)) fun hc k => ?_
  rw [dif_neg (by omega), hy, hw, ← EReal.coe_mul]
  congr 3

set_option maxHeartbeats 4000000 in
/-- The block that the body writes is the normalised, rectified convolution of the normalised input. -/
theorem conv4 {x0 x1 x2 x3} {X W : A5} (H : ConvIn 4 64 x0 x1 x2 x3 X W) (r : Fin 2048) (l : Fin 256) :
    out4_4 x0 x1 x2 x3 (ix2 r l) = ((rl 4 64 (bnl 4 (cv 64 4 (bnl 4 X) W)) r l : ℝ) : EReal) := by
  unfold out4_4
  rw [View.canon_unit_zero (by decide +kernel)]
  refine tail4 _ _ _ _ _ _ _ (fun r l => ?_) (fun k l => ?_) r l
  · rw [acc4 _ _ _ _ x2 (y4 H) (d4 x0 x1 x2 x3) (h4 x0 x1 x2 x3) H.mats
      (first4 _ _ _ _ _ _ _ _ rfl _ (y4 H) (d4 x0 x1 x2 x3) (h4 x0 x1 x2 x3) fun k l => ?_) r l,
      show taps 4 256 (rl 4 64 (bnl 4 X)) (band 64 W) r l = _ from taps_eq (S := 4) (C := 64) _ _ (by norm_num) (by omega)]
    pointwise; exact H.mats 0 0 k l
  · rw [View.ld_unit_zero (by decide +kernel)]; exact H.chan k l

/-- Every window of the call is the whole array. -/
theorem index4 : ∀ t : Fin cfg4.N, win4_0.index t = ![0, 0] ∧ win4_1.index t = ![0, 0] ∧ win4_2.index t = ![0, 0, 0, 0]
    ∧ win4_3.index t = ![0, 0] ∧ win4_4.index t = ![0, 0] :=
  (by decide +kernel : ∀ t : Fin grid4.N, _)

/-- The array the call leaves, from the arrays it was given. -/
theorem region4 (V) (c : Dev nD) : (dat4 (F := Ideal) V c).arrAt 4 cfg4.N
    = out4_4 (V c main_v366) (V c main_v358_4) (V c main_v367) (V c main_v302) := by
  have e0 : iblk4 (F := Ideal) V c 0 t4_0 = V c main_v366 := by blk_ext! [iblk4, index4 t4_0]
  have e1 : iblk4 (F := Ideal) V c 1 t4_0 = V c main_v358_4 := by blk_ext! [iblk4, index4 t4_0]
  have e2 : iblk4 (F := Ideal) V c 2 t4_0 = V c main_v367 := by blk_ext! [iblk4, index4 t4_0]
  have e3 : iblk4 (F := Ideal) V c 3 t4_0 = V c main_v302 := by blk_ext! [iblk4, index4 t4_0]
  refine (dat4 V c).arrAt_eq_of_after_last 4 t4_0 (by decide +kernel) _ fun j => ?_
  blk_simp
  rw [after4_4, e0, e1, e2, e3]

end Cert.KV
end
-- ==== Proof.KConv6.lean ====
module

public import proofs.«01_k».proof.Proof.Gen.KernelIdeal.Frame
public import proofs.«01_k».proof.Proof.KConvIn
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals
set_option maxHeartbeats 4000000 in
/-- The normalised, rectified input of the convolution, by rows and lanes. -/
theorem y6 {x0 x1 x2 x3} {X W : A5} (H : ConvIn 8 32 x0 x1 x2 x3 X W) (r : Fin 8192) (k : Fin 256) :
    k6_pay31 x0 x1 x2 x3 (ix2 r k) = ((rl 8 32 (bnl 8 X) r k : ℝ) : EReal) := by
  obtain ⟨s, q, hs, hq, cs, cq⟩ := H.stat
  unfold k6_pay31
  pointwise [k6_pay1]
  rw [carries_coe cs _ _ hs fun x => H.chan x k, carries_coe cq _ _ hq fun x => H.chan x k, H.rows, lit_cnt8, lit_eps, lit_slope,
    bnK (by norm_num) X (k % 32) _ rfl rfl, lrelu_coe]
  rfl

/-- The depth coordinate that the body computes for a row. -/
theorem d6 (x0 x1 x2 x3) (r : Fin 8192) :
    k6_pay32 (F := Ideal) x0 x1 x2 x3 (ix2 r 0) = BitVec.ofNat 32 (r / 128 / 8) := by
  unfold k6_pay32 k6_pay30
  pointwise [k6_pay4, k6_pay2, k6_pay3]
  rw [fdiv_word (by omega) (by norm_num) (by norm_num), Nat.div_div_eq_div_mul]

/-- The height coordinate that the body computes for a row. -/
theorem h6 (x0 x1 x2 x3) (r : Fin 8192) :
    k6_pay36 (F := Ideal) x0 x1 x2 x3 (ix2 r 0) = BitVec.ofNat 32 (r / 128 % 8) := by
  unfold k6_pay36 k6_pay35 k6_pay34 k6_pay33 k6_pay30
  pointwise [k6_pay8, k6_pay7, k6_pay6, k6_pay5]
  rw [guard_word (by norm_num) (by norm_num), fdiv_word (by omega) (by norm_num) (by norm_num),
    fmod_word (by omega) (by norm_num) (by norm_num)]

set_option maxHeartbeats 4000000 in
/-- From the summed taps: the normalised, rectified output. -/
theorem tail6 (v308 : FVec Ideal S8192x256 .f32) (v311) (v325 v327) (v335) (km : Vec Ideal S256x256 .f32) (Z : A5)
    (hacc : ∀ (r : Fin 8192) (l : Fin 256), v308 (ix2 r l) +
      ∑ x : Fin 256, Scalar.select (IntOp.andi (v325 (ix2 r 0)) (IntOp.cmpi .slt (v327 (ix2 r 0)) 8#32))
        (v311 (ix2 r x) * v335 (ix4 0 0 x l)) 0 = ((rl 8 32 Z r l : ℝ) : EReal))
    (hkm : ∀ k l : Fin 256, km (ix2 k l) = (((if (k : ℕ) % 32 = l % 32 then 1 else 0 : ℝ)) : EReal)) (r : Fin 8192) (l : Fin 256) :
   k6_pay29 v308 v311 v325 v327 v335 km (ix2 r l) = ((rl 8 32 (bnl 8 Z) r l : ℝ) : EReal) := by
  pointwise [k6_pay29]
  simp only [hacc]
  rw [colsum_coe (S := 8) (R := 8192) Z (fun x => km (ix2 x l)) (by norm_num) rfl rfl fun x => hkm x l,
    colsq_coe (S := 8) (R := 8192) Z (fun x => km (ix2 x l)) (by norm_num) rfl rfl fun x => hkm x l, lit_cnt8, lit_eps, lit_slope,
    bnK (by norm_num) Z (l % 32) _ rfl rfl, lrelu_coe]
  rfl
set_option maxHeartbeats 4000000 in
/-- The nine accumulated taps are the whole sum over taps. -/
theorem acc6 (y : FVec Ideal S8192x256 .bf16) (d h : IVec S8192x1 32) (acc)
    (x2 : Vec Ideal S3x3x256x256 .bf16) {Y : ℕ → ℕ → ℝ} {M : ℕ → ℕ → ℕ → ℕ → ℝ}
    (hy : ∀ (r : Fin 8192) (k : Fin 256), y (ix2 r k) = (Y r k : EReal))
    (hd : ∀ r : Fin 8192, d (ix2 r 0) = BitVec.ofNat 32 (r / 128 / 8))
    (hh : ∀ r : Fin 8192, h (ix2 r 0) = BitVec.ofNat 32 (r / 128 % 8))
    (hM : ∀ (a e : Fin 3) (k l : Fin 256), x2 (ix4 a e k l) = (M a e k l : EReal))
    (hacc : ∀ (r : Fin 8192) (l : Fin 256), acc (ix2 r l) = ((tap 8 256 Y (M 0 0) 0 0 r l : ℝ) : EReal)) (r : Fin 8192) (l : Fin 256) :
    (k6_pay25 d h (k6_pay21 y d h (k6_pay18 y (k6_pay16 h (k6_pay12 d h acc
      (k6_pay10 y) k6_pay11 (View.ld x2 r6_4)) (k6_pay13 y) (k6_pay14 d) (k6_pay15 h) 0#32 (View.ld x2 r6_5)) (k6_pay17 y d h)
      (View.ld x2 r6_6) (View.ld x2 r6_7)) (k6_pay19 y d h) (k6_pay20 (View.ld x2 r6_8)) (View.ld x2 r6_9))
      (k6_pay22 y) (k6_pay23 d) k6_pay24 (View.ld x2 r6_10)) (ix2 r l)
    + ∑ x : Fin 256, Scalar.select (IntOp.andi (k6_pay27 d h (ix2 r 0)) (IntOp.cmpi .slt (k6_pay28 h (ix2 r 0)) 8#32))
        (k6_pay26 y (ix2 r x) * View.ld x2 r6_11 (ix4 0 0 x l)) 0 = ((taps 8 256 Y M r l : ℝ) : EReal) := by
  pointwise [k6_pay25, k6_pay21, k6_pay18, k6_pay16, k6_pay12, k6_pay10, k6_pay11, k6_pay13, k6_pay14, k6_pay15, k6_pay17,
    k6_pay19, k6_pay20, k6_pay22, k6_pay23, k6_pay24, k6_pay26, k6_pay27, k6_pay28]
  rw [taps_sum]
  repeat' refine congrArg₂ (· + ·) ?_ ?_
  · exact hacc r l
  all_goals first
    | refine tap_val (mask_sel' (hd r) (hh r) rfl rfl (by omega) (by omega) (by omega) (by omega) (by omega) (by omega)) fun hc k => ?_
      first | rw [dif_neg (by omega), hy, hM, ← EReal.coe_mul] | rw [dif_pos (by omega), hy, hM, ← EReal.coe_mul]
      refine congrArg (fun n : ℕ => ((Y n k * _ : ℝ) : EReal)) ?_
      show _ = _
      dsimp only
      omega
    | refine tap_mid (by omega) (by omega) fun k => ?_
      rw [hy, hM, ← EReal.coe_mul]; rfl

set_option maxHeartbeats 4000000 in
/-- The first tap, masked at the border. -/
theorem first6 (y : FVec Ideal S8192x256 .bf16) (d h : IVec S8192x1 32) (c : BitVec 32) (v81 : IVec S8192x1 32) (v83 v85 : IVec S8192x1 1) (v86)
    (h0 : k6_pay8 c v81 v83 v85 v86 = h) (w : Vec Ideal S1x1x256x256 .bf16) {Y : ℕ → ℕ → ℝ} {M : ℕ → ℕ → ℝ}
    (hy : ∀ (r : Fin 8192) (k : Fin 256), y (ix2 r k) = (Y r k : EReal))
    (hd : ∀ r : Fin 8192, d (ix2 r 0) = BitVec.ofNat 32 (r / 128 / 8))
    (hh : ∀ r : Fin 8192, h (ix2 r 0) = BitVec.ofNat 32 (r / 128 % 8))
    (hw : ∀ (k l : Fin 256), w (ix4 0 0 k l) = (M k l : EReal)) (r : Fin 8192) (l : Fin 256) :
    k6_pay9 y d c v81 v83 v85 v86 w (ix2 r l) = ((tap 8 256 Y M 0 0 r l : ℝ) : EReal) := by
  simp only [k6_pay9, h0]
  rw [show ∀ (a b : FVec Ideal S8192x256 .f32) i, addf a b i = a i + b i from fun _ _ _ => rfl]
  pointwise
  refine tap_val (mask_sel' (hd r) (hh r) rfl rfl (by omega) (by omega) (by omega) (by omega) (by omega) (by omega)) fun hc k => ?_
  rw [dif_neg (by omega), hy, hw, ← EReal.coe_mul]
  congr 3

set_option maxHeartbeats 4000000 in
/-- The block that the body writes is the normalised, rectified convolution of the normalised input. -/
theorem conv6 {x0 x1 x2 x3} {X W : A5} (H : ConvIn 8 32 x0 x1 x2 x3 X W) (r : Fin 8192) (l : Fin 256) :
    out6_4 x0 x1 x2 x3 (ix2 r l) = ((rl 8 32 (bnl 8 (cv 32 8 (bnl 8 X) W)) r l : ℝ) : EReal) := by
  unfold out6_4
  rw [View.canon_unit_zero (by decide +kernel)]
  refine tail6 _ _ _ _ _ _ _ (fun r l => ?_) (fun k l => ?_) r l
  · rw [acc6 _ _ _ _ x2 (y6 H) (d6 x0 x1 x2 x3) (h6 x0 x1 x2 x3) H.mats
      (first6 _ _ _ _ _ _ _ _ rfl _ (y6 H) (d6 x0 x1 x2 x3) (h6 x0 x1 x2 x3) fun k l => ?_) r l,
      show taps 8 256 (rl 8 32 (bnl 8 X)) (band 32 W) r l = _ from taps_eq (S := 8) (C := 32) _ _ (by norm_num) (by omega)]
    pointwise; exact H.mats 0 0 k l
  · rw [View.ld_unit_zero (by decide +kernel)]; exact H.chan k l

/-- Every window of the call is the whole array. -/
theorem index6 : ∀ t : Fin cfg6.N, win6_0.index t = ![0, 0] ∧ win6_1.index t = ![0, 0] ∧ win6_2.index t = ![0, 0, 0, 0]
    ∧ win6_3.index t = ![0, 0] ∧ win6_4.index t = ![0, 0] :=
  (by decide +kernel : ∀ t : Fin grid6.N, _)

/-- The array the call leaves, from the arrays it was given. -/
theorem region6 (V) (c : Dev nD) : (dat6 (F := Ideal) V c).arrAt 4 cfg6.N
    = out6_4 (V c main_v378) (V c main_v370_4) (V c main_v379) (V c main_v315) := by
  have e0 : iblk6 (F := Ideal) V c 0 t6_0 = V c main_v378 := by blk_ext! [iblk6, index6 t6_0]
  have e1 : iblk6 (F := Ideal) V c 1 t6_0 = V c main_v370_4 := by blk_ext! [iblk6, index6 t6_0]
  have e2 : iblk6 (F := Ideal) V c 2 t6_0 = V c main_v379 := by blk_ext! [iblk6, index6 t6_0]
  have e3 : iblk6 (F := Ideal) V c 3 t6_0 = V c main_v315 := by blk_ext! [iblk6, index6 t6_0]
  refine (dat6 V c).arrAt_eq_of_after_last 4 t6_0 (by decide +kernel) _ fun j => ?_
  blk_simp
  rw [after6_4, e0, e1, e2, e3]

end Cert.KV
end
-- ==== Proof.KLast.lean ====
module

public import proofs.«01_k».proof.Proof.Gen.KernelIdeal.Frame
public import proofs.«01_k».proof.Proof.Reals
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals
/-- A channel's lanes, at one width coordinate, against the last layer's weights. -/
theorem pick_width (B : A5) (Wf : ℕ → ℝ) (g : ℕ) {o : ℕ} (ho : o < 16) :
    ∑ k ∈ Finset.range 256, rl 16 16 B g k * (if k / 16 = o then Wf (k % 16) else 0)
      = ∑ c ∈ Finset.range 16, B (g % 128) c (g / 128 / 16) (g / 128 % 16) o * Wf c := by
  rw [show 256 = 16 * 16 from rfl, sum_range_mul, Finset.sum_eq_single_of_mem o (Finset.mem_range.2 ho)]
  · refine Finset.sum_congr rfl fun j hj => ?_
    unfold rl
    rw [mul_add_div_of_lt (Finset.mem_range.1 hj), mul_add_mod_of_lt' (Finset.mem_range.1 hj), if_pos rfl]
  · refine fun i _ hi => Finset.sum_eq_zero fun j hj => ?_
    rw [mul_add_div_of_lt (Finset.mem_range.1 hj), if_neg hi, mul_zero]

/-- What the last region is given. -/
structure FinIn (x1 : Vec Ideal S8x2x256 .f32) (x2 : Vec Ideal S256x256 .f32) (x3 : Vec Ideal S256x16 .bf16)
    (x4 : Vec Ideal S1x16 .f32) (Z : A5) (Wf : ℕ → ℝ) (B : ℝ) : Prop where
  tot : ∀ (t : Fin 8) (l : Fin 256), x1 (ix3 t 0 l) = ((∑ r ∈ Finset.range 4096, rl 16 16 Z (t * 4096 + r) l : ℝ) : EReal)
  sq : ∀ (t : Fin 8) (l : Fin 256), x1 (ix3 t 1 l)
    = ((∑ r ∈ Finset.range 4096, rl 16 16 Z (t * 4096 + r) l * rl 16 16 Z (t * 4096 + r) l : ℝ) : EReal)
  chan : ∀ k l : Fin 256, x2 (ix2 k l) = (((if (k : ℕ) % 16 = l % 16 then 1 else 0 : ℝ)) : EReal)
  wts : ∀ (k : Fin 256) (o : Fin 16), x3 (ix2 k o) = (((if (k : ℕ) / 16 = o then Wf (k % 16) else 0 : ℝ)) : EReal)
  bias : ∀ o : Fin 16, x4 (ix2 0 o) = (B : EReal)

/-- Folding the lanes of the totals over the eight row blocks gives the totals of a channel. -/
theorem carries9 (F : ℝ → ℝ) (Z : A5) :
    Carries 256 16 (fun l => ∑ t ∈ Finset.range 8, ∑ r ∈ Finset.range 4096, F (rl 16 16 Z (t * 4096 + r) l))
      fun o => sum4 16 fun b d h w => F (Z b o d h w) := fun l => by
  have e : ∀ k, ∑ t ∈ Finset.range 8, ∑ r ∈ Finset.range 4096, F (rl 16 16 Z (t * 4096 + r) k)
      = ∑ g ∈ Finset.range (16 * 16 * 128), F (rl 16 16 Z g k) := fun k =>
    (sum_range_mul 8 4096 fun g => F (rl 16 16 Z g k)).symm.trans (by rw [show 8 * 4096 = 16 * 16 * 128 by norm_num])
  simp only [e]
  rw [← stat_eq 16 16 F Z (by norm_num)]

set_option maxHeartbeats 4000000 in
/-- The last region's rows: the sigmoid of the last layer over the normalised activation. -/
theorem fin9 {n : ℕ} {x0 : Vec Ideal S4096x256 .bf16} {x1 x2 x3 x4} {Z : A5} {Wf : ℕ → ℝ} {B : ℝ} (H : FinIn x1 x2 x3 x4 Z Wf B)
    (h0 : ∀ (r : Fin 4096) (k : Fin 256), x0 (ix2 r k) = ((rl 16 16 Z (n * 4096 + r) k : ℝ) : EReal)) (r : Fin 4096) (o : Fin 16) :
    out9_5 x0 x1 x2 x3 x4 (ix2 r o) = Ideal.logistic ((∑ c ∈ Finset.range 16, bnl 16 Z ((n * 4096 + r) % 128) c
      ((n * 4096 + r) / 128 / 16) ((n * 4096 + r) / 128 % 16) o * Wf c + B : ℝ) : EReal) := by
  unfold out9_5
  rw [View.canon_unit_zero (by decide +kernel), View.ld_unit_zero (by decide +kernel), View.ld_unit_zero (by decide +kernel),
    View.ld_unit_zero (by decide +kernel), View.ld_unit_zero (by decide +kernel), View.ld_unit_zero (by decide +kernel)]
  pointwise [k9_pay1, k9_pay2]
  have e1 : ∀ k : Fin 256, (∑ t : Fin 8, x1 (ix3 t 0 k) : EReal) = _ := fun k =>
    sum_coe (fun t => ∑ r ∈ Finset.range 4096, rl 16 16 Z (t * 4096 + r) k) fun t => H.tot t k
  have e2 : ∀ k : Fin 256, (∑ t : Fin 8, x1 (ix3 t 1 k) : EReal) = _ := fun k =>
    sum_coe (fun t => ∑ r ∈ Finset.range 4096, rl 16 16 Z (t * 4096 + r) k * rl 16 16 Z (t * 4096 + r) k) fun t => H.sq t k
  have c1 : ∀ k : Fin 256, (∑ x : Fin 256, (∑ t : Fin 8, x1 (ix3 t 0 x)) * x2 (ix2 x k) : EReal) = _ := fun k =>
    carries_coe (carries9 (fun x => x) Z) _ _ e1 fun x => H.chan x k
  have c2 : ∀ k : Fin 256, (∑ x : Fin 256, (∑ t : Fin 8, x1 (ix3 t 1 x)) * x2 (ix2 x k) : EReal) = _ := fun k =>
    carries_coe (carries9 (fun x => x * x) Z) _ _ e2 fun x => H.chan x k
  have hv : ∀ k : Fin 256, _ = ((rl 16 16 (bnl 16 Z) (n * 4096 + r) k : ℝ) : EReal) := fun k => by
    have := bnK (S := 16) (by norm_num) Z (k % 16) (rl 16 16 Z (n * 4096 + r) k) rfl rfl
    exact (congrArg (fun x : EReal => if 0 ≤ x then x else (slp : EReal) * x) this).trans (lrelu_coe _)
  simp only [c1, c2, h0, lit_cnt16, lit_eps, lit_slope, hv, H.bias]
  rw [sum_coe (fun k => rl 16 16 (bnl 16 Z) (n * 4096 + r) k * (if k / 16 = (o : ℕ) then Wf (k % 16) else 0)) fun k => by
    rw [H.wts, ← EReal.coe_mul], ← EReal.coe_add, pick_width _ _ _ o.2]

/-- Which block each window of the last call shows at a point. -/
theorem index9 : ∀ t : Fin cfg9.N, win9_0.index t = ![(grid9.coords t 0).val, 0] ∧ win9_1.index t = ![0, 0, 0]
    ∧ win9_2.index t = ![0, 0] ∧ win9_3.index t = ![0, 0] ∧ win9_4.index t = ![0, 0]
    ∧ win9_5.index t = ![(grid9.coords t 0).val, 0] :=
  (by decide +kernel : ∀ t : Fin grid9.N, _)

/-- The array the last region leaves. -/
theorem region9 (V) (c : Dev nD) {Z : A5} {Wf : ℕ → ℝ} {B : ℝ}
    (H : FinIn (V c main_v391_1) (V c main_v328) (V c main_v341) (V c main_v343) Z Wf B)
    (h0 : ∀ (r : Fin 32768) (k : Fin 256), (V c main_v391_0 : Vec Ideal S32768x256 .bf16) (ix2 r k) = ((rl 16 16 Z r k : ℝ) : EReal)) :
    (dat9 (F := Ideal) V c).arrAt 5 cfg9.N
      = (fun j : S32768x16.Idx => Ideal.logistic ((∑ c ∈ Finset.range 16, bnl 16 Z (j 0 % 128) c (j 0 / 128 / 16) (j 0 / 128 % 16) (j 1)
        * Wf c + B : ℝ) : EReal) : Vec Ideal S32768x16 .f32) := by
  refine (dat9 V c).arrAt_eq_of_covers 5 _ (by decide +kernel) fun t hf y => ?_
  have hn : (grid9.coords t 0).val < 8 := (grid9.coords t 0).isLt
  have e1 : iblk9 (F := Ideal) V c 1 t = V c main_v391_1 := by blk_ext! [iblk9, index9 t]
  have e2 : iblk9 (F := Ideal) V c 2 t = V c main_v328 := by blk_ext! [iblk9, index9 t]
  have e3 : iblk9 (F := Ideal) V c 3 t = V c main_v341 := by blk_ext! [iblk9, index9 t]
  have e4 : iblk9 (F := Ideal) V c 4 t = V c main_v343 := by blk_ext! [iblk9, index9 t]
  blk_simp
  rw [after9_5, e1, e2, e3, e4]
  idx_vars y
  rw [fin9 (n := (grid9.coords t 0).val) H fun r k => ?_]
  · blk_simp [index9 t]
  · refine Eq.trans ?_ (h0 ⟨(grid9.coords t 0).val * 4096 + r, by omega⟩ k)
    blk_simp [iblk9]
    refine congrArg _ ?_
    blk_ext [index9 t]

end Cert.KV
end
-- ==== Proof.KLastTaps.lean ====
module

public import proofs.«01_k».proof.Proof.Gen.KernelIdeal.Frame
public import proofs.«01_k».proof.Proof.Reals
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals
/-- What one of the eight points of the last convolution is given: three neighbouring row blocks of its activation,
    the per-lane totals, the band matrices and the 0-1 matrix of equal channels. -/
structure BlockIn (n : ℕ) (x0 x1 x2 : Vec Ideal S4096x256 .bf16) (x3 : Vec Ideal S2x256 .f32)
    (x4 : Vec Ideal S3x3x256x256 .bf16) (x5 : Vec Ideal S256x256 .f32) (X W : A5) : Prop where
  lt : n < 8
  prev : ∀ (r : Fin 4096) (k : Fin 256), x0 (ix2 r k) = ((rl 16 16 X ((n - 1) * 4096 + r) k : ℝ) : EReal)
  cur : ∀ (r : Fin 4096) (k : Fin 256), x1 (ix2 r k) = ((rl 16 16 X (n * 4096 + r) k : ℝ) : EReal)
  next : ∀ (r : Fin 4096) (k : Fin 256), x2 (ix2 r k) = ((rl 16 16 X (min (n + 1) 7 * 4096 + r) k : ℝ) : EReal)
  stat : ∃ s q : ℕ → ℝ, (∀ k : Fin 256, x3 (ix2 0 k) = (s k : EReal)) ∧ (∀ k : Fin 256, x3 (ix2 1 k) = (q k : EReal))
    ∧ Carries 256 16 s (fun o => sum4 16 fun b d h w => X b o d h w)
    ∧ Carries 256 16 q (fun o => sum4 16 fun b d h w => X b o d h w * X b o d h w)
  mats : ∀ (a e : Fin 3) (k l : Fin 256), x4 (ix4 a e k l) = ((band 16 W a e k l : ℝ) : EReal)
  chan : ∀ k l : Fin 256, x5 (ix2 k l) = (((if (k : ℕ) % 16 = l % 16 then 1 else 0 : ℝ)) : EReal)

set_option maxHeartbeats 4000000 in
/-- The normalised activation of a block of rows starting at row `p`. -/
theorem y8 {x3 : Vec Ideal S2x256 .f32} {x5 : Vec Ideal S256x256 .f32} {X : A5} (v : Vec Ideal S4096x256 .bf16) (p : ℕ)
    (hst : ∃ s q : ℕ → ℝ, (∀ k : Fin 256, x3 (ix2 0 k) = (s k : EReal)) ∧ (∀ k : Fin 256, x3 (ix2 1 k) = (q k : EReal))
      ∧ Carries 256 16 s (fun o => sum4 16 fun b d h w => X b o d h w)
      ∧ Carries 256 16 q (fun o => sum4 16 fun b d h w => X b o d h w * X b o d h w))
    (hch : ∀ k l : Fin 256, x5 (ix2 k l) = (((if (k : ℕ) % 16 = l % 16 then 1 else 0 : ℝ)) : EReal))
    (hv : ∀ (r : Fin 4096) (k : Fin 256), v (ix2 r k) = ((rl 16 16 X (p + r) k : ℝ) : EReal)) (r : Fin 4096) (k : Fin 256) :
    k8_pay6 (View.ld x3 r8_0) (View.ld x5 r8_1) (View.ld v r8_2) (ix2 r k) = ((rl 16 16 (bnl 16 X) (p + r) k : ℝ) : EReal) := by
  obtain ⟨s, q, hs, hq, cs, cq⟩ := hst
  rw [View.ld_unit_zero (by decide +kernel), View.ld_unit_zero (by decide +kernel), View.ld_unit_zero (by decide +kernel)]
  pointwise [k8_pay6, k8_pay5, k8_pay4, k8_pay3, k8_pay2]
  rw [carries_coe cs _ _ hs fun x => hch x k, carries_coe cq _ _ hq fun x => hch x k, hv, lit_cnt16, lit_eps, lit_slope,
    bnK (by norm_num) X (k % 16) _ rfl rfl, lrelu_coe]
  rfl

/-- The global row number of a row of a block. -/
theorem g8 (n : ℕ) (r : Fin 4096) : k8_pay10 (BitVec.ofNat 32 n) (ix2 r 0) = BitVec.ofNat 32 (n * 4096 + r) := by
  pointwise [k8_pay10]
  rw [BitVec.ofNat_add, BitVec.ofNat_mul]
  rfl

/-- The depth coordinate that the body computes for a row. -/
theorem d8 {n : ℕ} (hn : n < 8) (r : Fin 4096) :
    k8_pay11 (BitVec.ofNat 32 n) (ix2 r 0) = BitVec.ofNat 32 ((n * 4096 + r) / 128 / 16) := by
  have hg := g8 n r
  unfold k8_pay11
  generalize k8_pay10 (BitVec.ofNat 32 n) = G at hg ⊢
  pointwise
  rw [hg, fdiv_word (by omega) (by norm_num) (by norm_num), Nat.div_div_eq_div_mul]

/-- The height coordinate that the body computes for a row. -/
theorem h8 {n : ℕ} (hn : n < 8) (r : Fin 4096) :
    k8_pay14 (k8_pay10 (BitVec.ofNat 32 n)) 128#32 (k8_pay12 (BitVec.ofNat 32 n)) (k8_pay13 (BitVec.ofNat 32 n)) (ix2 r 0)
      = BitVec.ofNat 32 ((n * 4096 + r) / 128 % 16) := by
  have hg := g8 n r
  unfold k8_pay14 k8_pay12 k8_pay13
  generalize k8_pay10 (BitVec.ofNat 32 n) = G at hg ⊢
  pointwise
  rw [hg, guard_word (by norm_num) (by norm_num), fdiv_word (by omega) (by norm_num) (by norm_num),
    fmod_word (by omega) (by norm_num) (by norm_num)]

/-- A masked tap whose reads are known where the mask lets them through, each at a row that is the tap's row. -/
theorem tap_at {L S a e r l : ℕ} {Y : ℕ → ℕ → ℝ} {M : ℕ → ℕ → ℝ} {c : BitVec 1} {A : Fin L → EReal}
    (hc : ∀ (x y : EReal), Scalar.select c x y
      = if (1 ≤ r / 128 / S + a ∧ r / 128 / S + a ≤ S) ∧ (1 ≤ r / 128 % S + e ∧ r / 128 % S + e ≤ S) then x else y)
    (hA : (1 ≤ r / 128 / S + a ∧ r / 128 / S + a ≤ S) ∧ (1 ≤ r / 128 % S + e ∧ r / 128 % S + e ≤ S) →
      ∀ k : Fin L, ∃ j, j + (S + 1) * 128 = r + a * S * 128 + e * 128 ∧ A k = ((Y j k * M k l : ℝ) : EReal)) :
    ∑ k, Scalar.select c (A k) 0 = ((tap S L Y M a e r l : ℝ) : EReal) :=
  tap_val hc fun h k => by
    obtain ⟨j, hj, hk⟩ := hA h k
    rw [hk, show r + a * S * 128 + e * 128 - (S + 1) * 128 = j by omega]

set_option maxHeartbeats 8000000 in
/-- The payloads of the nine taps: each adds to the running value the taps it computes, reading the neighbouring
    blocks where the row a tap needs lies there. -/
theorem taps8 {n : ℕ} (hn : n < 8) (p c x : FVec Ideal S4096x256 .bf16) (d h : IVec S4096x1 32) (a b : FVec Ideal S4096x256 .f32)
    (w w' : Vec Ideal S1x1x256x256 .bf16) {Y : ℕ → ℕ → ℝ} {M M' : ℕ → ℕ → ℝ}
    (hp : ∀ (r : ℕ) (h : r < 4096) (k : Fin 256), p (ix2 ⟨r, h⟩ k) = (Y ((n - 1) * 4096 + r) k : EReal))
    (hc : ∀ (r : ℕ) (h : r < 4096) (k : Fin 256), c (ix2 ⟨r, h⟩ k) = (Y (n * 4096 + r) k : EReal))
    (hx : ∀ (r : ℕ) (h : r < 4096) (k : Fin 256), x (ix2 ⟨r, h⟩ k) = (Y (min (n + 1) 7 * 4096 + r) k : EReal))
    (hd : ∀ r : Fin 4096, d (ix2 r 0) = BitVec.ofNat 32 ((n * 4096 + r) / 128 / 16))
    (hh : ∀ r : Fin 4096, h (ix2 r 0) = BitVec.ofNat 32 ((n * 4096 + r) / 128 % 16))
    (hM : ∀ k l : Fin 256, w (ix4 0 0 k l) = (M k l : EReal)) (hM' : ∀ k l : Fin 256, w' (ix4 0 0 k l) = (M' k l : EReal))
    (r : Fin 4096) (l : Fin 256) :
    k8_pay19 d h a (k8_pay16 p c) (k8_pay17 d) k8_pay18 w (ix2 r l) = a (ix2 r l) + ((tap 16 256 Y M 0 0 (n * 4096 + r) l : ℝ) : EReal)
    ∧ k8_pay23 a (k8_pay20 p c) (k8_pay21 d h) (k8_pay22 h) 16#32 w (ix2 r l)
      = a (ix2 r l) + ((tap 16 256 Y M 0 1 (n * 4096 + r) l : ℝ) : EReal)
    ∧ k8_pay24 p c d h w (ix2 r l) = ((tap 16 256 Y M 0 2 (n * 4096 + r) l : ℝ) : EReal)
    ∧ k8_pay25 p c d h a b w w' (ix2 r l) = a (ix2 r l) + b (ix2 r l) + ((tap 16 256 Y M 1 0 (n * 4096 + r) l : ℝ) : EReal)
      + ((tap 16 256 Y M' 1 1 (n * 4096 + r) l : ℝ) : EReal)
    ∧ k8_pay28 d h a (k8_pay26 c x) (k8_pay27 d) w (ix2 r l) = a (ix2 r l) + ((tap 16 256 Y M 1 2 (n * 4096 + r) l : ℝ) : EReal)
    ∧ k8_pay32 h a (k8_pay29 c x) (k8_pay30 d) (k8_pay31 h) w (ix2 r l)
      = a (ix2 r l) + ((tap 16 256 Y M 2 0 (n * 4096 + r) l : ℝ) : EReal)
    ∧ k8_pay34 c x d h a (k8_pay33 c x d h) w w' (ix2 r l) = a (ix2 r l) + ((tap 16 256 Y M 2 1 (n * 4096 + r) l : ℝ) : EReal)
      + ((tap 16 256 Y M' 2 2 (n * 4096 + r) l : ℝ) : EReal) := by
  refine ⟨?_, ?_, ?_, ?_, ?_, ?_, ?_⟩
  all_goals
    pointwise [k8_pay34, k8_pay32, k8_pay28, k8_pay25, k8_pay23, k8_pay19, k8_pay16, k8_pay17, k8_pay18, k8_pay20,
      k8_pay21, k8_pay22, k8_pay24, k8_pay26, k8_pay27, k8_pay29, k8_pay30, k8_pay31, k8_pay33]
  all_goals
    repeat' refine congrArg₂ (· + ·) ?_ ?_
  all_goals first
    | rfl
    | refine tap_at (mask_sel' (hd r) (hh r) rfl rfl (by omega) (by omega) (by omega) (by omega) (by omega) (by omega)) fun hc' k => ?_
      split
      all_goals
        first
          | refine ⟨_, ?_, (congrArg₂ (· * ·) (hp _ _ _) (hM _ _)).trans (EReal.coe_mul _ _).symm⟩; omega
          | refine ⟨_, ?_, (congrArg₂ (· * ·) (hc _ _ _) (hM _ _)).trans (EReal.coe_mul _ _).symm⟩; omega
          | refine ⟨_, ?_, (congrArg₂ (· * ·) (hx _ _ _) (hM _ _)).trans (EReal.coe_mul _ _).symm⟩; omega
          | refine ⟨_, ?_, (congrArg₂ (· * ·) (hc _ _ _) (hM' _ _)).trans (EReal.coe_mul _ _).symm⟩; omega
          | refine ⟨_, ?_, (congrArg₂ (· * ·) (hx _ _ _) (hM' _ _)).trans (EReal.coe_mul _ _).symm⟩; omega
    | refine tap_mid (by omega) (by omega) fun k => ?_
      exact (congrArg₂ (· * ·) (hc _ _ _) (hM' _ _)).trans (EReal.coe_mul _ _).symm

set_option maxHeartbeats 8000000 in
/-- The nine taps of a block of rows, summed. -/
theorem acc8 {n : ℕ} {i : grid8.Coords} (hi : (i 0).val = n) {x0 x1 x2 x3 x4 x5} {X W : A5}
    (H : BlockIn n x0 x1 x2 x3 x4 x5 X W) (r : Fin 4096) (l : Fin 256) :
    k8_pay34 (k8_pay37 i x0 x1 x2 x3 x4 x5) (k8_pay38 i x0 x1 x2 x3 x4 x5) (k8_pay39 i x0 x1 x2 x3 x4 x5)
      (k8_pay40 i x0 x1 x2 x3 x4 x5) (k8_pay41 i x0 x1 x2 x3 x4 x5) (k8_pay42 i x0 x1 x2 x3 x4 x5)
      (View.ld x4 r8_10) (View.ld x4 r8_11) (ix2 r l)
      = ((rl 16 16 (cv 16 16 (bnl 16 X) W) (n * 4096 + r) l : ℝ) : EReal) := by
  subst hi
  have hp : ∀ (r : ℕ) (h : r < 4096) (k : Fin 256), k8_pay36 i x0 x1 x2 x3 x4 x5 (ix2 ⟨r, h⟩ k) = _ := fun r h => y8 x0 _ H.stat H.chan H.prev ⟨r, h⟩
  have hc : ∀ (r : ℕ) (h : r < 4096) (k : Fin 256), k8_pay37 i x0 x1 x2 x3 x4 x5 (ix2 ⟨r, h⟩ k) = _ := fun r h => y8 x1 _ H.stat H.chan H.cur ⟨r, h⟩
  have hx : ∀ (r : ℕ) (h : r < 4096) (k : Fin 256), k8_pay38 i x0 x1 x2 x3 x4 x5 (ix2 ⟨r, h⟩ k) = _ := fun r h => y8 x2 _ H.stat H.chan H.next ⟨r, h⟩
  have hd : ∀ r : Fin 4096, k8_pay39 i x0 x1 x2 x3 x4 x5 (ix2 r 0) = _ := d8 H.lt
  have hh : ∀ r : Fin 4096, k8_pay40 i x0 x1 x2 x3 x4 x5 (ix2 r 0) = _ := h8 H.lt
  have hl : ∀ k l : Fin 256,
      View.ld x4 r8_3 (ix4 0 0 k l) = ((band 16 W 0 0 k l : ℝ) : EReal) ∧ View.ld x4 r8_4 (ix4 0 0 k l) = ((band 16 W 0 1 k l : ℝ) : EReal)
      ∧ View.ld x4 r8_5 (ix4 0 0 k l) = ((band 16 W 0 2 k l : ℝ) : EReal) ∧ View.ld x4 r8_6 (ix4 0 0 k l) = ((band 16 W 1 0 k l : ℝ) : EReal)
      ∧ View.ld x4 r8_7 (ix4 0 0 k l) = ((band 16 W 1 1 k l : ℝ) : EReal) ∧ View.ld x4 r8_8 (ix4 0 0 k l) = ((band 16 W 1 2 k l : ℝ) : EReal)
      ∧ View.ld x4 r8_9 (ix4 0 0 k l) = ((band 16 W 2 0 k l : ℝ) : EReal) ∧ View.ld x4 r8_10 (ix4 0 0 k l) = ((band 16 W 2 1 k l : ℝ) : EReal)
      ∧ View.ld x4 r8_11 (ix4 0 0 k l) = ((band 16 W 2 2 k l : ℝ) : EReal) := fun k l => by
    refine ⟨?_, ?_, ?_, ?_, ?_, ?_, ?_, ?_, ?_⟩
    all_goals
      pointwise
      exact H.mats _ _ k l
  unfold k8_pay42 k8_pay41
  have T := fun a b w w' (M M' : ℕ → ℕ → ℝ) hM hM' => taps8 H.lt _ _ _ _ _ a b w w' hp hc hx hd hh (M := M) (M' := M') hM hM' r l
  rw [(T _ 0 _ _ _ _ (fun k l => (hl k l).2.2.2.2.2.2.2.1) fun k l => (hl k l).2.2.2.2.2.2.2.2).2.2.2.2.2.2,
    (T _ 0 _ _ _ _ (fun k l => (hl k l).2.2.2.2.2.2.1) fun k l => (hl k l).2.2.2.2.2.2.1).2.2.2.2.2.1,
    (T _ 0 _ _ _ _ (fun k l => (hl k l).2.2.2.2.2.1) fun k l => (hl k l).2.2.2.2.2.1).2.2.2.2.1,
    (T _ _ _ _ _ _ (fun k l => (hl k l).2.2.2.1) fun k l => (hl k l).2.2.2.2.1).2.2.2.1,
    (T _ 0 _ _ _ _ (fun k l => (hl k l).2.1) fun k l => (hl k l).2.1).2.1,
    (T 0 0 _ _ _ _ (fun k l => (hl k l).2.2.1) fun k l => (hl k l).2.2.1).2.2.1,
    (T _ 0 _ _ _ _ (fun k l => (hl k l).1) fun k l => (hl k l).1).1,
    show k8_pay15 (F := Ideal) (ix2 r l) = 0 from by pointwise [k8_pay15], zero_add]
  have ht := (taps_sum 16 256 (rl 16 16 (bnl 16 X)) (band 16 W) ((i 0).val * 4096 + r) l).symm
  have hlt := H.lt
  refine ht.trans ?_
  rw [show taps 16 256 (rl 16 16 (bnl 16 X)) (band 16 W) ((i 0).val * 4096 + r) l = _ from
    taps_eq (S := 16) (C := 16) _ _ (by norm_num) (by omega)]

end Cert.KV
end
-- ==== Proof.KLastConv.lean ====
module

public import proofs.«01_k».proof.Proof.Gen.KernelIdeal.Frame
public import proofs.«01_k».proof.Proof.KLastTaps
public import proofs.«01_k».proof.Proof.KConvIn
public import Idealize.ShloMosaic.Lib.Pointwise
public import Idealize.ShloMosaic.Lib.Pipeline.ValueKit

@[expose] public section

set_option maxRecDepth 16384

noncomputable section

namespace Cert.KV

open Idealize.ShloMosaic Idealize.ShloMosaic.TcCoe Idealize.SL.Sem
open Cert.KernelIdeal Cert.KernelIdeal.Gen Cert.Spec Cert.Reals
/-- The rows one point of the last convolution leaves. -/
theorem z8 {n : ℕ} {i : grid8.Coords} (hi : (i 0).val = n) {x0 x1 x2 x3 x4 x5} {X W : A5}
    (H : BlockIn n x0 x1 x2 x3 x4 x5 X W) (r : Fin 4096) (l : Fin 256) :
    out8_6 i x0 x1 x2 x3 x4 x5 (ix2 r l) = ((rl 16 16 (cv 16 16 (bnl 16 X) W) (n * 4096 + r) l : ℝ) : EReal) := by
  unfold out8_6
  rw [View.canon_unit_zero (by decide +kernel)]
  exact acc8 hi H r l

/-- A total, and a total of squares, over the rows of a block. -/
def tot1 {n : ℕ} (f : Fin n → EReal) : EReal := ∑ r, f r
/-- The total of the squares over the rows of a block. -/
def sq1 {n : ℕ} (f : Fin n → EReal) : EReal := ∑ r, f r * f r

/-- The total of real rows is real. -/
theorem tot1_coe {n : ℕ} (g : ℕ → ℝ) {f : Fin n → EReal} (h : ∀ r : Fin n, f r = (g r : EReal)) :
    tot1 f = ((∑ r ∈ Finset.range n, g r : ℝ) : EReal) := sum_coe g h

/-- The total of the squares of real rows is real. -/
theorem sq1_coe {n : ℕ} (g : ℕ → ℝ) {f : Fin n → EReal} (h : ∀ r : Fin n, f r = (g r : EReal)) :
    sq1 f = ((∑ r ∈ Finset.range n, g r * g r : ℝ) : EReal) :=
  sum_coe (fun r => g r * g r) fun r => by rw [h r, ← EReal.coe_mul]

/-- The two rows of totals a point writes. -/
theorem sums8 (c x : FVec Ideal S4096x256 .bf16) (d h) (a) (v) (w w') (l : Fin 256) :
    k8_pay35 (F := Ideal) c x d h a v w w' (ix3 0 0 l) = tot1 (fun r => k8_pay34 c x d h a v w w' (ix2 r l))
    ∧ k8_pay35 (F := Ideal) c x d h a v w w' (ix3 0 1 l) = sq1 (fun r => k8_pay34 c x d h a v w w' (ix2 r l)) := by
  unfold tot1 sq1 k8_pay35
  generalize k8_pay34 c x d h a v w w' = P
  constructor <;> pointwise

/-- The totals one point of the last convolution leaves. -/
theorem st8 {n : ℕ} {i : grid8.Coords} (hi : (i 0).val = n) {x0 x1 x2 x3 x4 x5} {X W : A5}
    (H : BlockIn n x0 x1 x2 x3 x4 x5 X W) (l : Fin 256) :
    out8_7 i x0 x1 x2 x3 x4 x5 (ix3 0 0 l)
      = ((∑ r ∈ Finset.range 4096, rl 16 16 (cv 16 16 (bnl 16 X) W) (n * 4096 + r) l : ℝ) : EReal)
    ∧ out8_7 i x0 x1 x2 x3 x4 x5 (ix3 0 1 l)
      = ((∑ r ∈ Finset.range 4096, rl 16 16 (cv 16 16 (bnl 16 X) W) (n * 4096 + r) l
        * rl 16 16 (cv 16 16 (bnl 16 X) W) (n * 4096 + r) l : ℝ) : EReal) := by
  unfold out8_7
  rw [View.canon_unit_zero (by decide +kernel)]
  have e := sums8 (k8_pay37 i x0 x1 x2 x3 x4 x5) (k8_pay38 i x0 x1 x2 x3 x4 x5) (k8_pay39 i x0 x1 x2 x3 x4 x5)
      (k8_pay40 i x0 x1 x2 x3 x4 x5) (k8_pay41 i x0 x1 x2 x3 x4 x5) (k8_pay42 i x0 x1 x2 x3 x4 x5)
      (View.ld x4 r8_10) (View.ld x4 r8_11) l
  exact ⟨e.1.trans (tot1_coe (fun r => rl 16 16 (cv 16 16 (bnl 16 X) W) (n * 4096 + r) l) fun r => acc8 hi H r l),
    e.2.trans (sq1_coe (fun r => rl 16 16 (cv 16 16 (bnl 16 X) W) (n * 4096 + r) l) fun r => acc8 hi H r l)⟩

/-- Which block each window of the call shows at a point. -/
theorem index8 : ∀ t : Fin cfg8.N, win8_0.index t = ![(grid8.coords t 0).val - 1, 0] ∧ win8_1.index t = ![(grid8.coords t 0).val, 0]
    ∧ win8_2.index t = ![min ((grid8.coords t 0).val + 1) 7, 0] ∧ win8_3.index t = ![0, 0] ∧ win8_4.index t = ![0, 0, 0, 0]
    ∧ win8_5.index t = ![0, 0] ∧ win8_6.index t = ![(grid8.coords t 0).val, 0] ∧ win8_7.index t = ![(grid8.coords t 0).val, 0, 0] :=
  (by decide +kernel : ∀ t : Fin grid8.N, _)

/-- What each point is given, from what the whole arrays hold. -/
theorem blocks8 (V) (c : Dev nD) (t : Fin cfg8.N) {X W : A5}
    (h : ConvIn 16 16 (V c main_v390) (V c main_v382_4) (V c main_v276) (V c main_v328) X W) :
    BlockIn (grid8.coords t 0).val (iblk8 (F := Ideal) V c 0 t) (iblk8 V c 1 t) (iblk8 V c 2 t) (iblk8 V c 3 t)
      (iblk8 V c 4 t) (iblk8 V c 5 t) X W := by
  have hn : (grid8.coords t 0).val < 8 := (grid8.coords t 0).isLt
  have e3 : iblk8 (F := Ideal) V c 3 t = V c main_v382_4 := by blk_ext! [iblk8, index8 t]
  have e4 : iblk8 (F := Ideal) V c 4 t = V c main_v276 := by blk_ext! [iblk8, index8 t]
  have e5 : iblk8 (F := Ideal) V c 5 t = V c main_v328 := by blk_ext! [iblk8, index8 t]
  refine ⟨hn, fun r k => ?_, fun r k => ?_, fun r k => ?_, e3 ▸ h.stat, e4 ▸ h.mats, e5 ▸ h.chan⟩
  · refine Eq.trans ?_ (h.rows ⟨((grid8.coords t 0).val - 1) * 4096 + r, by omega⟩ k)
    blk_simp [iblk8]
    refine congrArg _ ?_
    blk_ext [index8 t]
  · refine Eq.trans ?_ (h.rows ⟨(grid8.coords t 0).val * 4096 + r, by omega⟩ k)
    blk_simp [iblk8]
    refine congrArg _ ?_
    blk_ext [index8 t]
  · refine Eq.trans ?_ (h.rows ⟨min ((grid8.coords t 0).val + 1) 7 * 4096 + r, by omega⟩ k)
    blk_simp [iblk8]
    refine congrArg _ ?_
    blk_ext [index8 t]

/-- The rows the last convolution leaves. -/
theorem region8_z (V) (c : Dev nD) {X W : A5}
    (h : ConvIn 16 16 (V c main_v390) (V c main_v382_4) (V c main_v276) (V c main_v328) X W) :
    (dat8 (F := Ideal) V c).arrAt 6 cfg8.N
      = (fun j : S32768x256.Idx => ((rl 16 16 (cv 16 16 (bnl 16 X) W) (j 0) (j 1) : ℝ) : EReal) : Vec Ideal S32768x256 .bf16) := by
  refine (dat8 V c).arrAt_eq_of_covers 6 _ (by decide +kernel) fun t hf y => ?_
  blk_simp
  rw [after8_6]
  idx_vars y
  rw [z8 rfl (blocks8 V c t h)]
  blk_simp [index8 t]

/-- The totals the last convolution leaves, per point. -/
theorem region8_s (V) (c : Dev nD) {X W : A5}
    (h : ConvIn 16 16 (V c main_v390) (V c main_v382_4) (V c main_v276) (V c main_v328) X W) :
    (dat8 (F := Ideal) V c).arrAt 7 cfg8.N
      = (fun j : S8x2x256.Idx => if (j 1 : ℕ) = 0
          then ((∑ r ∈ Finset.range 4096, rl 16 16 (cv 16 16 (bnl 16 X) W) (j 0 * 4096 + r) (j 2) : ℝ) : EReal)
          else ((∑ r ∈ Finset.range 4096, rl 16 16 (cv 16 16 (bnl 16 X) W) (j 0 * 4096 + r) (j 2)
            * rl 16 16 (cv 16 16 (bnl 16 X) W) (j 0 * 4096 + r) (j 2) : ℝ) : EReal) : Vec Ideal S8x2x256 .f32) := by
  refine (dat8 V c).arrAt_eq_of_covers 7 _ (by decide +kernel) fun t hf y => ?_
  blk_simp
  rw [after8_7]
  idx_vars y
  have e := st8 rfl (blocks8 V c t h) y2
  obtain rfl : y0 = 0 := Subsingleton.elim _ _
  fin_cases y1
  · refine e.1.trans ?_
    blk_simp [index8 t]
    exact (if_pos rfl).symm
  · refine e.2.trans ?_
    blk_simp [index8 t]
    exact (if_neg Nat.one_ne_zero).symm

end Cert.KV
end
-- ==== Proof.KChain.lean ====
module

public import proofs.«01_k».proof.Proof.KHost
public import proofs.«01_k».proof.Proof.KIlv
public import proofs.«01_k».proof.Proof.KPre
public import proofs.«01_k».proof.Proof.KT1
public import proofs.«01_k».proof.Proof.KT3
public import proofs.«01_k».proof.Proof.KT5
public import proofs.«01_k».proof.Proof.KT7
public import proofs.«01_k».proof.Proof.KConv2
public import proofs.«01_k».proof.Proof.KConv4
public import proofs.«01_k».proof.Proof.KConv6
public import proofs.«01_k».proof.Proof.KLast
public import proofs.«01_k».proof.Proof.KLastConv

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

open Cert.Net

variable (m : (ℓ : Loc nD τ sig) → Buf (Elt Ideal) ℓ) (ρ : Dev nD → PrngReg) (c : Dev nD) (N : Net)

/-- The real arguments that the launch's memory holds. -/
abbrev Holds : Prop := IsNet N (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13))

/-- The matrices that the host prepares before the first call and that later calls read. -/
abbrev kept : List (Ref sig .tc) := [main_v35, main_v67, main_v99, main_v131, main_v167, main_v203, main_v239, main_v276,
  main_v289, main_v302, main_v315, main_v328, main_v341, main_v343]

/-- Through the first call. -/
theorem keep2 (r : Ref sig .tc) (h : r ∈ kept) : W2 m ρ c (Proc.devRef .tc r) = W1 m ρ c (Proc.devRef .tc r) :=
  W2_of m ρ c r ((by decide +kernel : ∀ r ∈ kept, ∀ w : Fin cfg0.W, Pipeline.arrRef spec0 w = r → (cfg0.win w).isOut = false) r h)

/-- Through the second call. -/
theorem keep4 (r : Ref sig .tc) (h : r ∈ kept) : W4 m ρ c (Proc.devRef .tc r) = W1 m ρ c (Proc.devRef .tc r) :=
  (W4_of m ρ c r ((by decide +kernel : ∀ r ∈ kept, ∀ w : Fin cfg1.W, Pipeline.arrRef spec1 w = r → (cfg1.win w).isOut = false) r h)).trans
    ((W3_of m ρ c r ((by decide +kernel : ∀ r ∈ kept, r ∉ hostOps1_W) r h)).trans (keep2 m ρ c r h))

/-- Through the third call. -/
theorem keep6 (r : Ref sig .tc) (h : r ∈ kept) : W6 m ρ c (Proc.devRef .tc r) = W1 m ρ c (Proc.devRef .tc r) :=
  (W6_of m ρ c r ((by decide +kernel : ∀ r ∈ kept, ∀ w : Fin cfg2.W, Pipeline.arrRef spec2 w = r → (cfg2.win w).isOut = false) r h)).trans
    ((W5_of m ρ c r ((by decide +kernel : ∀ r ∈ kept, r ∉ hostOps2_W) r h)).trans (keep4 m ρ c r h))

/-- Through the fourth call. -/
theorem keep8 (r : Ref sig .tc) (h : r ∈ kept) : W8 m ρ c (Proc.devRef .tc r) = W1 m ρ c (Proc.devRef .tc r) :=
  (W8_of m ρ c r ((by decide +kernel : ∀ r ∈ kept, ∀ w : Fin cfg3.W, Pipeline.arrRef spec3 w = r → (cfg3.win w).isOut = false) r h)).trans
    ((W7_of m ρ c r ((by decide +kernel : ∀ r ∈ kept, r ∉ hostOps3_W) r h)).trans (keep6 m ρ c r h))

/-- Through the fifth call. -/
theorem keep10 (r : Ref sig .tc) (h : r ∈ kept) : W10 m ρ c (Proc.devRef .tc r) = W1 m ρ c (Proc.devRef .tc r) :=
  (W10_of m ρ c r ((by decide +kernel : ∀ r ∈ kept, ∀ w : Fin cfg4.W, Pipeline.arrRef spec4 w = r → (cfg4.win w).isOut = false) r h)).trans
    ((W9_of m ρ c r ((by decide +kernel : ∀ r ∈ kept, r ∉ hostOps4_W) r h)).trans (keep8 m ρ c r h))

/-- Through the sixth call. -/
theorem keep12 (r : Ref sig .tc) (h : r ∈ kept) : W12 m ρ c (Proc.devRef .tc r) = W1 m ρ c (Proc.devRef .tc r) :=
  (W12_of m ρ c r ((by decide +kernel : ∀ r ∈ kept, ∀ w : Fin cfg5.W, Pipeline.arrRef spec5 w = r → (cfg5.win w).isOut = false) r h)).trans
    ((W11_of m ρ c r ((by decide +kernel : ∀ r ∈ kept, r ∉ hostOps5_W) r h)).trans (keep10 m ρ c r h))

/-- Through the seventh call. -/
theorem keep14 (r : Ref sig .tc) (h : r ∈ kept) : W14 m ρ c (Proc.devRef .tc r) = W1 m ρ c (Proc.devRef .tc r) :=
  (W14_of m ρ c r ((by decide +kernel : ∀ r ∈ kept, ∀ w : Fin cfg6.W, Pipeline.arrRef spec6 w = r → (cfg6.win w).isOut = false) r h)).trans
    ((W13_of m ρ c r ((by decide +kernel : ∀ r ∈ kept, r ∉ hostOps6_W) r h)).trans (keep12 m ρ c r h))

/-- Through the eighth call. -/
theorem keep16 (r : Ref sig .tc) (h : r ∈ kept) : W16 m ρ c (Proc.devRef .tc r) = W1 m ρ c (Proc.devRef .tc r) :=
  (W16_of m ρ c r ((by decide +kernel : ∀ r ∈ kept, ∀ w : Fin cfg7.W, Pipeline.arrRef spec7 w = r → (cfg7.win w).isOut = false) r h)).trans
    ((W15_of m ρ c r ((by decide +kernel : ∀ r ∈ kept, r ∉ hostOps7_W) r h)).trans (keep14 m ρ c r h))

/-- Through the ninth call. -/
theorem keep18 (r : Ref sig .tc) (h : r ∈ kept) : W18 m ρ c (Proc.devRef .tc r) = W1 m ρ c (Proc.devRef .tc r) :=
  (W18_of m ρ c r ((by decide +kernel : ∀ r ∈ kept, ∀ w : Fin cfg8.W, Pipeline.arrRef spec8 w = r → (cfg8.win w).isOut = false) r h)).trans
    ((W17_of m ρ c r ((by decide +kernel : ∀ r ∈ kept, r ∉ hostOps8_W) r h)).trans (keep16 m ρ c r h))

variable {m ρ c N} (H : Holds m c N)
include H

/-- After the first call: the activations of side 1. -/
theorem at2 (r : Fin 128) (l : Fin 256) : (W2 m ρ c main_v344 : Vec Ideal S128x256 .f32) (ix2 r l) = ((rl 1 256 N.x0 r l : ℝ) : EReal) := by
  rw [show W2 m ρ c main_v344 = _ from W2_arr m ρ c 4, region0]
  exact pre0 (fun r k => (congrFun (W1_args m ρ c main_arg0 (by decide)) _).trans (H.h0 r k))
    (fun k n => (read0 (W0 m ρ c) k n).trans (H.h1 k n)) (fun n => (read1 (W0 m ρ c) n).trans (H.h2 n))
    (fun n l => read5 (W0 m ρ c) N.WI H.h3 n l) r l

/-- What the transposed convolution from 256 to 128 channels reads. -/
theorem in1 : TIn 1 256 128 (W3 m ρ c main_v344) (W3 m ρ c main_v345) N.x0 N.T0 where
  rows r k := (congrFun (W3_of m ρ c main_v344 (by decide)) _).trans (at2 H r k)
  mats i j k l := (cast1 (W2 m ρ c) _).trans ((congrFun (keep2 m ρ c main_v35 (by decide)) _).trans (read35 (W0 m ρ c) N.T0 H.h4 i j k l))

/-- After the transposed convolution from 256 to 128 channels: its four parts. -/
theorem at4 (r : Fin 128) (l : Fin 256) :
    (W4 m ρ c main_v346_0 : Vec Ideal S128x256 .f32) (ix2 r l) = ((tpart 1 256 128 N.x0 N.T0 0 0 r l : ℝ) : EReal)
    ∧ (W4 m ρ c main_v346_1 : Vec Ideal S128x256 .f32) (ix2 r l) = ((tpart 1 256 128 N.x0 N.T0 0 1 r l : ℝ) : EReal)
    ∧ (W4 m ρ c main_v346_2 : Vec Ideal S128x256 .f32) (ix2 r l) = ((tpart 1 256 128 N.x0 N.T0 1 0 r l : ℝ) : EReal)
    ∧ (W4 m ρ c main_v346_3 : Vec Ideal S128x256 .f32) (ix2 r l) = ((tpart 1 256 128 N.x0 N.T0 1 1 r l : ℝ) : EReal) := by
  obtain ⟨e0, e1, e2, e3, -⟩ := region1 (V3 m ρ) c
  rw [show W4 m ρ c main_v346_0 = _ from (W4_arr m ρ c 2).trans e0, show W4 m ρ c main_v346_1 = _ from (W4_arr m ρ c 3).trans e1,
    show W4 m ρ c main_v346_2 = _ from (W4_arr m ρ c 4).trans e2, show W4 m ρ c main_v346_3 = _ from (W4_arr m ρ c 5).trans e3]
  exact parts1 (in1 H) r l

/-- After the transposed convolution from 256 to 128 channels: the sums and the sums of squares of its columns. -/
theorem stat4 (l : Fin 256) :
    (W4 m ρ c main_v346_4 : Vec Ideal S2x256 .f32) (ix2 0 l) = ((ttot 1 256 128 (fun x => x) N.x0 N.T0 l : ℝ) : EReal)
    ∧ (W4 m ρ c main_v346_4 : Vec Ideal S2x256 .f32) (ix2 1 l) = ((ttot 1 256 128 (fun x => x * x) N.x0 N.T0 l : ℝ) : EReal) := by
  obtain ⟨-, -, -, -, e4⟩ := region1 (V3 m ρ) c
  rw [show W4 m ρ c main_v346_4 = _ from (W4_arr m ρ c 6).trans e4]
  exact stat1 (in1 H) l

/-- What the 3-convolution of 128 channels reads. -/
theorem in2 : ConvIn 2 128 (W5 m ρ c main_v354) (W5 m ρ c main_v346_4) (W5 m ρ c main_v355) (W5 m ρ c main_v289) N.t0 N.C0 where
  rows r k := (ilv1 (W4 m ρ c) (tpart 1 256 128 N.x0 N.T0) (fun r l => (at4 H r l).1) (fun r l => (at4 H r l).2.1)
    (fun r l => (at4 H r l).2.2.1) (fun r l => (at4 H r l).2.2.2) r k).trans
    (by rw [ilv_eq (S := 1) N.x0 N.T0 (by norm_num) (by have := k.2; omega)]; rfl)
  stat := ⟨ttot 1 256 128 (fun x => x) N.x0 N.T0, ttot 1 256 128 (fun x => x * x) N.x0 N.T0,
    fun k => (congrFun (W5_of m ρ c main_v346_4 (by decide)) _).trans (stat4 H k).1,
    fun k => (congrFun (W5_of m ρ c main_v346_4 (by decide)) _).trans (stat4 H k).2,
    ttot_carries (fun x => x) N.x0 N.T0 (by norm_num) (by norm_num), ttot_carries (fun x => x * x) N.x0 N.T0 (by norm_num) (by norm_num)⟩
  mats a e k l := (cast2 (W4 m ρ c) _).trans ((congrFun (keep4 m ρ c main_v167 (by decide)) _).trans (read167 (W0 m ρ c) N.C0 H.h5 a e k l))
  chan k l := (congrFun ((W5_of m ρ c main_v289 (by decide)).trans (keep4 m ρ c main_v289 (by decide))) _).trans (read289 (W0 m ρ c) k l)

/-- After the 3-convolution of 128 channels: the activations of side 2. -/
theorem at6 (r : Fin 512) (l : Fin 256) : (W6 m ρ c main_v356 : Vec Ideal S512x256 .f32) (ix2 r l) = ((rl 2 128 N.x1 r l : ℝ) : EReal) := by
  rw [show W6 m ρ c main_v356 = _ from (W6_arr m ρ c 4).trans (region2 (V5 m ρ) c)]
  exact conv2 (in2 H) r l

/-- What the transposed convolution from 128 to 64 channels reads. -/
theorem in3 : TIn 2 128 64 (W7 m ρ c main_v356) (W7 m ρ c main_v357) N.x1 N.T1 where
  rows r k := (congrFun (W7_of m ρ c main_v356 (by decide)) _).trans (at6 H r k)
  mats i j k l := (cast3 (W6 m ρ c) _).trans ((congrFun (keep6 m ρ c main_v67 (by decide)) _).trans (read67 (W0 m ρ c) N.T1 H.h6 i j k l))

/-- After the transposed convolution from 128 to 64 channels: its four parts. -/
theorem at8 (r : Fin 512) (l : Fin 256) :
    (W8 m ρ c main_v358_0 : Vec Ideal S512x256 .f32) (ix2 r l) = ((tpart 2 128 64 N.x1 N.T1 0 0 r l : ℝ) : EReal)
    ∧ (W8 m ρ c main_v358_1 : Vec Ideal S512x256 .f32) (ix2 r l) = ((tpart 2 128 64 N.x1 N.T1 0 1 r l : ℝ) : EReal)
    ∧ (W8 m ρ c main_v358_2 : Vec Ideal S512x256 .f32) (ix2 r l) = ((tpart 2 128 64 N.x1 N.T1 1 0 r l : ℝ) : EReal)
    ∧ (W8 m ρ c main_v358_3 : Vec Ideal S512x256 .f32) (ix2 r l) = ((tpart 2 128 64 N.x1 N.T1 1 1 r l : ℝ) : EReal) := by
  obtain ⟨e0, e1, e2, e3, -⟩ := region3 (V7 m ρ) c
  rw [show W8 m ρ c main_v358_0 = _ from (W8_arr m ρ c 2).trans e0, show W8 m ρ c main_v358_1 = _ from (W8_arr m ρ c 3).trans e1,
    show W8 m ρ c main_v358_2 = _ from (W8_arr m ρ c 4).trans e2, show W8 m ρ c main_v358_3 = _ from (W8_arr m ρ c 5).trans e3]
  exact parts3 (in3 H) r l

/-- After the transposed convolution from 128 to 64 channels: the sums and the sums of squares of its columns. -/
theorem stat8 (l : Fin 256) :
    (W8 m ρ c main_v358_4 : Vec Ideal S2x256 .f32) (ix2 0 l) = ((ttot 2 128 64 (fun x => x) N.x1 N.T1 l : ℝ) : EReal)
    ∧ (W8 m ρ c main_v358_4 : Vec Ideal S2x256 .f32) (ix2 1 l) = ((ttot 2 128 64 (fun x => x * x) N.x1 N.T1 l : ℝ) : EReal) := by
  obtain ⟨-, -, -, -, e4⟩ := region3 (V7 m ρ) c
  rw [show W8 m ρ c main_v358_4 = _ from (W8_arr m ρ c 6).trans e4]
  exact stat3 (in3 H) l

/-- What the 3-convolution of 64 channels reads. -/
theorem in4 : ConvIn 4 64 (W9 m ρ c main_v366) (W9 m ρ c main_v358_4) (W9 m ρ c main_v367) (W9 m ρ c main_v302) N.t1 N.C1 where
  rows r k := (ilv3 (W8 m ρ c) (tpart 2 128 64 N.x1 N.T1) (fun r l => (at8 H r l).1) (fun r l => (at8 H r l).2.1)
    (fun r l => (at8 H r l).2.2.1) (fun r l => (at8 H r l).2.2.2) r k).trans
    (by rw [ilv_eq (S := 2) N.x1 N.T1 (by norm_num) (by have := k.2; omega)]; rfl)
  stat := ⟨ttot 2 128 64 (fun x => x) N.x1 N.T1, ttot 2 128 64 (fun x => x * x) N.x1 N.T1,
    fun k => (congrFun (W9_of m ρ c main_v358_4 (by decide)) _).trans (stat8 H k).1,
    fun k => (congrFun (W9_of m ρ c main_v358_4 (by decide)) _).trans (stat8 H k).2,
    ttot_carries (fun x => x) N.x1 N.T1 (by norm_num) (by norm_num), ttot_carries (fun x => x * x) N.x1 N.T1 (by norm_num) (by norm_num)⟩
  mats a e k l := (cast4 (W8 m ρ c) _).trans ((congrFun (keep8 m ρ c main_v203 (by decide)) _).trans (read203 (W0 m ρ c) N.C1 H.h7 a e k l))
  chan k l := (congrFun ((W9_of m ρ c main_v302 (by decide)).trans (keep8 m ρ c main_v302 (by decide))) _).trans (read302 (W0 m ρ c) k l)

/-- After the 3-convolution of 64 channels: the activations of side 4. -/
theorem at10 (r : Fin 2048) (l : Fin 256) : (W10 m ρ c main_v368 : Vec Ideal S2048x256 .f32) (ix2 r l) = ((rl 4 64 N.x2 r l : ℝ) : EReal) := by
  rw [show W10 m ρ c main_v368 = _ from (W10_arr m ρ c 4).trans (region4 (V9 m ρ) c)]
  exact conv4 (in4 H) r l

/-- What the transposed convolution from 64 to 32 channels reads. -/
theorem in5 : TIn 4 64 32 (W11 m ρ c main_v368) (W11 m ρ c main_v369) N.x2 N.T2 where
  rows r k := (congrFun (W11_of m ρ c main_v368 (by decide)) _).trans (at10 H r k)
  mats i j k l := (cast5 (W10 m ρ c) _).trans ((congrFun (keep10 m ρ c main_v99 (by decide)) _).trans (read99 (W0 m ρ c) N.T2 H.h8 i j k l))

/-- After the transposed convolution from 64 to 32 channels: its four parts. -/
theorem at12 (r : Fin 2048) (l : Fin 256) :
    (W12 m ρ c main_v370_0 : Vec Ideal S2048x256 .f32) (ix2 r l) = ((tpart 4 64 32 N.x2 N.T2 0 0 r l : ℝ) : EReal)
    ∧ (W12 m ρ c main_v370_1 : Vec Ideal S2048x256 .f32) (ix2 r l) = ((tpart 4 64 32 N.x2 N.T2 0 1 r l : ℝ) : EReal)
    ∧ (W12 m ρ c main_v370_2 : Vec Ideal S2048x256 .f32) (ix2 r l) = ((tpart 4 64 32 N.x2 N.T2 1 0 r l : ℝ) : EReal)
    ∧ (W12 m ρ c main_v370_3 : Vec Ideal S2048x256 .f32) (ix2 r l) = ((tpart 4 64 32 N.x2 N.T2 1 1 r l : ℝ) : EReal) := by
  obtain ⟨e0, e1, e2, e3, -⟩ := region5 (V11 m ρ) c
  rw [show W12 m ρ c main_v370_0 = _ from (W12_arr m ρ c 2).trans e0, show W12 m ρ c main_v370_1 = _ from (W12_arr m ρ c 3).trans e1,
    show W12 m ρ c main_v370_2 = _ from (W12_arr m ρ c 4).trans e2, show W12 m ρ c main_v370_3 = _ from (W12_arr m ρ c 5).trans e3]
  exact parts5 (in5 H) r l

/-- After the transposed convolution from 64 to 32 channels: the sums and the sums of squares of its columns. -/
theorem stat12 (l : Fin 256) :
    (W12 m ρ c main_v370_4 : Vec Ideal S2x256 .f32) (ix2 0 l) = ((ttot 4 64 32 (fun x => x) N.x2 N.T2 l : ℝ) : EReal)
    ∧ (W12 m ρ c main_v370_4 : Vec Ideal S2x256 .f32) (ix2 1 l) = ((ttot 4 64 32 (fun x => x * x) N.x2 N.T2 l : ℝ) : EReal) := by
  obtain ⟨-, -, -, -, e4⟩ := region5 (V11 m ρ) c
  rw [show W12 m ρ c main_v370_4 = _ from (W12_arr m ρ c 6).trans e4]
  exact stat5 (in5 H) l

/-- What the 3-convolution of 32 channels reads. -/
theorem in6 : ConvIn 8 32 (W13 m ρ c main_v378) (W13 m ρ c main_v370_4) (W13 m ρ c main_v379) (W13 m ρ c main_v315) N.t2 N.C2 where
  rows r k := (ilv5 (W12 m ρ c) (tpart 4 64 32 N.x2 N.T2) (fun r l => (at12 H r l).1) (fun r l => (at12 H r l).2.1)
    (fun r l => (at12 H r l).2.2.1) (fun r l => (at12 H r l).2.2.2) r k).trans
    (by rw [ilv_eq (S := 4) N.x2 N.T2 (by norm_num) (by have := k.2; omega)]; rfl)
  stat := ⟨ttot 4 64 32 (fun x => x) N.x2 N.T2, ttot 4 64 32 (fun x => x * x) N.x2 N.T2,
    fun k => (congrFun (W13_of m ρ c main_v370_4 (by decide)) _).trans (stat12 H k).1,
    fun k => (congrFun (W13_of m ρ c main_v370_4 (by decide)) _).trans (stat12 H k).2,
    ttot_carries (fun x => x) N.x2 N.T2 (by norm_num) (by norm_num), ttot_carries (fun x => x * x) N.x2 N.T2 (by norm_num) (by norm_num)⟩
  mats a e k l := (cast6 (W12 m ρ c) _).trans ((congrFun (keep12 m ρ c main_v239 (by decide)) _).trans (read239 (W0 m ρ c) N.C2 H.h9 a e k l))
  chan k l := (congrFun ((W13_of m ρ c main_v315 (by decide)).trans (keep12 m ρ c main_v315 (by decide))) _).trans (read315 (W0 m ρ c) k l)

/-- After the 3-convolution of 32 channels: the activations of side 8. -/
theorem at14 (r : Fin 8192) (l : Fin 256) : (W14 m ρ c main_v380 : Vec Ideal S8192x256 .f32) (ix2 r l) = ((rl 8 32 N.x3 r l : ℝ) : EReal) := by
  rw [show W14 m ρ c main_v380 = _ from (W14_arr m ρ c 4).trans (region6 (V13 m ρ) c)]
  exact conv6 (in6 H) r l

/-- What the transposed convolution from 32 to 16 channels reads. -/
theorem in7 : TIn 8 32 16 (W15 m ρ c main_v380) (W15 m ρ c main_v381) N.x3 N.T3 where
  rows r k := (congrFun (W15_of m ρ c main_v380 (by decide)) _).trans (at14 H r k)
  mats i j k l := (cast7 (W14 m ρ c) _).trans ((congrFun (keep14 m ρ c main_v131 (by decide)) _).trans (read131 (W0 m ρ c) N.T3 H.h10 i j k l))

/-- After the transposed convolution from 32 to 16 channels: its four parts. -/
theorem at16 (r : Fin 8192) (l : Fin 256) :
    (W16 m ρ c main_v382_0 : Vec Ideal S8192x256 .bf16) (ix2 r l) = ((tpart 8 32 16 N.x3 N.T3 0 0 r l : ℝ) : EReal)
    ∧ (W16 m ρ c main_v382_1 : Vec Ideal S8192x256 .bf16) (ix2 r l) = ((tpart 8 32 16 N.x3 N.T3 0 1 r l : ℝ) : EReal)
    ∧ (W16 m ρ c main_v382_2 : Vec Ideal S8192x256 .bf16) (ix2 r l) = ((tpart 8 32 16 N.x3 N.T3 1 0 r l : ℝ) : EReal)
    ∧ (W16 m ρ c main_v382_3 : Vec Ideal S8192x256 .bf16) (ix2 r l) = ((tpart 8 32 16 N.x3 N.T3 1 1 r l : ℝ) : EReal) := by
  obtain ⟨e0, e1, e2, e3, -⟩ := region7 (V15 m ρ) c
  rw [show W16 m ρ c main_v382_0 = _ from (W16_arr m ρ c 2).trans e0, show W16 m ρ c main_v382_1 = _ from (W16_arr m ρ c 3).trans e1,
    show W16 m ρ c main_v382_2 = _ from (W16_arr m ρ c 4).trans e2, show W16 m ρ c main_v382_3 = _ from (W16_arr m ρ c 5).trans e3]
  exact parts7 (in7 H) r l

/-- After the transposed convolution from 32 to 16 channels: the sums and the sums of squares of its columns. -/
theorem stat16 (l : Fin 256) :
    (W16 m ρ c main_v382_4 : Vec Ideal S2x256 .f32) (ix2 0 l) = ((ttot 8 32 16 (fun x => x) N.x3 N.T3 l : ℝ) : EReal)
    ∧ (W16 m ρ c main_v382_4 : Vec Ideal S2x256 .f32) (ix2 1 l) = ((ttot 8 32 16 (fun x => x * x) N.x3 N.T3 l : ℝ) : EReal) := by
  obtain ⟨-, -, -, -, e4⟩ := region7 (V15 m ρ) c
  rw [show W16 m ρ c main_v382_4 = _ from (W16_arr m ρ c 6).trans e4]
  exact stat7 (in7 H) l

/-- What the 3-convolution of 16 channels reads. -/
theorem in8 : ConvIn 16 16 (W17 m ρ c main_v390) (W17 m ρ c main_v382_4) (W17 m ρ c main_v276) (W17 m ρ c main_v328) N.t3 N.C3 where
  rows r k := (ilv7 (W16 m ρ c) (tpart 8 32 16 N.x3 N.T3) (fun r l => (at16 H r l).1) (fun r l => (at16 H r l).2.1)
    (fun r l => (at16 H r l).2.2.1) (fun r l => (at16 H r l).2.2.2) r k).trans
    (by rw [ilv_eq (S := 8) N.x3 N.T3 (by norm_num) (by have := k.2; omega)]; rfl)
  stat := ⟨ttot 8 32 16 (fun x => x) N.x3 N.T3, ttot 8 32 16 (fun x => x * x) N.x3 N.T3,
    fun k => (congrFun (W17_of m ρ c main_v382_4 (by decide)) _).trans (stat16 H k).1,
    fun k => (congrFun (W17_of m ρ c main_v382_4 (by decide)) _).trans (stat16 H k).2,
    ttot_carries (fun x => x) N.x3 N.T3 (by norm_num) (by norm_num), ttot_carries (fun x => x * x) N.x3 N.T3 (by norm_num) (by norm_num)⟩
  mats a e k l := (congrFun ((W17_of m ρ c main_v276 (by decide)).trans (keep16 m ρ c main_v276 (by decide))) _).trans (read276 (W0 m ρ c) N.C3 H.h11 a e k l)
  chan k l := (congrFun ((W17_of m ρ c main_v328 (by decide)).trans (keep16 m ρ c main_v328 (by decide))) _).trans (read328 (W0 m ρ c) k l)

/-- What the last call reads. -/
theorem in9 : FinIn (W18 m ρ c main_v391_1) (W18 m ρ c main_v328) (W18 m ρ c main_v341) (W18 m ρ c main_v343) N.z4 N.WF N.BF where
  tot t l := by
    rw [show W18 m ρ c main_v391_1 = _ from (W18_arr m ρ c 7).trans (region8_s (V17 m ρ) c (in8 H))]
    rfl
  sq t l := by
    rw [show W18 m ρ c main_v391_1 = _ from (W18_arr m ρ c 7).trans (region8_s (V17 m ρ) c (in8 H))]
    rfl
  chan k l := (congrFun (keep18 m ρ c main_v328 (by decide)) _).trans (read328 (W0 m ρ c) k l)
  wts k o := (congrFun (keep18 m ρ c main_v341 (by decide)) _).trans (read341 (W0 m ρ c) N.WF H.h12 k o)
  bias o := (congrFun (keep18 m ρ c main_v343 (by decide)) _).trans ((read343 (W0 m ρ c) o).trans H.h13)

/-- The kernel's result: the logistic function of the generator's number. -/
theorem result (b : Fin 128) (d h w : Fin 16) :
    (W20 m ρ c main_v395 : Vec Ideal S128x1x16x16x16 .f32) (ix5 b 0 d h w) = Ideal.logistic ((N.out b d h w : ℝ) : EReal) := by
  refine (read395 (W19 m ρ c) b d h w).trans ?_
  rw [show W19 m ρ c main_v392 = _ from (W19_arr m ρ c 5).trans (region9 (V18 m ρ) c (in9 H) fun r k => by
    rw [show V18 m ρ c main_v391_0 = _ from (W18_arr m ρ c 6).trans (region8_z (V17 m ρ) c (in8 H))]; rfl)]
  have hb := b.2
  have hh := h.2
  show Ideal.logistic ((∑ q ∈ Finset.range 16, bnl 16 N.z4 (((d * 16 + h) * 128 + b : ℕ) % 128) q (((d * 16 + h) * 128 + b : ℕ) / 128 / 16)
    (((d * 16 + h) * 128 + b : ℕ) / 128 % 16) w * N.WF q + N.BF : ℝ) : EReal) = _
  rw [show ((d * 16 + h) * 128 + b : ℕ) % 128 = b by omega, show ((d * 16 + h) * 128 + b : ℕ) / 128 / 16 = d by omega,
    show ((d * 16 + h) * 128 + b : ℕ) / 128 % 16 = h by omega]
  rfl

end Cert.KV
end
-- ==== Proof.Finite.lean ====
module

public import proofs.«01_k».proof.Proof.Gen.Pre_finite
public import proofs.«01_k».proof.Proof.KChain
public import Idealize.ShloMosaic.Lib.ReduceAll

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

/-- A number whose magnitude tests below infinity is real. -/
theorem real_of_test {x : EReal} (h : Ideal.cmp .olt (max x (-x)) (Ideal.ofBits .f32 0x7F800000#32) = 1#1) :
    x = ((x.toReal : ℝ) : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => rfl

/-- There is one index of a scalar. -/
instance : Subsingleton (Shape.Idx Cert.Pre_finite.S_) := ⟨fun a b => funext fun i => i.elim0⟩

/-- An array that passes the host's test of all its magnitudes has real entries. -/
theorem real_of_all {s : Shape} {axes : List (Fin s.rank)} (v : FVec Ideal s .f32) (bc hr) (hu : 0 < Cert.Pre_finite.S_.numel)
    (j : Shape.Idx Cert.Pre_finite.S_)
    (h : Host.reduce IntOp.andi (cmpf .olt (Host.absf v)
      (broadcastInDim s (![] : Fin 0 → Fin s.rank) bc (constant Cert.Pre_finite.S_ .f32 0x7F800000#32)))
      (constantI Cert.Pre_finite.S_ 1 1#1) (axes := axes) (t := Cert.Pre_finite.S_) hr hu j = 1#1) (i : s.Idx) :
    v i = (((v i : EReal).toReal : ℝ) : EReal) :=
  real_of_test (Host.reduce_andi_all _ _ _ _ j h i)

/-- The real entries of an array, zero outside it. -/
def re1 {n : ℕ} (a : (⟨1, ![n]⟩ : Shape).Idx → EReal) (i : ℕ) : ℝ :=
  if h : i < n then (a (ix1 ⟨i, h⟩)).toReal else 0

@[inherit_doc re1] def re2 {n0 n1 : ℕ} (a : (⟨2, ![n0, n1]⟩ : Shape).Idx → EReal) (i j : ℕ) : ℝ :=
  if h : i < n0 ∧ j < n1 then (a (ix2 ⟨i, h.1⟩ ⟨j, h.2⟩)).toReal else 0

@[inherit_doc re1] def re5 {n0 n1 n2 n3 n4 : ℕ} (a : (⟨5, ![n0, n1, n2, n3, n4]⟩ : Shape).Idx → EReal) : A5 := fun p q r x o =>
  if h : p < n0 ∧ q < n1 ∧ r < n2 ∧ x < n3 ∧ o < n4 then
    (a (ix5 ⟨p, h.1⟩ ⟨q, h.2.1⟩ ⟨r, h.2.2.1⟩ ⟨x, h.2.2.2.1⟩ ⟨o, h.2.2.2.2⟩)).toReal else 0

/-- A finite vector holds its real entries. -/
theorem re1_of {n : ℕ} {a : (⟨1, ![n]⟩ : Shape).Idx → EReal} (h : ∀ i, a i = (((a i).toReal : ℝ) : EReal)) (i : Fin n) :
    a (ix1 i) = ((re1 a i : ℝ) : EReal) := by
  unfold re1; rw [dif_pos i.isLt]; exact h _

/-- A finite matrix holds its real entries. -/
theorem re2_of {n0 n1 : ℕ} {a : (⟨2, ![n0, n1]⟩ : Shape).Idx → EReal} (h : ∀ i, a i = (((a i).toReal : ℝ) : EReal))
    (i : Fin n0) (j : Fin n1) : a (ix2 i j) = ((re2 a i j : ℝ) : EReal) := by
  unfold re2; rw [dif_pos ⟨i.isLt, j.isLt⟩]; exact h _

/-- A finite array of five axes holds its real entries. -/
theorem re5_of {n0 n1 n2 n3 n4 : ℕ} {a : (⟨5, ![n0, n1, n2, n3, n4]⟩ : Shape).Idx → EReal}
    (h : ∀ i, a i = (((a i).toReal : ℝ) : EReal)) : Cert.Net.Ent a (re5 a) := by
  intro p q r x o
  unfold re5; rw [dif_pos ⟨p.isLt, q.isLt, r.isLt, x.isLt, o.isLt⟩]; exact h _

open Cert.Net in
/-- Arguments that pass the precondition are the arrays of a real network. -/
theorem exists_net {a0 a1 a2 a3 a4 a5 a6 a7 a8 a9 a10 a11 a12 a13}
    (e : Cert.Pre_finite.fn (F := Ideal) a0 a1 a2 a3 a4 a5 a6 a7 a8 a9 a10 a11 a12 a13 = fun _ => 1#1) :
    ∃ N : Net, IsNet N a0 a1 a2 a3 a4 a5 a6 a7 a8 a9 a10 a11 a12 a13 := by
  have h := congrFun e (fun i => i.elim0)
  unfold Cert.Pre_finite.fn Cert.Pre_finite.fn_part1 Cert.Pre_finite.fn_part2 Cert.Pre_finite.fn_part3 Cert.Pre_finite.fn_part4 at h
  dsimp only [andi] at h
  simp only [IntOp.andi_eq_one] at h
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := h
  exact ⟨⟨re2 a0, re2 a1, re1 a2, re5 a3, re5 a4, re5 a5, re5 a6, re5 a7, re5 a8, re5 a9, re5 a10, re5 a11,
      fun i => re2 a12 i 0, re1 a13 0⟩,
    ⟨re2_of (real_of_all _ _ _ _ _ h0), re2_of (real_of_all _ _ _ _ _ h1), re1_of (real_of_all _ _ _ _ _ h2),
      re5_of (real_of_all _ _ _ _ _ h3), re5_of (real_of_all _ _ _ _ _ h4), re5_of (real_of_all _ _ _ _ _ h5),
      re5_of (real_of_all _ _ _ _ _ h6), re5_of (real_of_all _ _ _ _ _ h7), re5_of (real_of_all _ _ _ _ _ h8),
      re5_of (real_of_all _ _ _ _ _ h9), re5_of (real_of_all _ _ _ _ _ h10), re5_of (real_of_all _ _ _ _ _ h11),
      fun i => re2_of (real_of_all _ _ _ _ _ h12) i 0, re1_of (real_of_all _ _ _ _ _ h13) 0⟩⟩

end Cert.KV
end
-- ==== Proof.KRun.lean ====
module

public import proofs.«01_k».proof.Proof.Gen.KernelIdeal.Frame
public import proofs.«01_k».proof.Proof.KChain

@[expose] public section

set_option maxRecDepth 16384

noncomputable section

namespace Cert.KV

open Idealize.ShloMosaic Idealize.ShloMosaic.TcCoe Idealize.SL.Sem
open Cert.KernelIdeal Cert.KernelIdeal.Gen Cert.Spec Cert.Reals

open Idealize.ShloMosaic.Tactic Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

set_option maxRecDepth 16384

variable (m : (ℓ : Loc nD τ sig) → Buf (Elt Ideal) ℓ) (ρ : Dev nD → PrngReg)

-- the launch's implicit arguments are found by unifying its conclusion with this one
set_option backward.isDefEq.respectTransparency.types false in
/-- The kernel runs, and leaves in every unscoped buffer the contents folded through its calls. -/
theorem run : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W20 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h _ => h)

end Cert.KV
end
-- ==== Proof.RefOps.lean ====
module

public import proofs.«01_k».proof.Proof.Gen.ReferenceIdeal
public import Idealize.ShloMosaic.Lib.StableHlo.RunHlo
public import Idealize.ShloMosaic.Lib.StableHlo.RunRead

/-! The reference's host operations as one list: read off the seventeen pieces of its `main`, then cut again
    at the ends of its layers. -/

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen

variable {F : FTy → Type} [FloatOps F]

/-- One host operation is the line of that operation alone. -/
theorem isSeq_one {nD : Nat} {τ : Topo} {sig : RefSig} {Val : EltTy → Type} {Λ : Labels} {op : HloOp τ sig Val} :
    IsSeq (nD := nD) (Λ := Λ) (hlo rfl op fun _ => .ret (⟨⟩ : PUnit)) [op] := rfl

/-- Two straight lines run one after the other are the line of both lists. -/
theorem isSeq_append {nD : Nat} {τ : Topo} {sig : RefSig} {Val : EltTy → Type} {Λ : Labels}
    {p k : Prog (TpuEff nD τ sig Val Λ .tc) PUnit} {l₁ l₂ : List (HloOp τ sig Val)}
    (h₁ : IsSeq p l₁) (h₂ : IsSeq k l₂) : IsSeq (p >>= fun _ => k) (l₁ ++ l₂) := by
  unfold IsSeq at h₁ h₂ ⊢; rw [seq_append, h₁, h₂]

/-- Piece 0 of `main`, with its list of operations. -/
def s0 : { ops : List (HloOp τ sig (Elt F)) // ∀ d, IsSeq (main_part0 (F := F) d) ops } := by
  apply Subtype.mk; intro d; unfold main_part0
  repeat (first | exact IsSeq.nil | exact isSeq_one | apply IsSeq.cons | apply isSeq_append)

/-- Piece 1 of `main`, with its list of operations. -/
def s1 : { ops : List (HloOp τ sig (Elt F)) // ∀ d, IsSeq (main_part1 (F := F) d) ops } := by
  apply Subtype.mk; intro d; unfold main_part1
  repeat (first | exact IsSeq.nil | exact isSeq_one | apply IsSeq.cons | apply isSeq_append)

/-- Piece 2 of `main`, with its list of operations. -/
def s2 : { ops : List (HloOp τ sig (Elt F)) // ∀ d, IsSeq (main_part2 (F := F) d) ops } := by
  apply Subtype.mk; intro d; unfold main_part2
  repeat (first | exact IsSeq.nil | exact isSeq_one | apply IsSeq.cons | apply isSeq_append)

/-- Piece 3 of `main`, with its list of operations. -/
def s3 : { ops : List (HloOp τ sig (Elt F)) // ∀ d, IsSeq (main_part3 (F := F) d) ops } := by
  apply Subtype.mk; intro d; unfold main_part3
  repeat (first | exact IsSeq.nil | exact isSeq_one | apply IsSeq.cons | apply isSeq_append)

/-- Piece 4 of `main`, with its list of operations. -/
def s4 : { ops : List (HloOp τ sig (Elt F)) // ∀ d, IsSeq (main_part4 (F := F) d) ops } := by
  apply Subtype.mk; intro d; unfold main_part4
  repeat (first | exact IsSeq.nil | exact isSeq_one | apply IsSeq.cons | apply isSeq_append)

/-- Piece 5 of `main`, with its list of operations. -/
def s5 : { ops : List (HloOp τ sig (Elt F)) // ∀ d, IsSeq (main_part5 (F := F) d) ops } := by
  apply Subtype.mk; intro d; unfold main_part5
  repeat (first | exact IsSeq.nil | exact isSeq_one | apply IsSeq.cons | apply isSeq_append)

/-- Piece 6 of `main`, with its list of operations. -/
def s6 : { ops : List (HloOp τ sig (Elt F)) // ∀ d, IsSeq (main_part6 (F := F) d) ops } := by
  apply Subtype.mk; intro d; unfold main_part6
  repeat (first | exact IsSeq.nil | exact isSeq_one | apply IsSeq.cons | apply isSeq_append)

/-- Piece 7 of `main`, with its list of operations. -/
def s7 : { ops : List (HloOp τ sig (Elt F)) // ∀ d, IsSeq (main_part7 (F := F) d) ops } := by
  apply Subtype.mk; intro d; unfold main_part7
  repeat (first | exact IsSeq.nil | exact isSeq_one | apply IsSeq.cons | apply isSeq_append)

/-- Piece 8 of `main`, with its list of operations. -/
def s8 : { ops : List (HloOp τ sig (Elt F)) // ∀ d, IsSeq (main_part8 (F := F) d) ops } := by
  apply Subtype.mk; intro d; unfold main_part8
  repeat (first | exact IsSeq.nil | exact isSeq_one | apply IsSeq.cons | apply isSeq_append)

/-- Piece 9 of `main`, with its list of operations. -/
def s9 : { ops : List (HloOp τ sig (Elt F)) // ∀ d, IsSeq (main_part9 (F := F) d) ops } := by
  apply Subtype.mk; intro d; unfold main_part9
  repeat (first | exact IsSeq.nil | exact isSeq_one | apply IsSeq.cons | apply isSeq_append)

/-- Piece 10 of `main`, with its list of operations. -/
def s10 : { ops : List (HloOp τ sig (Elt F)) // ∀ d, IsSeq (main_part10 (F := F) d) ops } := by
  apply Subtype.mk; intro d; unfold main_part10
  repeat (first | exact IsSeq.nil | exact isSeq_one | apply IsSeq.cons | apply isSeq_append)

/-- Piece 11 of `main`, with its list of operations. -/
def s11 : { ops : List (HloOp τ sig (Elt F)) // ∀ d, IsSeq (main_part11 (F := F) d) ops } := by
  apply Subtype.mk; intro d; unfold main_part11
  repeat (first | exact IsSeq.nil | exact isSeq_one | apply IsSeq.cons | apply isSeq_append)

/-- Piece 12 of `main`, with its list of operations. -/
def s12 : { ops : List (HloOp τ sig (Elt F)) // ∀ d, IsSeq (main_part12 (F := F) d) ops } := by
  apply Subtype.mk; intro d; unfold main_part12
  repeat (first | exact IsSeq.nil | exact isSeq_one | apply IsSeq.cons | apply isSeq_append)

/-- Piece 13 of `main`, with its list of operations. -/
def s13 : { ops : List (HloOp τ sig (Elt F)) // ∀ d, IsSeq (main_part13 (F := F) d) ops } := by
  apply Subtype.mk; intro d; unfold main_part13
  repeat (first | exact IsSeq.nil | exact isSeq_one | apply IsSeq.cons | apply isSeq_append)

/-- Piece 14 of `main`, with its list of operations. -/
def s14 : { ops : List (HloOp τ sig (Elt F)) // ∀ d, IsSeq (main_part14 (F := F) d) ops } := by
  apply Subtype.mk; intro d; unfold main_part14
  repeat (first | exact IsSeq.nil | exact isSeq_one | apply IsSeq.cons | apply isSeq_append)

/-- Piece 15 of `main`, with its list of operations. -/
def s15 : { ops : List (HloOp τ sig (Elt F)) // ∀ d, IsSeq (main_part15 (F := F) d) ops } := by
  apply Subtype.mk; intro d; unfold main_part15
  repeat (first | exact IsSeq.nil | exact isSeq_one | apply IsSeq.cons | apply isSeq_append)

/-- Piece 16 of `main`, with its list of operations. -/
def s16 : { ops : List (HloOp τ sig (Elt F)) // ∀ d, IsSeq (main_part16 (F := F) d) ops } := by
  apply Subtype.mk; intro d; unfold main_part16
  repeat (first | exact IsSeq.nil | exact isSeq_one | apply IsSeq.cons | apply isSeq_append)

/-- All operations of `main`, in order. -/
def ops : List (HloOp τ sig (Elt F)) :=
  s0.1 ++ (s1.1 ++ (s2.1 ++ (s3.1 ++ (s4.1 ++ (s5.1 ++ (s6.1 ++ (s7.1 ++ (s8.1 ++ (s9.1 ++ (s10.1 ++ (s11.1 ++ (s12.1 ++ (s13.1 ++ (s14.1 ++ (s15.1 ++ (s16.1))))))))))))))))

/-- `main` is the straight line of `ops`. -/
theorem main_isSeq (d : Dev nD) : IsSeq (main (F := F) d) ops := by
  unfold main ops
  refine isSeq_append (s0.2 d) ?_
  refine isSeq_append (s1.2 d) ?_
  refine isSeq_append (s2.2 d) ?_
  refine isSeq_append (s3.2 d) ?_
  refine isSeq_append (s4.2 d) ?_
  refine isSeq_append (s5.2 d) ?_
  refine isSeq_append (s6.2 d) ?_
  refine isSeq_append (s7.2 d) ?_
  refine isSeq_append (s8.2 d) ?_
  refine isSeq_append (s9.2 d) ?_
  refine isSeq_append (s10.2 d) ?_
  refine isSeq_append (s11.2 d) ?_
  refine isSeq_append (s12.2 d) ?_
  refine isSeq_append (s13.2 d) ?_
  refine isSeq_append (s14.2 d) ?_
  refine isSeq_append (s15.2 d) ?_
  exact s16.2 d

/-- Operations `a` to `a + n - 1`. -/
def seg (a n : ℕ) : List (HloOp τ sig (Elt F)) := (ops.drop a).take n

end Cert.RefRun

end
-- ==== Proof.RefVal.lean ====
module

public import proofs.«01_k».proof.Proof.RefOps
public import proofs.«01_k».proof.Proof.KSums
public import proofs.«01_k».proof.Proof.Net

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.Spec Cert.Reals Cert.Net Cert.KV

/-- The host's sum of a channel, of real entries. -/
theorem chsum {C S : ℕ} {v : (⟨5, ![128, C, S, S, S]⟩ : Shape).Idx → EReal} {X : A5} (hv : Ent v X)
    (h : (⟨5, ![128, C, S, S, S]⟩ : Shape).ReducesTo [0, 2, 3, 4] ⟨1, ![C]⟩) (o : Fin C) :
    Ideal.hostReduceAdd h v 0 (ix1 o) = ((sum4 S (fun b d h w => X b o d h w) : ℝ) : EReal) := by
  rw [red5, zero_add]
  unfold sum4
  exact sum_coe _ fun b => sum_coe _ fun d => sum_coe _ fun h => sum_coe (fun w => X b o d h w) fun w => hv b o d h w

/-- The normalization and the rectifier of one number, from the channel's two sums. -/
theorem bn_tail {S : ℕ} (hS : 0 < S) (X : A5) (o : ℕ) (x : ℝ) :
    (if (0 : EReal) ≤ Ideal.div ((x : EReal) - Ideal.div ((sum4 S (fun b d h w => X b o d h w) : ℝ) : EReal) (cnt S : EReal))
        (Ideal.sqrt (Ideal.div ((sum4 S (fun b d h w => (X b o d h w - mean S X o) * (X b o d h w - mean S X o)) : ℝ) : EReal)
          (cnt S : EReal) + (eps : EReal)))
      then Ideal.div ((x : EReal) - Ideal.div ((sum4 S (fun b d h w => X b o d h w) : ℝ) : EReal) (cnt S : EReal))
        (Ideal.sqrt (Ideal.div ((sum4 S (fun b d h w => (X b o d h w - mean S X o) * (X b o d h w - mean S X o)) : ℝ) : EReal)
          (cnt S : EReal) + (eps : EReal)))
      else (slp : EReal) * Ideal.div ((x : EReal) - Ideal.div ((sum4 S (fun b d h w => X b o d h w) : ℝ) : EReal) (cnt S : EReal))
        (Ideal.sqrt (Ideal.div ((sum4 S (fun b d h w => (X b o d h w - mean S X o) * (X b o d h w - mean S X o)) : ℝ) : EReal)
          (cnt S : EReal) + (eps : EReal))))
      = ((lrelu ((x - mean S X o) / Real.sqrt (var S X o + eps)) : ℝ) : EReal) := by
  have e1 : Ideal.div ((sum4 S (fun b d h w => X b o d h w) : ℝ) : EReal) (cnt S : EReal) = ((mean S X o : ℝ) : EReal) :=
    div_coe _ (cnt_pos hS).ne'
  have e2 : Ideal.div ((sum4 S (fun b d h w => (X b o d h w - mean S X o) * (X b o d h w - mean S X o)) : ℝ) : EReal)
      (cnt S : EReal) = ((var S X o : ℝ) : EReal) := div_coe _ (cnt_pos hS).ne'
  rw [e1, e2, bnR, lrelu_coe]

/-- A squared difference from the channel's mean, from the channel's sum. -/
theorem sq_tail {S : ℕ} (hS : 0 < S) (X : A5) (o : ℕ) (x : ℝ) :
    ((x : EReal) - Ideal.div ((sum4 S (fun b d h w => X b o d h w) : ℝ) : EReal) (cnt S : EReal))
      * ((x : EReal) - Ideal.div ((sum4 S (fun b d h w => X b o d h w) : ℝ) : EReal) (cnt S : EReal))
      = (((x - mean S X o) * (x - mean S X o) : ℝ) : EReal) := by
  have e1 : Ideal.div ((sum4 S (fun b d h w => X b o d h w) : ℝ) : EReal) (cnt S : EReal) = ((mean S X o : ℝ) : EReal) :=
    div_coe _ (cnt_pos hS).ne'
  rw [e1, ← EReal.coe_sub, ← EReal.coe_mul]

/-- One entry of the transposed convolution. -/
theorem tc_val {C : ℕ} {F : Fin C → EReal} (X W : A5) (b o d h w : ℕ)
    (hF : ∀ k : Fin C, F k = ((W (d % 2) (h % 2) (w % 2) k o : ℝ) : EReal) * ((X b k (d / 2) (h / 2) (w / 2) : ℝ) : EReal)) :
    ∑ k, F k = ((tc C X W b o d h w : ℝ) : EReal) :=
  sum_coe (fun k => X b k (d / 2) (h / 2) (w / 2) * W (d % 2) (h % 2) (w % 2) k o)
    fun k => (hF k).trans (by rw [← EReal.coe_mul, mul_comm])

/-- One tap of the 3-convolution. -/
theorem tapR {C C' P0 P1 P2 : ℕ} {wv : (⟨5, ![3, 3, 3, C, C']⟩ : Shape).Idx → EReal} {pv : (⟨5, ![128, C, P0, P1, P2]⟩ : Shape).Idx → EReal}
    {W Y : A5} (hW : Ent wv W) (hP : Ent pv Y) (p q r : Fin 3) (o : Fin C') (b : Fin 128) (d : Fin P0) (h : Fin P1) (w : Fin P2) :
    ∑ x : Fin C, wv (ix5 p q r x o) * pv (ix5 b x d h w)
      = ((∑ i ∈ Finset.range C, Y b i d h w * W p q r i o : ℝ) : EReal) :=
  sum_coe (fun i => Y b i d h w * W p q r i o) fun k => by rw [hW, hP, ← EReal.coe_mul, mul_comm]

/-- The first convolution's contraction over a channel and the three axes of its cube, as one sum over 2048. -/
theorem dot4 (l : S128x256x2x2x2.Idx → EReal) (r : S2x2x2x256x256.Idx → EReal) (b : Fin 128) (o : Fin 256) :
    Ideal.matmul dot_S128x256x2x2x2_S2x2x2x256x256_S128x256_1234_3012_0_4_n_n l r (fun _ => 0) (ix2 b o)
      = ∑ n : Fin 2048, l (ix5 b ⟨n / 8, by omega⟩ ⟨n / 4 % 2, by omega⟩ ⟨n / 2 % 2, by omega⟩ ⟨n % 2, by omega⟩)
          * r (ix5 ⟨n / 4 % 2, by omega⟩ ⟨n / 2 % 2, by omega⟩ ⟨n % 2, by omega⟩ ⟨n / 8, by omega⟩ o) := by
  let d := dot_S128x256x2x2x2_S2x2x2x256x256_S128x256_1234_3012_0_4_n_n
  let e : Fin 2048 → d.contr.Idx := fun n x => match x with
    | ⟨0, _⟩ => (⟨n / 8, by omega⟩ : Fin 256)
    | ⟨1, _⟩ => (⟨n / 4 % 2, by omega⟩ : Fin 2)
    | ⟨2, _⟩ => (⟨n / 2 % 2, by omega⟩ : Fin 2)
    | ⟨3, _⟩ => (⟨n % 2, by omega⟩ : Fin 2)
  have he : Function.Bijective e := by
    constructor
    · intro m n q
      have q0 : (m : ℕ) / 8 = n / 8 := congrArg Fin.val (congrFun q ⟨0, by decide⟩)
      have q1 : (m : ℕ) / 4 % 2 = n / 4 % 2 := congrArg Fin.val (congrFun q ⟨1, by decide⟩)
      have q2 : (m : ℕ) / 2 % 2 = n / 2 % 2 := congrArg Fin.val (congrFun q ⟨2, by decide⟩)
      have q3 : (m : ℕ) % 2 = n % 2 := congrArg Fin.val (congrFun q ⟨3, by decide⟩)
      apply Fin.ext; omega
    · intro k
      have k0 := (show Fin 256 from k ⟨0, by decide⟩).isLt
      have k1 := (show Fin 2 from k ⟨1, by decide⟩).isLt
      have k2 := (show Fin 2 from k ⟨2, by decide⟩).isLt
      have k3 := (show Fin 2 from k ⟨3, by decide⟩).isLt
      refine ⟨⟨(show Fin 256 from k ⟨0, by decide⟩).val * 8 + (show Fin 2 from k ⟨1, by decide⟩).val * 4
        + (show Fin 2 from k ⟨2, by decide⟩).val * 2 + (show Fin 2 from k ⟨3, by decide⟩).val, by omega⟩, ?_⟩
      funext x
      apply Fin.ext
      match x with
      | ⟨0, _⟩ => show _ / 8 = (show Fin 256 from k ⟨0, by decide⟩).val; dsimp only; omega
      | ⟨1, _⟩ => show _ / 4 % 2 = (show Fin 2 from k ⟨1, by decide⟩).val; dsimp only; omega
      | ⟨2, _⟩ => show _ / 2 % 2 = (show Fin 2 from k ⟨2, by decide⟩).val; dsimp only; omega
      | ⟨3, _⟩ => show _ % 2 = (show Fin 2 from k ⟨3, by decide⟩).val; dsimp only; omega
  refine (zero_add _).trans ((Fintype.sum_bijective e he _ _ fun n => ?_).symm)
  have hl : d.lhsIdx (ix2 b o) (e n)
      = ix5 b ⟨n / 8, by omega⟩ ⟨n / 4 % 2, by omega⟩ ⟨n / 2 % 2, by omega⟩ ⟨n % 2, by omega⟩ := by
    funext x; apply Fin.ext
    match x with
    | ⟨0, _⟩ => rfl
    | ⟨1, _⟩ => rfl
    | ⟨2, _⟩ => rfl
    | ⟨3, _⟩ => rfl
    | ⟨4, _⟩ => rfl
  have hr : d.rhsIdx (ix2 b o) (e n)
      = ix5 ⟨n / 4 % 2, by omega⟩ ⟨n / 2 % 2, by omega⟩ ⟨n % 2, by omega⟩ ⟨n / 8, by omega⟩ o := by
    funext x; apply Fin.ext
    match x with
    | ⟨0, _⟩ => rfl
    | ⟨1, _⟩ => rfl
    | ⟨2, _⟩ => rfl
    | ⟨3, _⟩ => rfl
    | ⟨4, _⟩ => rfl
  show _ = l (d.lhsIdx (ix2 b o) (e n)) * r (d.rhsIdx (ix2 b o) (e n))
  rw [hl, hr]

/-- A sum of two real values. -/
theorem add_coe {x y : EReal} {r s : ℝ} (hx : x = (r : EReal)) (hy : y = (s : EReal)) : x + y = ((r + s : ℝ) : EReal) := by
  rw [hx, hy, EReal.coe_add]

/-- One tap's sum over the input channels. -/
def tp (C : ℕ) (Y W : A5) (b o p q r d h w : ℕ) : ℝ := ∑ i ∈ Finset.range C, Y b i d h w * W p q r i o

/-- The 3-convolution as its 27 taps, summed from the left. -/
theorem cv27 (C S : ℕ) (X W : A5) (b o d h w : ℕ) :
    cv C S X W b o d h w
      = tp C (pad1 S X) W b o 0 0 0 d h w + tp C (pad1 S X) W b o 0 0 1 d h (1 + w) + tp C (pad1 S X) W b o 0 0 2 d h (2 + w)
        + tp C (pad1 S X) W b o 0 1 0 d (1 + h) w + tp C (pad1 S X) W b o 0 1 1 d (1 + h) (1 + w)
        + tp C (pad1 S X) W b o 0 1 2 d (1 + h) (2 + w)
        + tp C (pad1 S X) W b o 0 2 0 d (2 + h) w + tp C (pad1 S X) W b o 0 2 1 d (2 + h) (1 + w)
        + tp C (pad1 S X) W b o 0 2 2 d (2 + h) (2 + w)
        + tp C (pad1 S X) W b o 1 0 0 (1 + d) h w + tp C (pad1 S X) W b o 1 0 1 (1 + d) h (1 + w)
        + tp C (pad1 S X) W b o 1 0 2 (1 + d) h (2 + w)
        + tp C (pad1 S X) W b o 1 1 0 (1 + d) (1 + h) w + tp C (pad1 S X) W b o 1 1 1 (1 + d) (1 + h) (1 + w)
        + tp C (pad1 S X) W b o 1 1 2 (1 + d) (1 + h) (2 + w)
        + tp C (pad1 S X) W b o 1 2 0 (1 + d) (2 + h) w + tp C (pad1 S X) W b o 1 2 1 (1 + d) (2 + h) (1 + w)
        + tp C (pad1 S X) W b o 1 2 2 (1 + d) (2 + h) (2 + w)
        + tp C (pad1 S X) W b o 2 0 0 (2 + d) h w + tp C (pad1 S X) W b o 2 0 1 (2 + d) h (1 + w)
        + tp C (pad1 S X) W b o 2 0 2 (2 + d) h (2 + w)
        + tp C (pad1 S X) W b o 2 1 0 (2 + d) (1 + h) w + tp C (pad1 S X) W b o 2 1 1 (2 + d) (1 + h) (1 + w)
        + tp C (pad1 S X) W b o 2 1 2 (2 + d) (1 + h) (2 + w)
        + tp C (pad1 S X) W b o 2 2 0 (2 + d) (2 + h) w + tp C (pad1 S X) W b o 2 2 1 (2 + d) (2 + h) (1 + w)
        + tp C (pad1 S X) W b o 2 2 2 (2 + d) (2 + h) (2 + w) := by
  unfold cv tp
  simp only [Finset.sum_range_succ _ 0, Finset.sum_range_succ _ 1, Finset.sum_range_succ _ 2, Finset.sum_range_zero, zero_add,
    Nat.add_zero, Nat.add_comm d 1, Nat.add_comm d 2, Nat.add_comm h 1, Nat.add_comm h 2, Nat.add_comm w 1, Nat.add_comm w 2,
    ← add_assoc]

/-- One entry of the border of zeros. -/
theorem pad_val {S : ℕ} {c : Prop} [Decidable c] {x : c → EReal} {z : EReal} (X : A5) (b o d h w : ℕ)
    (hc : c ↔ (1 ≤ d ∧ d ≤ S) ∧ (1 ≤ h ∧ h ≤ S) ∧ (1 ≤ w ∧ w ≤ S))
    (hx : ∀ k, x k = ((X b o (d - 1) (h - 1) (w - 1) : ℝ) : EReal)) (hz : z = 0) :
    (if k : c then x k else z) = ((pad1 S X b o d h w : ℝ) : EReal) := by
  unfold pad1
  by_cases k : c
  · rw [dif_pos k, if_pos (hc.1 k), hx]
  · rw [dif_neg k, if_neg (fun t => k (hc.2 t)), hz, EReal.coe_zero]

/-- The number the border is filled with. -/
theorem fill_zero : (FloatOps.sitofp FTy.f32 0#32 : Ideal .f32) = (0 : EReal) := by
  show (((0#32 : BitVec 32).toInt : ℝ) : EReal) = 0
  simp

end Cert.RefRun
end
-- ==== Proof.RefRun.lean ====
module

public import proofs.«01_k».proof.Proof.RefVal

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.Spec Cert.Reals Cert.Net Cert.KV

/-- An operation on the TensorCore's buffers that allocates nothing and writes one value that is not an argument. -/
def Good (op : HloOp τ sig (Elt Ideal)) : Prop :=
  op.bufs ⊆ tcRefs τ sig ∧ op.fresh = ∅ ∧ ∃ y : Ref sig .tc, op.writes = {Proc.devRef (τ := τ) .tc y} ∧ 14 ≤ (y.idx : ℕ)

/-- No operation needs no argument. -/
theorem good_nil : ∀ op ∈ ([] : List (HloOp τ sig (Elt Ideal))), Good op := fun _ h => absurd h List.not_mem_nil

/-- A good operation before good ones. -/
theorem good_cons {a : HloOp τ sig (Elt Ideal)} {l : List (HloOp τ sig (Elt Ideal))} (hl : ∀ op ∈ l, Good op) (ha : Good a) :
    ∀ op ∈ a :: l, Good op := by
  intro op h
  rcases List.mem_cons.1 h with rfl | h
  exacts [ha, hl op h]

/-- Good operations after good ones. -/
theorem good_append {l₁ l₂ : List (HloOp τ sig (Elt Ideal))} (h₁ : ∀ op ∈ l₁, Good op) (h₂ : ∀ op ∈ l₂, Good op) :
    ∀ op ∈ l₁ ++ l₂, Good op := fun op h => (List.mem_append.1 h).elim (h₁ op) (h₂ op)

/-- A constant is a good operation. -/
theorem good_nullary {y : Ref sig .tc} (v : y.ty.Contents (Elt Ideal)) (hy) (h : 14 ≤ (y.idx : ℕ)) :
    Good (nullary (τ := τ) y v hy) := ⟨nullary_bufs_sub .., rfl, y, rfl, h⟩

/-- An operation of one operand is good. -/
theorem good_unary {x y : Ref sig .tc} (f : x.ty.Contents (Elt Ideal) → y.ty.Contents (Elt Ideal)) (hx hy)
    (h : 14 ≤ (y.idx : ℕ)) : Good (unary (τ := τ) x y f hx hy) := ⟨unary_bufs_sub .., rfl, y, rfl, h⟩

/-- An operation of two operands is good. -/
theorem good_binary {a b y : Ref sig .tc}
    (f : a.ty.Contents (Elt Ideal) → b.ty.Contents (Elt Ideal) → y.ty.Contents (Elt Ideal)) (ha hb hy)
    (h : 14 ≤ (y.idx : ℕ)) : Good (binary (τ := τ) a b y f ha hb hy) := ⟨binary_bufs_sub .., rfl, y, rfl, h⟩

/-- An operation of three operands is good. -/
theorem good_ternary {c a b y : Ref sig .tc}
    (f : c.ty.Contents (Elt Ideal) → a.ty.Contents (Elt Ideal) → b.ty.Contents (Elt Ideal) → y.ty.Contents (Elt Ideal)) (hc ha hb hy)
    (h : 14 ≤ (y.idx : ℕ)) : Good (ternary (τ := τ) c a b y f hc ha hb hy) := ⟨ternary_bufs_sub .., rfl, y, rfl, h⟩

/-- A reshape is good. -/
theorem good_reshape {x y : Ref sig .tc} (he hn hx hy) (h : 14 ≤ (y.idx : ℕ)) :
    Good (reshape (τ := τ) (Val := Elt Ideal) x y he hn hx hy) := ⟨reshape_bufs_sub .., rfl, y, rfl, h⟩

set_option maxHeartbeats 8000000 in
/-- Every operation of the reference is such a one. -/
theorem ops_good : ∀ op ∈ (ops (F := Ideal)), Good op := by
  delta ops s0 s1 s2 s3 s4 s5 s6 s7 s8 s9 s10 s11 s12 s13 s14 s15 s16
  dsimp only
  repeat' with_reducible refine good_append ?_ ?_
  all_goals repeat (with_reducible refine good_cons ?_ ?_)
  all_goals first
    | with_reducible refine good_unary _ _ _ ?_
    | with_reducible refine good_binary _ _ _ _ ?_
    | with_reducible refine good_nullary _ _ ?_
    | with_reducible refine good_reshape _ _ _ _ ?_
    | with_reducible exact good_nil
    | refine ⟨ternary_bufs_sub .., rfl, _, rfl, ?_⟩
    | refine ⟨unary_bufs_sub .., rfl, _, rfl, ?_⟩
    | refine ⟨binary_bufs_sub .., rfl, _, rfl, ?_⟩
  all_goals exact Nat.le_of_ble_eq_true rfl

/-- One line after another. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The reference's values after its first `n` operations. -/
def st (V : Valuation τ sig (Elt Ideal)) (n : ℕ) : Valuation τ sig (Elt Ideal) := after (ops.take n) V

/-- The next `n` operations. -/
theorem step (V : Valuation τ sig (Elt Ideal)) (a n k : ℕ) (h : a + n = k) : after (seg a n) (st V a) = st V k := by
  subst h
  unfold st seg
  rw [List.take_add, after_app]

/-- No operation changes an argument. -/
theorem st_arg (V : Valuation τ sig (Elt Ideal)) (n : ℕ) (r : Ref sig .tc) (hr : (r.idx : ℕ) < 14) :
    st V n (Proc.devRef .tc r) = V (Proc.devRef .tc r) := by
  refine after_of_forall_not_mem _ V fun op ho hb => ?_
  obtain ⟨_, _, y, hy, hi⟩ := ops_good op (List.mem_of_mem_take ho)
  rw [hy, Finset.mem_singleton] at hb
  have e : r = y := Proc.devRef_injective _ hb
  subst e
  omega

/-- The reference is 996 operations. -/
theorem ops_len : (ops (F := Ideal)).length = 996 := rfl

/-- All the operations. -/
theorem st_all (V : Valuation τ sig (Elt Ideal)) : st V 996 = after ops V := by
  unfold st
  rw [List.take_of_length_le (le_of_eq ops_len)]

/-- The reference runs, and leaves in every buffer what its operations leave there; its counters read zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (d : Dev nD) (b : Ref sig .tc), r.2.mem ((d.tc : Thread nD τ).loc b) = st (launchContents m d) 996 (Proc.devRef .tc b))
      ∧ r.2.sem = fun _ => 0 :=
  θ_run_mono (run_hlo defs main main_isSeq (by decide) (by decide)
    (List.forall_iff_forall_mem.2 fun op ho => (ops_good op ho).1) (fun op ho => (ops_good op ho).2.1) m ρ)
    fun r h => ⟨fun d b => by rw [st_all]; exact h d b, sem_eq_zero_of_no_sems rfl _⟩

end Cert.RefRun
end
-- ==== Proof.RefBn.lean ====
module

public import proofs.«01_k».proof.Proof.RefVal

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.Spec Cert.Reals Cert.Net Cert.KV

set_option maxHeartbeats 8000000 in
/-- The normalization of the activations of side 1. -/
theorem bn0 (V : Valuation τ sig (Elt Ideal)) {X : A5} (hX : Ent (V main_v12 : FVec Ideal S128x256x1x1x1 .f32) X) :
    Ent (after (seg 15 32) V main_v37 : FVec Ideal S128x256x1x1x1 .f32) (bnl 1 X) := by
  intro b o d h w
  obtain rfl : d = 0 := Subsingleton.elim _ _
  obtain rfl : h = 0 := Subsingleton.elim _ _
  obtain rfl : w = 0 := Subsingleton.elim _ _
  after_reads_simp
  simp only [TRef.toBuf, TRef.ofBuf, cast_eq]
  pointwise
  rw [chsum hX, chsum (X := fun b o d h w => (X b o d h w - mean 1 X o) * (X b o d h w - mean 1 X o)) ?hq, hX, lit_eps,
    lit_slope, lit_cnt1]
  case hq =>
    intro b o d h w
    pointwise
    obtain rfl : d = 0 := Subsingleton.elim _ _
    obtain rfl : h = 0 := Subsingleton.elim _ _
    obtain rfl : w = 0 := Subsingleton.elim _ _
    rw [chsum hX, hX, lit_cnt1]
    exact sq_tail (S := 1) (by norm_num) X o _
  exact bn_tail (S := 1) (by norm_num) X o _

set_option maxHeartbeats 8000000 in
/-- The first normalization of side 2. -/
theorem bn1 (V : Valuation τ sig (Elt Ideal)) {X : A5} (hX : Ent (V main_v40 : FVec Ideal S128x128x2x2x2 .f32) X) :
    Ent (after (seg 50 32) V main_v65 : FVec Ideal S128x128x2x2x2 .f32) (bnl 2 X) := by
  intro b o d h w
  after_reads_simp
  simp only [TRef.toBuf, TRef.ofBuf, cast_eq]
  pointwise
  rw [chsum hX, chsum (X := fun b o d h w => (X b o d h w - mean 2 X o) * (X b o d h w - mean 2 X o)) ?hq, hX, lit_eps,
    lit_slope, lit_cnt2]
  case hq =>
    intro b o d h w
    pointwise
    rw [chsum hX, hX, lit_cnt2]
    exact sq_tail (by norm_num) X o _
  exact bn_tail (by norm_num) X o _

set_option maxHeartbeats 8000000 in
/-- The second normalization of side 2. -/
theorem bn2 (V : Valuation τ sig (Elt Ideal)) {X : A5} (hX : Ent (V main_v229 : FVec Ideal S128x128x2x2x2 .f32) X) :
    Ent (after (seg 249 32) V main_v254 : FVec Ideal S128x128x2x2x2 .f32) (bnl 2 X) := by
  intro b o d h w
  after_reads_simp
  simp only [TRef.toBuf, TRef.ofBuf, cast_eq]
  pointwise
  rw [chsum hX, chsum (X := fun b o d h w => (X b o d h w - mean 2 X o) * (X b o d h w - mean 2 X o)) ?hq, hX, lit_eps,
    lit_slope, lit_cnt2]
  case hq =>
    intro b o d h w
    pointwise
    rw [chsum hX, hX, lit_cnt2]
    exact sq_tail (by norm_num) X o _
  exact bn_tail (by norm_num) X o _

set_option maxHeartbeats 8000000 in
/-- The first normalization of side 4. -/
theorem bn3 (V : Valuation τ sig (Elt Ideal)) {X : A5} (hX : Ent (V main_v257 : FVec Ideal S128x64x4x4x4 .f32) X) :
    Ent (after (seg 284 32) V main_v282 : FVec Ideal S128x64x4x4x4 .f32) (bnl 4 X) := by
  intro b o d h w
  after_reads_simp
  simp only [TRef.toBuf, TRef.ofBuf, cast_eq]
  pointwise
  rw [chsum hX, chsum (X := fun b o d h w => (X b o d h w - mean 4 X o) * (X b o d h w - mean 4 X o)) ?hq, hX, lit_eps,
    lit_slope, lit_cnt4]
  case hq =>
    intro b o d h w
    pointwise
    rw [chsum hX, hX, lit_cnt4]
    exact sq_tail (by norm_num) X o _
  exact bn_tail (by norm_num) X o _

set_option maxHeartbeats 8000000 in
/-- The second normalization of side 4. -/
theorem bn4 (V : Valuation τ sig (Elt Ideal)) {X : A5} (hX : Ent (V main_v446 : FVec Ideal S128x64x4x4x4 .f32) X) :
    Ent (after (seg 483 32) V main_v471 : FVec Ideal S128x64x4x4x4 .f32) (bnl 4 X) := by
  intro b o d h w
  after_reads_simp
  simp only [TRef.toBuf, TRef.ofBuf, cast_eq]
  pointwise
  rw [chsum hX, chsum (X := fun b o d h w => (X b o d h w - mean 4 X o) * (X b o d h w - mean 4 X o)) ?hq, hX, lit_eps,
    lit_slope, lit_cnt4]
  case hq =>
    intro b o d h w
    pointwise
    rw [chsum hX, hX, lit_cnt4]
    exact sq_tail (by norm_num) X o _
  exact bn_tail (by norm_num) X o _

set_option maxHeartbeats 8000000 in
/-- The first normalization of side 8. -/
theorem bn5 (V : Valuation τ sig (Elt Ideal)) {X : A5} (hX : Ent (V main_v474 : FVec Ideal S128x32x8x8x8 .f32) X) :
    Ent (after (seg 518 32) V main_v499 : FVec Ideal S128x32x8x8x8 .f32) (bnl 8 X) := by
  intro b o d h w
  after_reads_simp
  simp only [TRef.toBuf, TRef.ofBuf, cast_eq]
  pointwise
  rw [chsum hX, chsum (X := fun b o d h w => (X b o d h w - mean 8 X o) * (X b o d h w - mean 8 X o)) ?hq, hX, lit_eps,
    lit_slope, lit_cnt8]
  case hq =>
    intro b o d h w
    pointwise
    rw [chsum hX, hX, lit_cnt8]
    exact sq_tail (by norm_num) X o _
  exact bn_tail (by norm_num) X o _

set_option maxHeartbeats 8000000 in
/-- The second normalization of side 8. -/
theorem bn6 (V : Valuation τ sig (Elt Ideal)) {X : A5} (hX : Ent (V main_v663 : FVec Ideal S128x32x8x8x8 .f32) X) :
    Ent (after (seg 717 32) V main_v688 : FVec Ideal S128x32x8x8x8 .f32) (bnl 8 X) := by
  intro b o d h w
  after_reads_simp
  simp only [TRef.toBuf, TRef.ofBuf, cast_eq]
  pointwise
  rw [chsum hX, chsum (X := fun b o d h w => (X b o d h w - mean 8 X o) * (X b o d h w - mean 8 X o)) ?hq, hX, lit_eps,
    lit_slope, lit_cnt8]
  case hq =>
    intro b o d h w
    pointwise
    rw [chsum hX, hX, lit_cnt8]
    exact sq_tail (by norm_num) X o _
  exact bn_tail (by norm_num) X o _

set_option maxHeartbeats 8000000 in
/-- The first normalization of side 16. -/
theorem bn7 (V : Valuation τ sig (Elt Ideal)) {X : A5} (hX : Ent (V main_v691 : FVec Ideal S128x16x16x16x16 .f32) X) :
    Ent (after (seg 752 32) V main_v716 : FVec Ideal S128x16x16x16x16 .f32) (bnl 16 X) := by
  intro b o d h w
  after_reads_simp
  simp only [TRef.toBuf, TRef.ofBuf, cast_eq]
  pointwise
  rw [chsum hX, chsum (X := fun b o d h w => (X b o d h w - mean 16 X o) * (X b o d h w - mean 16 X o)) ?hq, hX, lit_eps,
    lit_slope, lit_cnt16]
  case hq =>
    intro b o d h w
    pointwise
    rw [chsum hX, hX, lit_cnt16]
    exact sq_tail (by norm_num) X o _
  exact bn_tail (by norm_num) X o _

set_option maxHeartbeats 8000000 in
/-- The second normalization of side 16. -/
theorem bn8 (V : Valuation τ sig (Elt Ideal)) {X : A5} (hX : Ent (V main_v880 : FVec Ideal S128x16x16x16x16 .f32) X) :
    Ent (after (seg 951 32) V main_v905 : FVec Ideal S128x16x16x16x16 .f32) (bnl 16 X) := by
  intro b o d h w
  after_reads_simp
  simp only [TRef.toBuf, TRef.ofBuf, cast_eq]
  pointwise
  rw [chsum hX, chsum (X := fun b o d h w => (X b o d h w - mean 16 X o) * (X b o d h w - mean 16 X o)) ?hq, hX, lit_eps,
    lit_slope, lit_cnt16]
  case hq =>
    intro b o d h w
    pointwise
    rw [chsum hX, hX, lit_cnt16]
    exact sq_tail (by norm_num) X o _
  exact bn_tail (by norm_num) X o _

end Cert.RefRun
end
-- ==== Proof.RefTc.lean ====
module

public import proofs.«01_k».proof.Proof.RefVal

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.Spec Cert.Reals Cert.Net Cert.KV

set_option maxHeartbeats 8000000 in
/-- The transposed convolution from side 1 to side 2. -/
theorem tconv0 (V : Valuation τ sig (Elt Ideal)) {X W : A5} (hX : Ent (V main_v37 : FVec Ideal S128x256x1x1x1 .f32) X)
    (hW : Ent (V main_arg4 : FVec Ideal S2x2x2x256x128 .f32) W) :
    Ent (after (seg 47 3) V main_v40 : FVec Ideal S128x128x2x2x2 .f32) (tc 256 X W) := by
  intro b o d h w
  after_reads_simp
  pointwise
  refine tc_val X W b o d h w fun k => ?_
  rw [hX, hW, Nat.mod_eq_of_lt d.isLt, Nat.mod_eq_of_lt h.isLt, Nat.mod_eq_of_lt w.isLt, Nat.div_eq_of_lt d.isLt,
    Nat.div_eq_of_lt h.isLt, Nat.div_eq_of_lt w.isLt]
  rfl

set_option maxHeartbeats 8000000 in
/-- The transposed convolution from side 2 to side 4. -/
theorem tconv1 (V : Valuation τ sig (Elt Ideal)) {X W : A5} (hX : Ent (V main_v254 : FVec Ideal S128x128x2x2x2 .f32) X)
    (hW : Ent (V main_arg6 : FVec Ideal S2x2x2x128x64 .f32) W) :
    Ent (after (seg 281 3) V main_v257 : FVec Ideal S128x64x4x4x4 .f32) (tc 128 X W) := by
  intro b o d h w
  after_reads_simp
  pointwise
  refine tc_val X W b o d h w fun k => ?_
  exact congrArg₂ (· * ·) (hW _ _ _ _ _) (hX _ _ _ _ _)

set_option maxHeartbeats 8000000 in
/-- The transposed convolution from side 4 to side 8. -/
theorem tconv2 (V : Valuation τ sig (Elt Ideal)) {X W : A5} (hX : Ent (V main_v471 : FVec Ideal S128x64x4x4x4 .f32) X)
    (hW : Ent (V main_arg8 : FVec Ideal S2x2x2x64x32 .f32) W) :
    Ent (after (seg 515 3) V main_v474 : FVec Ideal S128x32x8x8x8 .f32) (tc 64 X W) := by
  intro b o d h w
  after_reads_simp
  pointwise
  refine tc_val X W b o d h w fun k => ?_
  exact congrArg₂ (· * ·) (hW _ _ _ _ _) (hX _ _ _ _ _)

set_option maxHeartbeats 8000000 in
/-- The transposed convolution from side 8 to side 16. -/
theorem tconv3 (V : Valuation τ sig (Elt Ideal)) {X W : A5} (hX : Ent (V main_v688 : FVec Ideal S128x32x8x8x8 .f32) X)
    (hW : Ent (V main_arg10 : FVec Ideal S2x2x2x32x16 .f32) W) :
    Ent (after (seg 749 3) V main_v691 : FVec Ideal S128x16x16x16x16 .f32) (tc 32 X W) := by
  intro b o d h w
  after_reads_simp
  pointwise
  refine tc_val X W b o d h w fun k => ?_
  exact congrArg₂ (· * ·) (hW _ _ _ _ _) (hX _ _ _ _ _)

end Cert.RefRun
end
-- ==== Proof.RefPad.lean ====
module

public import proofs.«01_k».proof.Proof.RefVal

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.Spec Cert.Reals Cert.Net Cert.KV

set_option maxHeartbeats 8000000 in
/-- The border of zeros around the activations of side 2. -/
theorem border0 (V : Valuation τ sig (Elt Ideal)) {X : A5} (hX : Ent (V main_v65 : FVec Ideal S128x128x2x2x2 .f32) X) :
    Ent (after (seg 82 3) V main_v66 : FVec Ideal S128x128x4x4x4 .f32) (pad1 2 X) := by
  intro b o d h w
  after_reads_simp
  simp only [TRef.toBuf, TRef.ofBuf, cast_eq]
  pointwise
  exact pad_val X b o d h w (by omega) (fun _ => hX _ _ _ _ _) fill_zero

set_option maxHeartbeats 8000000 in
/-- The border of zeros around the activations of side 4. -/
theorem border1 (V : Valuation τ sig (Elt Ideal)) {X : A5} (hX : Ent (V main_v282 : FVec Ideal S128x64x4x4x4 .f32) X) :
    Ent (after (seg 316 3) V main_v283 : FVec Ideal S128x64x6x6x6 .f32) (pad1 4 X) := by
  intro b o d h w
  after_reads_simp
  simp only [TRef.toBuf, TRef.ofBuf, cast_eq]
  pointwise
  exact pad_val X b o d h w (by omega) (fun _ => hX _ _ _ _ _) fill_zero

set_option maxHeartbeats 8000000 in
/-- The border of zeros around the activations of side 8. -/
theorem border2 (V : Valuation τ sig (Elt Ideal)) {X : A5} (hX : Ent (V main_v499 : FVec Ideal S128x32x8x8x8 .f32) X) :
    Ent (after (seg 550 3) V main_v500 : FVec Ideal S128x32x10x10x10 .f32) (pad1 8 X) := by
  intro b o d h w
  after_reads_simp
  simp only [TRef.toBuf, TRef.ofBuf, cast_eq]
  pointwise
  exact pad_val X b o d h w (by omega) (fun _ => hX _ _ _ _ _) fill_zero

set_option maxHeartbeats 8000000 in
/-- The border of zeros around the activations of side 16. -/
theorem border3 (V : Valuation τ sig (Elt Ideal)) {X : A5} (hX : Ent (V main_v716 : FVec Ideal S128x16x16x16x16 .f32) X) :
    Ent (after (seg 784 3) V main_v717 : FVec Ideal S128x16x18x18x18 .f32) (pad1 16 X) := by
  intro b o d h w
  after_reads_simp
  simp only [TRef.toBuf, TRef.ofBuf, cast_eq]
  pointwise
  exact pad_val X b o d h w (by omega) (fun _ => hX _ _ _ _ _) fill_zero

end Cert.RefRun
end
-- ==== Proof.RefTaps.lean ====
module

public import proofs.«01_k».proof.Proof.RefVal

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.Spec Cert.Reals Cert.Net Cert.KV

set_option maxHeartbeats 8000000 in
/-- The 27 taps of side 2. -/
theorem taps0 (V : Valuation τ sig (Elt Ideal)) {X W : A5} (hX : Ent (V main_v66 : FVec Ideal S128x128x4x4x4 .f32) (pad1 2 X))
    (hW : Ent (V main_arg5 : FVec Ideal S3x3x3x128x128 .f32) W) :
    Ent (after (seg 85 164) V main_v229 : FVec Ideal S128x128x2x2x2 .f32) (cv 128 2 X W) := by
  intro b o d h w
  after_reads_simp
  pointwise
  rw [cv27]
  iterate 26 refine add_coe ?_ (tapR hW hX _ _ _ _ _ _ _ _)
  exact tapR hW hX _ _ _ _ _ _ _ _

set_option maxHeartbeats 8000000 in
/-- The 27 taps of side 4. -/
theorem taps1 (V : Valuation τ sig (Elt Ideal)) {X W : A5} (hX : Ent (V main_v283 : FVec Ideal S128x64x6x6x6 .f32) (pad1 4 X))
    (hW : Ent (V main_arg7 : FVec Ideal S3x3x3x64x64 .f32) W) :
    Ent (after (seg 319 164) V main_v446 : FVec Ideal S128x64x4x4x4 .f32) (cv 64 4 X W) := by
  intro b o d h w
  after_reads_simp
  pointwise
  rw [cv27]
  iterate 26 refine add_coe ?_ (tapR hW hX _ _ _ _ _ _ _ _)
  exact tapR hW hX _ _ _ _ _ _ _ _

set_option maxHeartbeats 8000000 in
/-- The 27 taps of side 8. -/
theorem taps2 (V : Valuation τ sig (Elt Ideal)) {X W : A5} (hX : Ent (V main_v500 : FVec Ideal S128x32x10x10x10 .f32) (pad1 8 X))
    (hW : Ent (V main_arg9 : FVec Ideal S3x3x3x32x32 .f32) W) :
    Ent (after (seg 553 164) V main_v663 : FVec Ideal S128x32x8x8x8 .f32) (cv 32 8 X W) := by
  intro b o d h w
  after_reads_simp
  pointwise
  rw [cv27]
  iterate 26 refine add_coe ?_ (tapR hW hX _ _ _ _ _ _ _ _)
  exact tapR hW hX _ _ _ _ _ _ _ _

set_option maxHeartbeats 8000000 in
/-- The 27 taps of side 16. -/
theorem taps3 (V : Valuation τ sig (Elt Ideal)) {X W : A5} (hX : Ent (V main_v717 : FVec Ideal S128x16x18x18x18 .f32) (pad1 16 X))
    (hW : Ent (V main_arg11 : FVec Ideal S3x3x3x16x16 .f32) W) :
    Ent (after (seg 787 164) V main_v880 : FVec Ideal S128x16x16x16x16 .f32) (cv 16 16 X W) := by
  intro b o d h w
  after_reads_simp
  pointwise
  rw [cv27]
  iterate 26 refine add_coe ?_ (tapR hW hX _ _ _ _ _ _ _ _)
  exact tapR hW hX _ _ _ _ _ _ _ _

end Cert.RefRun
end
-- ==== Proof.RefEnds.lean ====
module

public import proofs.«01_k».proof.Proof.RefVal

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.Spec Cert.Reals Cert.Net Cert.KV

/-- The dense layer's activations. -/
def dense (N : Net) (b n : ℕ) : ℝ := lrelu (∑ k ∈ Finset.range 256, N.Z b k * N.FW k n + N.FB n)

set_option maxHeartbeats 8000000 in
/-- The dense layer and its rectifier. -/
theorem fc {N : Net} (V : Valuation τ sig (Elt Ideal))
    (h0 : ∀ i j, (V main_arg0 : FVec Ideal S128x256 .f32) (ix2 i j) = ((N.Z i j : ℝ) : EReal))
    (h1 : ∀ i j, (V main_arg1 : FVec Ideal S256x2048 .f32) (ix2 i j) = ((N.FW i j : ℝ) : EReal))
    (h2 : ∀ i, (V main_arg2 : FVec Ideal S2048 .f32) (ix1 i) = ((N.FB i : ℝ) : EReal)) (b : Fin 128) (o : Fin 2048) :
    (after (seg 0 11) V main_v8 : FVec Ideal S128x2048 .f32) (ix2 b o) = ((dense N b o : ℝ) : EReal) := by
  after_reads_simp
  simp only [TRef.toBuf, TRef.ofBuf, cast_eq]
  pointwise
  rw [h2 o, sum_coe (fun k => N.Z b k * N.FW k o) (fun k => by rw [h0, h1, EReal.coe_mul]), ← EReal.coe_add, lit_slope, lrelu_coe]
  rfl

set_option maxHeartbeats 8000000 in
/-- The first convolution, a contraction of the dense layer's activations with the inner taps. -/
theorem init {N : Net} (V : Valuation τ sig (Elt Ideal))
    (h : ∀ (b : Fin 128) (n : Fin 2048), (V main_v8 : FVec Ideal S128x2048 .f32) (ix2 b n) = ((dense N b n : ℝ) : EReal))
    (hW : Ent (V main_arg3 : FVec Ideal S3x3x3x256x256 .f32) N.WI) :
    Ent (after (seg 11 4) V main_v12 : FVec Ideal S128x256x1x1x1 .f32) (seed N.Z N.FW N.FB N.wr) := by
  intro b o d e w
  obtain rfl : d = 0 := Subsingleton.elim _ _
  obtain rfl : e = 0 := Subsingleton.elim _ _
  obtain rfl : w = 0 := Subsingleton.elim _ _
  after_reads_simp
  pointwise
  rw [dot4]
  refine sum_coe (fun n => dense N b n * N.wr n o) fun n => ?_
  pointwise
  rw [EReal.coe_mul]
  refine congrArg₂ (· * ·) ((h _ _).trans (congrArg (fun t => ((dense N b t : ℝ) : EReal)) ?_)) ((hW _ _ _ _ _).trans ?_)
  · dsimp only; omega
  · rfl

set_option maxHeartbeats 8000000 in
/-- The last layer: a sum over the channels, the bias and the logistic function. -/
theorem last {N : Net} (V : Valuation τ sig (Elt Ideal)) {X : A5} (hX : Ent (V main_v905 : FVec Ideal S128x16x16x16x16 .f32) X)
    (h12 : ∀ i, (V main_arg12 : FVec Ideal S16x1 .f32) (ix2 i 0) = ((N.WF i : ℝ) : EReal))
    (h13 : (V main_arg13 : FVec Ideal S1 .f32) (ix1 0) = ((N.BF : ℝ) : EReal)) (b : Fin 128) (d h w : Fin 16) :
    (after (seg 983 13) V main_v916 : FVec Ideal S128x1x16x16x16 .f32) (ix5 b 0 d h w)
      = Ideal.logistic ((∑ c ∈ Finset.range 16, X b c d h w * N.WF c + N.BF : ℝ) : EReal) := by
  after_reads_simp
  pointwise
  rw [h13, sum_coe (fun k => X b k d h w * N.WF k) (fun k => by rw [h12, hX, ← EReal.coe_mul, mul_comm]), ← EReal.coe_add]
  rfl

end Cert.RefRun
end
-- ==== Proof.RefChain.lean ====
module

public import proofs.«01_k».proof.Proof.RefRun
public import proofs.«01_k».proof.Proof.RefBn
public import proofs.«01_k».proof.Proof.RefTc
public import proofs.«01_k».proof.Proof.RefPad
public import proofs.«01_k».proof.Proof.RefTaps
public import proofs.«01_k».proof.Proof.RefEnds

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.Spec Cert.Reals Cert.Net Cert.KV

/-- The reference's result, entry by entry, of real arguments. -/
theorem result {V : Valuation τ sig (Elt Ideal)} {N : Net}
    (H : IsNet N (V main_arg0) (V main_arg1) (V main_arg2) (V main_arg3) (V main_arg4) (V main_arg5) (V main_arg6) (V main_arg7)
      (V main_arg8) (V main_arg9) (V main_arg10) (V main_arg11) (V main_arg12) (V main_arg13)) (b : Fin 128) (d h w : Fin 16) :
    (st V 996 main_v916 : FVec Ideal S128x1x16x16x16 .f32) (ix5 b 0 d h w) = Ideal.logistic ((N.out b d h w : ℝ) : EReal) := by
  have A := st_arg V
  have q := fc V H.h0 H.h1 H.h2
  rw [show after (seg 0 11) V = st V 11 from step V 0 11 11 rfl] at q
  have x := init (st V 11) q (by rw [A 11 main_arg3 (by decide)]; exact H.h3)
  rw [step V 11 4 15 rfl] at x
  replace x := bn0 (st V 15) x
  rw [step V 15 32 47 rfl] at x
  replace x := tconv0 (st V 47) x (by rw [A 47 main_arg4 (by decide)]; exact H.h4)
  rw [step V 47 3 50 rfl] at x
  replace x := bn1 (st V 50) x
  rw [step V 50 32 82 rfl] at x
  replace x := border0 (st V 82) x
  rw [step V 82 3 85 rfl] at x
  replace x := taps0 (st V 85) x (by rw [A 85 main_arg5 (by decide)]; exact H.h5)
  rw [step V 85 164 249 rfl] at x
  replace x := bn2 (st V 249) x
  rw [step V 249 32 281 rfl] at x
  replace x := tconv1 (st V 281) x (by rw [A 281 main_arg6 (by decide)]; exact H.h6)
  rw [step V 281 3 284 rfl] at x
  replace x := bn3 (st V 284) x
  rw [step V 284 32 316 rfl] at x
  replace x := border1 (st V 316) x
  rw [step V 316 3 319 rfl] at x
  replace x := taps1 (st V 319) x (by rw [A 319 main_arg7 (by decide)]; exact H.h7)
  rw [step V 319 164 483 rfl] at x
  replace x := bn4 (st V 483) x
  rw [step V 483 32 515 rfl] at x
  replace x := tconv2 (st V 515) x (by rw [A 515 main_arg8 (by decide)]; exact H.h8)
  rw [step V 515 3 518 rfl] at x
  replace x := bn5 (st V 518) x
  rw [step V 518 32 550 rfl] at x
  replace x := border2 (st V 550) x
  rw [step V 550 3 553 rfl] at x
  replace x := taps2 (st V 553) x (by rw [A 553 main_arg9 (by decide)]; exact H.h9)
  rw [step V 553 164 717 rfl] at x
  replace x := bn6 (st V 717) x
  rw [step V 717 32 749 rfl] at x
  replace x := tconv3 (st V 749) x (by rw [A 749 main_arg10 (by decide)]; exact H.h10)
  rw [step V 749 3 752 rfl] at x
  replace x := bn7 (st V 752) x
  rw [step V 752 32 784 rfl] at x
  replace x := border3 (st V 784) x
  rw [step V 784 3 787 rfl] at x
  replace x := taps3 (st V 787) x (by rw [A 787 main_arg11 (by decide)]; exact H.h11)
  rw [step V 787 164 951 rfl] at x
  replace x := bn8 (st V 951) x
  rw [step V 951 32 983 rfl] at x
  have y := last (N := N) (st V 983) x (by rw [A 983 main_arg12 (by decide)]; exact H.h12)
    (by rw [A 983 main_arg13 (by decide)]; exact H.h13) b d h w
  rw [step V 983 13 996 rfl] at y
  exact y

end Cert.RefRun
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_finite
public import proofs.«01_k».proof.Proof.Finite
public import proofs.«01_k».proof.Proof.KRun
public import proofs.«01_k».proof.Proof.RefChain

@[expose] public section

noncomputable section

namespace Cert.Proof

open Idealize.ShloMosaic Idealize.ShloMosaic.TcCoe Idealize.SL.Sem Idealize.ShloMosaic.StableHlo

attribute [local instance] Cert.Kernel.Gen.facts Cert.KernelIdeal.Gen.facts Cert.ReferenceIdeal.Gen.facts Cert.Pre_finite.Gen.facts

/-- The reference runs, keeps its arguments and leaves every semaphore at zero. -/
theorem ref_frame : Cert.quiescent_ReferenceIdeal := fun m g _ =>
  θ_run_mono (Cert.RefRun.run m g) (fun _ h => ⟨fun c => ⟨
    (h.1 c Cert.ReferenceIdeal.main_arg0).trans (Cert.RefRun.st_arg _ _ Cert.ReferenceIdeal.main_arg0 (by decide)),
    (h.1 c Cert.ReferenceIdeal.main_arg1).trans (Cert.RefRun.st_arg _ _ Cert.ReferenceIdeal.main_arg1 (by decide)),
    (h.1 c Cert.ReferenceIdeal.main_arg2).trans (Cert.RefRun.st_arg _ _ Cert.ReferenceIdeal.main_arg2 (by decide)),
    (h.1 c Cert.ReferenceIdeal.main_arg3).trans (Cert.RefRun.st_arg _ _ Cert.ReferenceIdeal.main_arg3 (by decide)),
    (h.1 c Cert.ReferenceIdeal.main_arg4).trans (Cert.RefRun.st_arg _ _ Cert.ReferenceIdeal.main_arg4 (by decide)),
    (h.1 c Cert.ReferenceIdeal.main_arg5).trans (Cert.RefRun.st_arg _ _ Cert.ReferenceIdeal.main_arg5 (by decide)),
    (h.1 c Cert.ReferenceIdeal.main_arg6).trans (Cert.RefRun.st_arg _ _ Cert.ReferenceIdeal.main_arg6 (by decide)),
    (h.1 c Cert.ReferenceIdeal.main_arg7).trans (Cert.RefRun.st_arg _ _ Cert.ReferenceIdeal.main_arg7 (by decide)),
    (h.1 c Cert.ReferenceIdeal.main_arg8).trans (Cert.RefRun.st_arg _ _ Cert.ReferenceIdeal.main_arg8 (by decide)),
    (h.1 c Cert.ReferenceIdeal.main_arg9).trans (Cert.RefRun.st_arg _ _ Cert.ReferenceIdeal.main_arg9 (by decide)),
    (h.1 c Cert.ReferenceIdeal.main_arg10).trans (Cert.RefRun.st_arg _ _ Cert.ReferenceIdeal.main_arg10 (by decide)),
    (h.1 c Cert.ReferenceIdeal.main_arg11).trans (Cert.RefRun.st_arg _ _ Cert.ReferenceIdeal.main_arg11 (by decide)),
    (h.1 c Cert.ReferenceIdeal.main_arg12).trans (Cert.RefRun.st_arg _ _ Cert.ReferenceIdeal.main_arg12 (by decide)),
    (h.1 c Cert.ReferenceIdeal.main_arg13).trans (Cert.RefRun.st_arg _ _ Cert.ReferenceIdeal.main_arg13 (by decide))⟩, h.2⟩)

/-- Every index of the result is a batch index and three coordinates: its second axis has one entry. -/
theorem idx_result (i : Cert.KernelIdeal.S128x1x16x16x16.Idx) :
    i = ix5 (i 0 : Fin 128) (0 : Fin 1) (i 2 : Fin 16) (i 3 : Fin 16) (i 4 : Fin 16) := by
  funext k
  match k with
  | ⟨0, _⟩ => rfl
  | ⟨1, _⟩ => exact Subsingleton.elim (α := Fin 1) _ _
  | ⟨2, _⟩ => rfl
  | ⟨3, _⟩ => rfl
  | ⟨4, _⟩ => rfl

/-- From finite arguments the idealized kernel and the reference return the same array. -/
theorem same : Cert.algebraic_KernelIdeal_ReferenceIdeal_pre_finite := by
  intro m g m' g' hp he
  refine ⟨fun c => Cert.KernelIdeal.Gen.W20 m g c Cert.KernelIdeal.main_v395, ?_, ?_⟩
  · refine θ_run_mono (Cert.KV.run m g) (fun r h c => ⟨h c _ (Cert.KernelIdeal.Gen.mem_uc Cert.KernelIdeal.main_v395 (by decide)), ?_⟩)
    exact ⟨
      (h c _ (Cert.KernelIdeal.Gen.mem_uc Cert.KernelIdeal.main_arg0 (by decide))).trans (Cert.KernelIdeal.Gen.W20_main_arg0 m g c),
      (h c _ (Cert.KernelIdeal.Gen.mem_uc Cert.KernelIdeal.main_arg1 (by decide))).trans (Cert.KernelIdeal.Gen.W20_main_arg1 m g c),
      (h c _ (Cert.KernelIdeal.Gen.mem_uc Cert.KernelIdeal.main_arg2 (by decide))).trans (Cert.KernelIdeal.Gen.W20_main_arg2 m g c),
      (h c _ (Cert.KernelIdeal.Gen.mem_uc Cert.KernelIdeal.main_arg3 (by decide))).trans (Cert.KernelIdeal.Gen.W20_main_arg3 m g c),
      (h c _ (Cert.KernelIdeal.Gen.mem_uc Cert.KernelIdeal.main_arg4 (by decide))).trans (Cert.KernelIdeal.Gen.W20_main_arg4 m g c),
      (h c _ (Cert.KernelIdeal.Gen.mem_uc Cert.KernelIdeal.main_arg5 (by decide))).trans (Cert.KernelIdeal.Gen.W20_main_arg5 m g c),
      (h c _ (Cert.KernelIdeal.Gen.mem_uc Cert.KernelIdeal.main_arg6 (by decide))).trans (Cert.KernelIdeal.Gen.W20_main_arg6 m g c),
      (h c _ (Cert.KernelIdeal.Gen.mem_uc Cert.KernelIdeal.main_arg7 (by decide))).trans (Cert.KernelIdeal.Gen.W20_main_arg7 m g c),
      (h c _ (Cert.KernelIdeal.Gen.mem_uc Cert.KernelIdeal.main_arg8 (by decide))).trans (Cert.KernelIdeal.Gen.W20_main_arg8 m g c),
      (h c _ (Cert.KernelIdeal.Gen.mem_uc Cert.KernelIdeal.main_arg9 (by decide))).trans (Cert.KernelIdeal.Gen.W20_main_arg9 m g c),
      (h c _ (Cert.KernelIdeal.Gen.mem_uc Cert.KernelIdeal.main_arg10 (by decide))).trans (Cert.KernelIdeal.Gen.W20_main_arg10 m g c),
      (h c _ (Cert.KernelIdeal.Gen.mem_uc Cert.KernelIdeal.main_arg11 (by decide))).trans (Cert.KernelIdeal.Gen.W20_main_arg11 m g c),
      (h c _ (Cert.KernelIdeal.Gen.mem_uc Cert.KernelIdeal.main_arg12 (by decide))).trans (Cert.KernelIdeal.Gen.W20_main_arg12 m g c),
      (h c _ (Cert.KernelIdeal.Gen.mem_uc Cert.KernelIdeal.main_arg13 (by decide))).trans (Cert.KernelIdeal.Gen.W20_main_arg13 m g c)⟩
  · refine θ_run_mono (Cert.RefRun.run m' g') (fun r h c => ⟨(h.1 c Cert.ReferenceIdeal.main_v916).trans ?_, ?_⟩)
    · obtain ⟨N, hN⟩ := Cert.KV.exists_net (hp c)
      obtain ⟨e0, e1, e2, e3, e4, e5, e6, e7, e8, e9, e10, e11, e12, e13⟩ := he c
      have hN' : Cert.Net.IsNet N (launchContents m' c Cert.ReferenceIdeal.main_arg0) (launchContents m' c Cert.ReferenceIdeal.main_arg1) (launchContents m' c Cert.ReferenceIdeal.main_arg2) (launchContents m' c Cert.ReferenceIdeal.main_arg3) (launchContents m' c Cert.ReferenceIdeal.main_arg4) (launchContents m' c Cert.ReferenceIdeal.main_arg5) (launchContents m' c Cert.ReferenceIdeal.main_arg6) (launchContents m' c Cert.ReferenceIdeal.main_arg7) (launchContents m' c Cert.ReferenceIdeal.main_arg8) (launchContents m' c Cert.ReferenceIdeal.main_arg9) (launchContents m' c Cert.ReferenceIdeal.main_arg10) (launchContents m' c Cert.ReferenceIdeal.main_arg11) (launchContents m' c Cert.ReferenceIdeal.main_arg12) (launchContents m' c Cert.ReferenceIdeal.main_arg13) := by
        have h := hN
        rw [← e0, ← e1, ← e2, ← e3, ← e4, ← e5, ← e6, ← e7, ← e8, ← e9, ← e10, ← e11, ← e12, ← e13] at h
        exact h
      funext i
      rw [idx_result i]
      exact (Cert.RefRun.result hN' _ _ _ _).trans (Cert.KV.result (m := m) (ρ := g) (c := c) hN _ _ _ _).symm
    · exact ⟨
      (h.1 c Cert.ReferenceIdeal.main_arg0).trans (Cert.RefRun.st_arg _ _ Cert.ReferenceIdeal.main_arg0 (by decide)),
      (h.1 c Cert.ReferenceIdeal.main_arg1).trans (Cert.RefRun.st_arg _ _ Cert.ReferenceIdeal.main_arg1 (by decide)),
      (h.1 c Cert.ReferenceIdeal.main_arg2).trans (Cert.RefRun.st_arg _ _ Cert.ReferenceIdeal.main_arg2 (by decide)),
      (h.1 c Cert.ReferenceIdeal.main_arg3).trans (Cert.RefRun.st_arg _ _ Cert.ReferenceIdeal.main_arg3 (by decide)),
      (h.1 c Cert.ReferenceIdeal.main_arg4).trans (Cert.RefRun.st_arg _ _ Cert.ReferenceIdeal.main_arg4 (by decide)),
      (h.1 c Cert.ReferenceIdeal.main_arg5).trans (Cert.RefRun.st_arg _ _ Cert.ReferenceIdeal.main_arg5 (by decide)),
      (h.1 c Cert.ReferenceIdeal.main_arg6).trans (Cert.RefRun.st_arg _ _ Cert.ReferenceIdeal.main_arg6 (by decide)),
      (h.1 c Cert.ReferenceIdeal.main_arg7).trans (Cert.RefRun.st_arg _ _ Cert.ReferenceIdeal.main_arg7 (by decide)),
      (h.1 c Cert.ReferenceIdeal.main_arg8).trans (Cert.RefRun.st_arg _ _ Cert.ReferenceIdeal.main_arg8 (by decide)),
      (h.1 c Cert.ReferenceIdeal.main_arg9).trans (Cert.RefRun.st_arg _ _ Cert.ReferenceIdeal.main_arg9 (by decide)),
      (h.1 c Cert.ReferenceIdeal.main_arg10).trans (Cert.RefRun.st_arg _ _ Cert.ReferenceIdeal.main_arg10 (by decide)),
      (h.1 c Cert.ReferenceIdeal.main_arg11).trans (Cert.RefRun.st_arg _ _ Cert.ReferenceIdeal.main_arg11 (by decide)),
      (h.1 c Cert.ReferenceIdeal.main_arg12).trans (Cert.RefRun.st_arg _ _ Cert.ReferenceIdeal.main_arg12 (by decide)),
      (h.1 c Cert.ReferenceIdeal.main_arg13).trans (Cert.RefRun.st_arg _ _ Cert.ReferenceIdeal.main_arg13 (by decide))⟩

/-- Everything claimed: the frames, that the idealization preserves the kernel, and the equal results. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, ref_frame, fun m g _ => ref_frame m g trivial, trivial, same⟩

end Cert.Proof

end
